-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_scales_ok [hPre_scales_ok : Cert.Pre_scales_ok.Facts] (m : (ℓ : Loc Cert.KernelIdeal.nD Cert.KernelIdeal.τ Cert.KernelIdeal.sig) → Buf (Elt Ideal) ℓ) : Prop :=
  ∀ c : Dev Cert.KernelIdeal.nD,
    (Cert.Pre_scales_ok.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_scales_ok [hPre_scales_ok : Cert.Pre_scales_ok.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_scales_ok.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_scales_ok [hKernelIdeal : Cert.KernelIdeal.Facts] [hPre_scales_ok : Cert.Pre_scales_ok.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_scales_ok m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_scales_ok [hReferenceIdeal : Cert.ReferenceIdeal.Facts] [hPre_scales_ok : Cert.Pre_scales_ok.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_scales_ok m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  IdealRules.named_const.Statement Cert.KernelIdeal.κ "inv_softcap" .f32 0x3E4CCCCD#32 ((5⁻¹ : ℝ) : EReal)
  ∧ IdealRules.named_const.Statement Cert.KernelIdeal.κ "log2e" .f32 0x3FB8AA3B#32 (((Real.log 2)⁻¹ : ℝ) : EReal)
  ∧ IdealRules.named_const.Statement Cert.KernelIdeal.κ "softcap_log2e" .f32 0x40E6D4CA#32 ((5 * (Real.log 2)⁻¹ : ℝ) : EReal)

def algebraic_KernelIdeal_ReferenceIdeal_pre_scales_ok [hKernelIdeal : Cert.KernelIdeal.Facts] [hReferenceIdeal : Cert.ReferenceIdeal.Facts] [hPre_scales_ok : Cert.Pre_scales_ok.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_scales_ok m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v13)) (v1 : (c : Dev Cert.KernelIdeal.nD) → Buf (Elt Ideal) ((c.tc : Thread Cert.KernelIdeal.nD Cert.KernelIdeal.τ).loc Cert.KernelIdeal.main_v15)) (v2 : (c : Dev Cert.KernelIdeal.nD) → Buf (Elt Ideal) ((c.tc : Thread Cert.KernelIdeal.nD Cert.KernelIdeal.τ).loc Cert.KernelIdeal.main_v17)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v13) = v0 c
          ∧ r.2.mem ((c.tc : Thread Cert.KernelIdeal.nD Cert.KernelIdeal.τ).loc Cert.KernelIdeal.main_v15) = v1 c
          ∧ r.2.mem ((c.tc : Thread Cert.KernelIdeal.nD Cert.KernelIdeal.τ).loc Cert.KernelIdeal.main_v17) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v93) = v0 c
          ∧ r.2.mem ((c.tc : Thread Cert.ReferenceIdeal.nD Cert.ReferenceIdeal.τ).loc Cert.ReferenceIdeal.main_v95) = v1 c
          ∧ r.2.mem ((c.tc : Thread Cert.ReferenceIdeal.nD Cert.ReferenceIdeal.τ).loc Cert.ReferenceIdeal.main_v97) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_scales_ok : Cert.Pre_scales_ok.Facts),
    quiescent_Kernel (hKernel := hKernel)
    ∧ quiescent_KernelIdeal (hKernelIdeal := hKernelIdeal)
    ∧ quiescent_KernelIdeal_pre_scales_ok (hKernelIdeal := hKernelIdeal) (hPre_scales_ok := hPre_scales_ok)
    ∧ quiescent_ReferenceIdeal (hReferenceIdeal := hReferenceIdeal)
    ∧ quiescent_ReferenceIdeal_pre_scales_ok (hReferenceIdeal := hReferenceIdeal) (hPre_scales_ok := hPre_scales_ok)
    ∧ preserves_Kernel_KernelIdeal
    ∧ algebraic_KernelIdeal_ReferenceIdeal_pre_scales_ok (hKernelIdeal := hKernelIdeal) (hReferenceIdeal := hReferenceIdeal) (hPre_scales_ok := hPre_scales_ok)
-- ==== Pre_scales_ok.lean ====
abbrev S1x32768x8x256 : Shape := ⟨4, ![1, 32768, 8, 256]⟩
abbrev S8 : Shape := ⟨1, ![8]⟩
abbrev S1x32768x4x256 : Shape := ⟨4, ![1, 32768, 4, 256]⟩
abbrev S4 : Shape := ⟨1, ![4]⟩
abbrev S1x8x32768 : Shape := ⟨3, ![1, 8, 32768]⟩
abbrev S_ : Shape := ⟨0, ![]⟩

class Facts : Prop where
  bcast_S_S8 : S_.BroadcastsInDim S8 (![] : Fin 0 → Fin S8.rank)
  reducesTo_S8_S_d0 : S8.ReducesTo [0] S_
  h_S_ : 0 < S_.numel

variable [Facts]

def fn {F : FTy → Type} [FloatOps F] (main_arg0 : FVec F S1x32768x8x256 .fp8e4m3) (main_arg1 : FVec F S8 .f32) (main_arg2 : FVec F S1x32768x4x256 .fp8e4m3) (main_arg3 : FVec F S4 .f32) (main_arg4 : FVec F S1x32768x4x256 .fp8e4m3) (main_arg5 : FVec F S4 .f32) (main_arg6 : FVec F S1x32768x8x256 .fp8e5m2) (main_arg7 : FVec F S8 .f32) (main_arg8 : FVec F S1x32768x8x256 .bf16) (main_arg9 : FVec F S1x8x32768 .f32) : IVec S_ 1 :=
  let main_cst : FVec F S_ .f32 := constant S_ .f32 0x00000000#32
  let main_v0 : FVec F S8 .f32 := broadcastInDim S8 ![] bcast_S_S8 main_cst
  let main_v1 : IVec S8 1 := cmpf .oge main_arg1 main_v0
  let main_cst_0 : FVec F S_ .f32 := constant S_ .f32 0x7F800000#32
  let main_v2 : FVec F S8 .f32 := broadcastInDim S8 ![] bcast_S_S8 main_cst_0
  let main_v3 : IVec S8 1 := cmpf .olt main_arg1 main_v2
  let main_v4 : IVec S8 1 := andi main_v1 main_v3
  let main_c : IVec S_ 1 := constantI S_ 1 1#1
  let main_v5 : IVec S_ 1 := (fun x v => Host.reduce IntOp.andi x v reducesTo_S8_S_d0 h_S_) main_v4 main_c
  let main_cst_1 : FVec F S_ .f32 := constant S_ .f32 0x00000000#32
  let main_v6 : FVec F S8 .f32 := broadcastInDim S8 ![] bcast_S_S8 main_cst_1
  let main_v7 : IVec S8 1 := cmpf .oge main_arg7 main_v6
  let main_cst_2 : FVec F S_ .f32 := constant S_ .f32 0x7F800000#32
  let main_v8 : FVec F S8 .f32 := broadcastInDim S8 ![] bcast_S_S8 main_cst_2
  let main_v9 : IVec S8 1 := cmpf .olt main_arg7 main_v8
  let main_v10 : IVec S8 1 := andi main_v7 main_v9
  let main_c_3 : IVec S_ 1 := constantI S_ 1 1#1
  let main_v11 : IVec S_ 1 := (fun x v => Host.reduce IntOp.andi x v reducesTo_S8_S_d0 h_S_) main_v10 main_c_3
  let main_v12 : IVec S_ 1 := andi main_v5 main_v11
  main_v12
-- ==== Kernel.lean ====
abbrev S1x32768x8x256 : Shape := ⟨4, ![1, 32768, 8, 256]⟩
abbrev S8 : Shape := ⟨1, ![8]⟩
abbrev S1x32768x4x256 : Shape := ⟨4, ![1, 32768, 4, 256]⟩
abbrev S4 : Shape := ⟨1, ![4]⟩
abbrev S1x8x32768 : Shape := ⟨3, ![1, 8, 32768]⟩
abbrev S32768x8x256 : Shape := ⟨3, ![32768, 8, 256]⟩
abbrev S8x32768x256 : Shape := ⟨3, ![8, 32768, 256]⟩
abbrev S32768x4x256 : Shape := ⟨3, ![32768, 4, 256]⟩
abbrev S4x32768x256 : Shape := ⟨3, ![4, 32768, 256]⟩
abbrev S4x2x32768 : Shape := ⟨3, ![4, 2, 32768]⟩
abbrev S2x256x256 : Shape := ⟨3, ![2, 256, 256]⟩
abbrev S1x256x256 : Shape := ⟨3, ![1, 256, 256]⟩
abbrev S1x2x256 : Shape := ⟨3, ![1, 2, 256]⟩
abbrev S5x256x256 : Shape := ⟨3, ![5, 256, 256]⟩
abbrev S256x256 : Shape := ⟨2, ![256, 256]⟩
abbrev S1 : Shape := ⟨1, ![1]⟩
abbrev S256 : Shape := ⟨1, ![256]⟩
abbrev S1x256 : Shape := ⟨2, ![1, 256]⟩
abbrev S1x1x256 : Shape := ⟨3, ![1, 1, 256]⟩

abbrev nBuf : Space → Nat
  | .hbm => 30
  | .vmem => 22
  | .smem => 4
  | _ => 0

abbrev bufTy : (tb : Table) → Fin (tcTables nBuf tb) → BufTy
  | .hbm, ⟨0, _⟩ => ⟨S1x32768x8x256, .fp8e4m3⟩
  | .hbm, ⟨1, _⟩ => ⟨S8, .f32⟩
  | .hbm, ⟨2, _⟩ => ⟨S1x32768x4x256, .fp8e4m3⟩
  | .hbm, ⟨3, _⟩ => ⟨S4, .f32⟩
  | .hbm, ⟨4, _⟩ => ⟨S1x32768x4x256, .fp8e4m3⟩
  | .hbm, ⟨5, _⟩ => ⟨S4, .f32⟩
  | .hbm, ⟨6, _⟩ => ⟨S1x32768x8x256, .fp8e5m2⟩
  | .hbm, ⟨7, _⟩ => ⟨S8, .f32⟩
  | .hbm, ⟨8, _⟩ => ⟨S1x32768x8x256, .bf16⟩
  | .hbm, ⟨9, _⟩ => ⟨S1x8x32768, .f32⟩
  | .hbm, ⟨10, _⟩ => ⟨S32768x8x256, .fp8e4m3⟩
  | .hbm, ⟨11, _⟩ => ⟨S8x32768x256, .fp8e4m3⟩
  | .hbm, ⟨12, _⟩ => ⟨S32768x4x256, .fp8e4m3⟩
  | .hbm, ⟨13, _⟩ => ⟨S4x32768x256, .fp8e4m3⟩
  | .hbm, ⟨14, _⟩ => ⟨S32768x4x256, .fp8e4m3⟩
  | .hbm, ⟨15, _⟩ => ⟨S4x32768x256, .fp8e4m3⟩
  | .hbm, ⟨16, _⟩ => ⟨S32768x8x256, .fp8e5m2⟩
  | .hbm, ⟨17, _⟩ => ⟨S8x32768x256, .fp8e5m2⟩
  | .hbm, ⟨18, _⟩ => ⟨S32768x8x256, .bf16⟩
  | .hbm, ⟨19, _⟩ => ⟨S8x32768x256, .bf16⟩
  | .hbm, ⟨20, _⟩ => ⟨S4x2x32768, .f32⟩
  | .hbm, ⟨21, _⟩ => ⟨S8x32768x256, .bf16⟩
  | .hbm, ⟨22, _⟩ => ⟨S4x32768x256, .bf16⟩
  | .hbm, ⟨23, _⟩ => ⟨S4x32768x256, .bf16⟩
  | .hbm, ⟨24, _⟩ => ⟨S32768x8x256, .bf16⟩
  | .hbm, ⟨25, _⟩ => ⟨S1x32768x8x256, .bf16⟩
  | .hbm, ⟨26, _⟩ => ⟨S32768x4x256, .bf16⟩
  | .hbm, ⟨27, _⟩ => ⟨S1x32768x4x256, .bf16⟩
  | .hbm, ⟨28, _⟩ => ⟨S32768x4x256, .bf16⟩
  | .hbm, ⟨29, _⟩ => ⟨S1x32768x4x256, .bf16⟩
  | .local _ .vmem, ⟨0, _⟩ => ⟨S2x256x256, .fp8e4m3⟩
  | .local _ .vmem, ⟨1, _⟩ => ⟨S2x256x256, .fp8e4m3⟩
  | .local _ .vmem, ⟨2, _⟩ => ⟨S1x256x256, .fp8e4m3⟩
  | .local _ .vmem, ⟨3, _⟩ => ⟨S1x256x256, .fp8e4m3⟩
  | .local _ .vmem, ⟨4, _⟩ => ⟨S1x256x256, .fp8e4m3⟩
  | .local _ .vmem, ⟨5, _⟩ => ⟨S1x256x256, .fp8e4m3⟩
  | .local _ .vmem, ⟨6, _⟩ => ⟨S2x256x256, .fp8e5m2⟩
  | .local _ .vmem, ⟨7, _⟩ => ⟨S2x256x256, .fp8e5m2⟩
  | .local _ .vmem, ⟨8, _⟩ => ⟨S2x256x256, .bf16⟩
  | .local _ .vmem, ⟨9, _⟩ => ⟨S2x256x256, .bf16⟩
  | .local _ .vmem, ⟨10, _⟩ => ⟨S1x2x256, .f32⟩
  | .local _ .vmem, ⟨11, _⟩ => ⟨S1x2x256, .f32⟩
  | .local _ .vmem, ⟨12, _⟩ => ⟨S2x256x256, .bf16⟩
  | .local _ .vmem, ⟨13, _⟩ => ⟨S2x256x256, .bf16⟩
  | .local _ .vmem, ⟨14, _⟩ => ⟨S1x256x256, .bf16⟩
  | .local _ .vmem, ⟨15, _⟩ => ⟨S1x256x256, .bf16⟩
  | .local _ .vmem, ⟨16, _⟩ => ⟨S1x256x256, .bf16⟩
  | .local _ .vmem, ⟨17, _⟩ => ⟨S1x256x256, .bf16⟩
  | .local _ .vmem, ⟨18, _⟩ => ⟨S5x256x256, .fp8e4m3⟩
  | .local _ .vmem, ⟨19, _⟩ => ⟨S5x256x256, .fp8e4m3⟩
  | .local _ .vmem, ⟨20, _⟩ => ⟨S5x256x256, .f32⟩
  | .local _ .vmem, ⟨21, _⟩ => ⟨S5x256x256, .f32⟩
  | .local _ .smem, ⟨0, _⟩ => ⟨S8, .f32⟩
  | .local _ .smem, ⟨1, _⟩ => ⟨S4, .f32⟩
  | .local _ .smem, ⟨2, _⟩ => ⟨S4, .f32⟩
  | .local _ .smem, ⟨3, _⟩ => ⟨S8, .f32⟩
  | _, _ => ⟨S1x32768x8x256, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .smem, ⟨0, _⟩ => true
  | .smem, ⟨1, _⟩ => true
  | .smem, ⟨2, _⟩ => true
  | .smem, ⟨3, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_v4 : Ref sig .tc := ⟨.hbm, 14, rfl⟩
abbrev main_v5 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11_0 : Ref sig .tc := ⟨.hbm, 21, rfl⟩
abbrev main_v11_1 : Ref sig .tc := ⟨.hbm, 22, rfl⟩
abbrev main_v11_2 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev cc0_stg4_0 : Ref sig .tc := ⟨.vmem, 0, rfl⟩
abbrev cc0_stg4_1 : Ref sig .tc := ⟨.vmem, 1, rfl⟩
abbrev cc0_stg5_0 : Ref sig .tc := ⟨.vmem, 2, rfl⟩
abbrev cc0_stg5_1 : Ref sig .tc := ⟨.vmem, 3, rfl⟩
abbrev cc0_stg6_0 : Ref sig .tc := ⟨.vmem, 4, rfl⟩
abbrev cc0_stg6_1 : Ref sig .tc := ⟨.vmem, 5, rfl⟩
abbrev cc0_stg7_0 : Ref sig .tc := ⟨.vmem, 6, rfl⟩
abbrev cc0_stg7_1 : Ref sig .tc := ⟨.vmem, 7, rfl⟩
abbrev cc0_stg8_0 : Ref sig .tc := ⟨.vmem, 8, rfl⟩
abbrev cc0_stg8_1 : Ref sig .tc := ⟨.vmem, 9, rfl⟩
abbrev cc0_stg9_0 : Ref sig .tc := ⟨.vmem, 10, rfl⟩
abbrev cc0_stg9_1 : Ref sig .tc := ⟨.vmem, 11, rfl⟩
abbrev cc0_stg10_0 : Ref sig .tc := ⟨.vmem, 12, rfl⟩
abbrev cc0_stg10_1 : Ref sig .tc := ⟨.vmem, 13, rfl⟩
abbrev cc0_stg11_0 : Ref sig .tc := ⟨.vmem, 14, rfl⟩
abbrev cc0_stg11_1 : Ref sig .tc := ⟨.vmem, 15, rfl⟩
abbrev cc0_stg12_0 : Ref sig .tc := ⟨.vmem, 16, rfl⟩
abbrev cc0_stg12_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_scratch3 : Ref sig .tc := ⟨.vmem, 21, rfl⟩
abbrev cc0_stg0_0 : Ref sig .tc := ⟨.smem, 0, rfl⟩
abbrev cc0_stg1_0 : Ref sig .tc := ⟨.smem, 1, rfl⟩
abbrev cc0_stg2_0 : Ref sig .tc := ⟨.smem, 2, rfl⟩
abbrev cc0_stg3_0 : Ref sig .tc := ⟨.smem, 3, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem4_1 : DmaSem sig := 5
abbrev cc0_sem5_0 : DmaSem sig := 6
abbrev cc0_sem5_1 : DmaSem sig := 7
abbrev cc0_sem6_0 : DmaSem sig := 8
abbrev cc0_sem6_1 : DmaSem sig := 9
abbrev cc0_sem7_0 : DmaSem sig := 10
abbrev cc0_sem7_1 : DmaSem sig := 11
abbrev cc0_sem8_0 : DmaSem sig := 12
abbrev cc0_sem8_1 : DmaSem sig := 13
abbrev cc0_sem9_0 : DmaSem sig := 14
abbrev cc0_sem9_1 : DmaSem sig := 15
abbrev cc0_sem10_0 : DmaSem sig := 16
abbrev cc0_sem10_1 : DmaSem sig := 17
abbrev cc0_sem11_0 : DmaSem sig := 18
abbrev cc0_sem11_1 : DmaSem sig := 19
abbrev cc0_sem12_0 : DmaSem sig := 20
abbrev cc0_sem12_1 : DmaSem sig := 21

abbrev nD : Nat := 1
abbrev τ : Topo := Topo.v7x

variable {F : FTy → Type} [FloatOps F]

abbrev grid0 : Pipeline.Grid := ⟨2, ![4, 132], ![false, false]⟩

def k0_cond2 (i : grid0.Coords) : BitVec 1 :=
  let arg1 : BitVec 32 := BitVec.ofNat 32 (i 1).val
  let c128_i32 : BitVec 32 := 128#32
  let v4 : BitVec 1 := Scalar.cmpi .slt arg1 c128_i32
  let v5 : BitVec 32 := Scalar.extui v4
  let c0_i32_1 : BitVec 32 := 0#32
  let v6 : BitVec 1 := Scalar.cmpi .ne v5 c0_i32_1
  v6

def k0_off1 (i : grid0.Coords) : Fin 3 → Nat :=
  let arg1 : BitVec 32 := BitVec.ofNat 32 (i 1).val
  let c5_i32 : BitVec 32 := 5#32
  let v3 : BitVec 32 := Scalar.remsi arg1 c5_i32
  let v25 : Index := Scalar.indexCast v3
  let c0_15 : Index := 0#32
  let c0_16 : Index := 0#32
  ![v25.toNat, 0, 0]
def k0_off2 (i : grid0.Coords) : Fin 1 → Nat :=
  let arg0 : BitVec 32 := BitVec.ofNat 32 (i 0).val
  let v47 : Index := Scalar.indexCast arg0
  ![v47.toNat]
def k0_off3 (i : grid0.Coords) (c0_i32_28 : BitVec 32) : Fin 1 → Nat :=
  let arg0 : BitVec 32 := BitVec.ofNat 32 (i 0).val
  let c2_i32 : BitVec 32 := 2#32
  let v50 : BitVec 32 := Scalar.muli arg0 c2_i32
  let v51 : BitVec 32 := Scalar.addi v50 c0_i32_28
  let v58 : Index := Scalar.indexCast v51
  ![v58.toNat]
def k0_off4 (i : grid0.Coords) (c0_i32_46 : BitVec 32) : Fin 3 → Nat :=
  let arg1 : BitVec 32 := BitVec.ofNat 32 (i 1).val
  let c1_i32_45 : BitVec 32 := 1#32
  let v84 : BitVec 32 := Scalar.addi arg1 c1_i32_45
  let v85 : BitVec 32 := Scalar.addi v84 c0_i32_46
  let c5_i32_47 : BitVec 32 := 5#32
  let v86 : BitVec 32 := Scalar.remsi v85 c5_i32_47
  let v87 : Index := Scalar.indexCast v86
  let c0_48 : Index := 0#32
  let c0_49 : Index := 0#32
  ![v87.toNat, 0, 0]
def k0_off5 (i : grid0.Coords) : Fin 3 → Nat :=
  let arg1 : BitVec 32 := BitVec.ofNat 32 (i 1).val
  let c1_i32 : BitVec 32 := 1#32
  let v7 : BitVec 32 := Scalar.addi arg1 c1_i32
  let c5_i32_2 : BitVec 32 := 5#32
  let v8 : BitVec 32 := Scalar.remsi v7 c5_i32_2
  let v9 : Index := Scalar.indexCast v8
  let c0 : Index := 0#32
  let c0_3 : Index := 0#32
  ![v9.toNat, 0, 0]
def cc0_transform_0 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_1 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_2 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_3 (i : grid0.Coords) : Fin 1 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat]

def cc0_transform_4 (i : grid0.Coords) : Fin 3 → Nat :=
  let arg0 : BitVec 32 := BitVec.ofNat 32 (i 0).val
  let arg1 : BitVec 32 := BitVec.ofNat 32 (i 1).val
  let c127_i32 : BitVec 32 := 127#32
  let v0 : BitVec 32 := Scalar.minsi arg1 c127_i32
  let c0_i32 : BitVec 32 := 0#32
  let c0_i32_0 : BitVec 32 := 0#32
  ![arg0.toNat, v0.toNat, c0_i32.toNat]

def cc0_transform_5 (i : grid0.Coords) : Fin 3 → Nat :=
  let arg0 : BitVec 32 := BitVec.ofNat 32 (i 0).val
  let arg1 : BitVec 32 := BitVec.ofNat 32 (i 1).val
  let c127_i32 : BitVec 32 := 127#32
  let v0 : BitVec 32 := Scalar.minsi arg1 c127_i32
  let c0_i32 : BitVec 32 := 0#32
  let c0_i32_0 : BitVec 32 := 0#32
  ![arg0.toNat, v0.toNat, c0_i32.toNat]

def cc0_transform_6 (i : grid0.Coords) : Fin 3 → Nat :=
  let arg0 : BitVec 32 := BitVec.ofNat 32 (i 0).val
  let arg1 : BitVec 32 := BitVec.ofNat 32 (i 1).val
  let c127_i32 : BitVec 32 := 127#32
  let v0 : BitVec 32 := Scalar.minsi arg1 c127_i32
  let c0_i32 : BitVec 32 := 0#32
  let c0_i32_0 : BitVec 32 := 0#32
  ![arg0.toNat, v0.toNat, c0_i32.toNat]

def cc0_transform_7 (i : grid0.Coords) : Fin 3 → Nat :=
  let arg0 : BitVec 32 := BitVec.ofNat 32 (i 0).val
  let arg1 : BitVec 32 := BitVec.ofNat 32 (i 1).val
  let c127_i32 : BitVec 32 := 127#32
  let v0 : BitVec 32 := Scalar.minsi arg1 c127_i32
  let c0_i32 : BitVec 32 := 0#32
  let c0_i32_0 : BitVec 32 := 0#32
  ![arg0.toNat, v0.toNat, c0_i32.toNat]

def cc0_transform_8 (i : grid0.Coords) : Fin 3 → Nat :=
  let arg0 : BitVec 32 := BitVec.ofNat 32 (i 0).val
  let arg1 : BitVec 32 := BitVec.ofNat 32 (i 1).val
  let c127_i32 : BitVec 32 := 127#32
  let v0 : BitVec 32 := Scalar.minsi arg1 c127_i32
  let c0_i32 : BitVec 32 := 0#32
  let c0_i32_0 : BitVec 32 := 0#32
  ![arg0.toNat, v0.toNat, c0_i32.toNat]

def cc0_transform_9 (i : grid0.Coords) : Fin 3 → Nat :=
  let arg0 : BitVec 32 := BitVec.ofNat 32 (i 0).val
  let arg1 : BitVec 32 := BitVec.ofNat 32 (i 1).val
  let c127_i32 : BitVec 32 := 127#32
  let v0 : BitVec 32 := Scalar.minsi arg1 c127_i32
  let c0_i32 : BitVec 32 := 0#32
  let c0_i32_0 : BitVec 32 := 0#32
  ![arg0.toNat, c0_i32.toNat, v0.toNat]

def cc0_transform_10 (i : grid0.Coords) : Fin 3 → Nat :=
  let arg0 : BitVec 32 := BitVec.ofNat 32 (i 0).val
  let arg1 : BitVec 32 := BitVec.ofNat 32 (i 1).val
  let c127_i32 : BitVec 32 := 127#32
  let v0 : BitVec 32 := Scalar.minsi arg1 c127_i32
  let c0_i32 : BitVec 32 := 0#32
  let c0_i32_0 : BitVec 32 := 0#32
  ![arg0.toNat, v0.toNat, c0_i32.toNat]

def cc0_transform_11 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

def cc0_transform_12 (i : grid0.Coords) : Fin 3 → Nat :=
  let arg0 : BitVec 32 := BitVec.ofNat 32 (i 0).val
  let arg1 : BitVec 32 := BitVec.ofNat 32 (i 1).val
  let c4_i32 : BitVec 32 := 4#32
  let v0 : BitVec 32 := Scalar.subi arg1 c4_i32
  let c0_i32 : BitVec 32 := 0#32
  let v1 : BitVec 32 := Scalar.maxsi v0 c0_i32
  let c0_i32_0 : BitVec 32 := 0#32
  let c0_i32_1 : BitVec 32 := 0#32
  ![arg0.toNat, v1.toNat, c0_i32_0.toNat]

abbrev stage0_0 : Fin 1 → Memref sig .tc .smem S8 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .smem S4 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .smem S4 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .smem S8 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 2 → Memref sig .tc .vmem S2x256x256 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x256x256 .fp8e4m3 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x256x256 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x256x256 .fp8e5m2 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]

abbrev stage0_8 : Fin 2 → Memref sig .tc .vmem S2x256x256 .bf16 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true, true]

abbrev stage0_9 : Fin 2 → Memref sig .tc .vmem S1x2x256 .f32 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true]

abbrev stage0_10 : Fin 2 → Memref sig .tc .vmem S2x256x256 .bf16 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true, true]

abbrev stage0_11 : Fin 2 → Memref sig .tc .vmem S1x256x256 .bf16 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]

abbrev stage0_12 : Fin 2 → Memref sig .tc .vmem S1x256x256 .bf16 := fun | 0 => Memref.whole cc0_stg12_0 | 1 => Memref.whole cc0_stg12_1 | ⟨_ + 2, h⟩ => absurd h (Nat.not_lt.2 (Nat.le_add_left _ _))
abbrev sem0_12 : Fin 2 → DmaSem sig := fun | 0 => cc0_sem12_0 | 1 => cc0_sem12_1 | ⟨_ + 2, h⟩ => absurd h (Nat.not_lt.2 (Nat.le_add_left _ _))
abbrev reads0_12 : Fin grid0.rank → Bool := ![true, true]
-- ==== KernelIdeal.lean ====
variable {F : FTy → Type} [FloatOps F] [Named F]
def κ : String → Option EReal := fun
  | "inv_softcap" => some ((5⁻¹ : ℝ) : EReal)
  | "log2e" => some (((Real.log 2)⁻¹ : ℝ) : EReal)
  | "softcap_log2e" => some ((5 * (Real.log 2)⁻¹ : ℝ) : EReal)
  | _ => none
-- ==== ReferenceIdeal.lean ====
abbrev S1x32768x8x256 : Shape := ⟨4, ![1, 32768, 8, 256]⟩
abbrev S8 : Shape := ⟨1, ![8]⟩
abbrev S1x32768x4x256 : Shape := ⟨4, ![1, 32768, 4, 256]⟩
abbrev S4 : Shape := ⟨1, ![4]⟩
abbrev S1x8x32768 : Shape := ⟨3, ![1, 8, 32768]⟩
abbrev S1x32768x4x2x256 : Shape := ⟨5, ![1, 32768, 4, 2, 256]⟩
abbrev S4x2 : Shape := ⟨2, ![4, 2]⟩
abbrev S_ : Shape := ⟨0, ![]⟩
abbrev S4x1 : Shape := ⟨2, ![4, 1]⟩
abbrev S8x1 : Shape := ⟨2, ![8, 1]⟩
abbrev S1x1x8x1 : Shape := ⟨4, ![1, 1, 8, 1]⟩
abbrev S1x4x2x32768 : Shape := ⟨4, ![1, 4, 2, 32768]⟩
abbrev S32768 : Shape := ⟨1, ![32768]⟩
abbrev S32768x1 : Shape := ⟨2, ![32768, 1]⟩
abbrev S1x32768 : Shape := ⟨2, ![1, 32768]⟩
abbrev S32768x32768 : Shape := ⟨2, ![32768, 32768]⟩
abbrev S1x4x32768x32768x2 : Shape := ⟨5, ![1, 4, 32768, 32768, 2]⟩
abbrev S1x4x2x32768x32768 : Shape := ⟨5, ![1, 4, 2, 32768, 32768]⟩
abbrev S4x2x1x1 : Shape := ⟨4, ![4, 2, 1, 1]⟩
abbrev S1x4x2x1x1 : Shape := ⟨5, ![1, 4, 2, 1, 1]⟩
abbrev S1x4x2x32768x1 : Shape := ⟨5, ![1, 4, 2, 32768, 1]⟩
abbrev S1x4x256x2x32768 : Shape := ⟨5, ![1, 4, 256, 2, 32768]⟩
abbrev S4x1x1 : Shape := ⟨3, ![4, 1, 1]⟩
abbrev S1x1x4x1x1 : Shape := ⟨5, ![1, 1, 4, 1, 1]⟩
abbrev S1x4x2x256x32768 : Shape := ⟨5, ![1, 4, 2, 256, 32768]⟩
abbrev S4x2x1 : Shape := ⟨3, ![4, 2, 1]⟩
abbrev S1x1x4x2x1 : Shape := ⟨5, ![1, 1, 4, 2, 1]⟩

abbrev nBuf : Space → Nat
  | .hbm => 123
  | .vmem => 8
  | .smem => 0
  | _ => 0

abbrev bufTy : (tb : Table) → Fin (tcTables nBuf tb) → BufTy
  | .hbm, ⟨0, _⟩ => ⟨S1x32768x8x256, .fp8e4m3⟩
  | .hbm, ⟨1, _⟩ => ⟨S8, .f32⟩
  | .hbm, ⟨2, _⟩ => ⟨S1x32768x4x256, .fp8e4m3⟩
  | .hbm, ⟨3, _⟩ => ⟨S4, .f32⟩
  | .hbm, ⟨4, _⟩ => ⟨S1x32768x4x256, .fp8e4m3⟩
  | .hbm, ⟨5, _⟩ => ⟨S4, .f32⟩
  | .hbm, ⟨6, _⟩ => ⟨S1x32768x8x256, .fp8e5m2⟩
  | .hbm, ⟨7, _⟩ => ⟨S8, .f32⟩
  | .hbm, ⟨8, _⟩ => ⟨S1x32768x8x256, .bf16⟩
  | .hbm, ⟨9, _⟩ => ⟨S1x8x32768, .f32⟩
  | .hbm, ⟨10, _⟩ => ⟨S1x32768x8x256, .f32⟩
  | .hbm, ⟨11, _⟩ => ⟨S1x32768x4x256, .f32⟩
  | .hbm, ⟨12, _⟩ => ⟨S1x32768x4x256, .f32⟩
  | .hbm, ⟨13, _⟩ => ⟨S1x32768x8x256, .f32⟩
  | .hbm, ⟨14, _⟩ => ⟨S1x32768x4x2x256, .f32⟩
  | .hbm, ⟨15, _⟩ => ⟨S1x32768x4x2x256, .f32⟩
  | .hbm, ⟨16, _⟩ => ⟨S4x2, .f32⟩
  | .hbm, ⟨17, _⟩ => ⟨S4x2, .f32⟩
  | .hbm, ⟨18, _⟩ => ⟨S_, .f32⟩
  | .hbm, ⟨19, _⟩ => ⟨S4, .f32⟩
  | .hbm, ⟨20, _⟩ => ⟨S4, .f32⟩
  | .hbm, ⟨21, _⟩ => ⟨S4x1, .f32⟩
  | .hbm, ⟨22, _⟩ => ⟨S4x2, .f32⟩
  | .hbm, ⟨23, _⟩ => ⟨S4x2, .f32⟩
  | .hbm, ⟨24, _⟩ => ⟨S4x1, .f32⟩
  | .hbm, ⟨25, _⟩ => ⟨S4x2, .f32⟩
  | .hbm, ⟨26, _⟩ => ⟨S4x2, .f32⟩
  | .hbm, ⟨27, _⟩ => ⟨S8x1, .f32⟩
  | .hbm, ⟨28, _⟩ => ⟨S1x1x8x1, .f32⟩
  | .hbm, ⟨29, _⟩ => ⟨S1x32768x8x256, .f32⟩
  | .hbm, ⟨30, _⟩ => ⟨S1x32768x8x256, .f32⟩
  | .hbm, ⟨31, _⟩ => ⟨S1x32768x8x256, .f32⟩
  | .hbm, ⟨32, _⟩ => ⟨S1x8x32768, .f32⟩
  | .hbm, ⟨33, _⟩ => ⟨S1x4x2x32768, .f32⟩
  | .hbm, ⟨34, _⟩ => ⟨S1x4x2x32768, .f32⟩
  | .hbm, ⟨35, _⟩ => ⟨S32768, .i32⟩
  | .hbm, ⟨36, _⟩ => ⟨S32768x1, .i32⟩
  | .hbm, ⟨37, _⟩ => ⟨S32768, .i32⟩
  | .hbm, ⟨38, _⟩ => ⟨S1x32768, .i32⟩
  | .hbm, ⟨39, _⟩ => ⟨S_, .i32⟩
  | .hbm, ⟨40, _⟩ => ⟨S32768x1, .i32⟩
  | .hbm, ⟨41, _⟩ => ⟨S32768x1, .i32⟩
  | .hbm, ⟨42, _⟩ => ⟨S32768x32768, .i32⟩
  | .hbm, ⟨43, _⟩ => ⟨S32768x32768, .i32⟩
  | .hbm, ⟨44, _⟩ => ⟨S32768x32768, .i1⟩
  | .hbm, ⟨45, _⟩ => ⟨S32768x32768, .i32⟩
  | .hbm, ⟨46, _⟩ => ⟨S32768x32768, .i32⟩
  | .hbm, ⟨47, _⟩ => ⟨S32768x32768, .i1⟩
  | .hbm, ⟨48, _⟩ => ⟨S32768x32768, .i1⟩
  | .hbm, ⟨49, _⟩ => ⟨S1x4x32768x32768x2, .f32⟩
  | .hbm, ⟨50, _⟩ => ⟨S1x4x2x32768x32768, .f32⟩
  | .hbm, ⟨51, _⟩ => ⟨S4x2x1x1, .f32⟩
  | .hbm, ⟨52, _⟩ => ⟨S1x4x2x1x1, .f32⟩
  | .hbm, ⟨53, _⟩ => ⟨S1x4x2x32768x32768, .f32⟩
  | .hbm, ⟨54, _⟩ => ⟨S1x4x2x32768x32768, .f32⟩
  | .hbm, ⟨55, _⟩ => ⟨S_, .f32⟩
  | .hbm, ⟨56, _⟩ => ⟨S1x4x2x32768x32768, .f32⟩
  | .hbm, ⟨57, _⟩ => ⟨S1x4x2x32768x32768, .f32⟩
  | .hbm, ⟨58, _⟩ => ⟨S1x4x2x32768x32768, .f32⟩
  | .hbm, ⟨59, _⟩ => ⟨S_, .f32⟩
  | .hbm, ⟨60, _⟩ => ⟨S1x4x2x32768x32768, .f32⟩
  | .hbm, ⟨61, _⟩ => ⟨S1x4x2x32768x32768, .f32⟩
  | .hbm, ⟨62, _⟩ => ⟨S1x4x2x32768x1, .f32⟩
  | .hbm, ⟨63, _⟩ => ⟨S1x4x2x32768x32768, .f32⟩
  | .hbm, ⟨64, _⟩ => ⟨S1x4x2x32768x32768, .f32⟩
  | .hbm, ⟨65, _⟩ => ⟨S1x4x2x32768x32768, .f32⟩
  | .hbm, ⟨66, _⟩ => ⟨S_, .f32⟩
  | .hbm, ⟨67, _⟩ => ⟨S_, .f32⟩
  | .hbm, ⟨68, _⟩ => ⟨S1x4x2x32768x32768, .i1⟩
  | .hbm, ⟨69, _⟩ => ⟨S1x4x2x32768x32768, .f32⟩
  | .hbm, ⟨70, _⟩ => ⟨S1x4x2x32768x32768, .f32⟩
  | .hbm, ⟨71, _⟩ => ⟨S1x32768x4x2x256, .bf16⟩
  | .hbm, ⟨72, _⟩ => ⟨S1x32768x4x256, .bf16⟩
  | .hbm, ⟨73, _⟩ => ⟨S1x4x32768x32768x2, .f32⟩
  | .hbm, ⟨74, _⟩ => ⟨S1x4x2x32768x32768, .f32⟩
  | .hbm, ⟨75, _⟩ => ⟨S4x2x1x1, .f32⟩
  | .hbm, ⟨76, _⟩ => ⟨S1x4x2x1x1, .f32⟩
  | .hbm, ⟨77, _⟩ => ⟨S1x4x2x32768x32768, .f32⟩
  | .hbm, ⟨78, _⟩ => ⟨S1x4x2x32768x32768, .f32⟩
  | .hbm, ⟨79, _⟩ => ⟨S1x4x2x32768x1, .f32⟩
  | .hbm, ⟨80, _⟩ => ⟨S1x4x2x32768x32768, .f32⟩
  | .hbm, ⟨81, _⟩ => ⟨S1x4x2x32768x32768, .f32⟩
  | .hbm, ⟨82, _⟩ => ⟨S1x4x2x32768x32768, .f32⟩
  | .hbm, ⟨83, _⟩ => ⟨S1x4x2x32768x32768, .f32⟩
  | .hbm, ⟨84, _⟩ => ⟨S_, .f32⟩
  | .hbm, ⟨85, _⟩ => ⟨S1x4x2x32768x32768, .f32⟩
  | .hbm, ⟨86, _⟩ => ⟨S1x4x2x32768x32768, .f32⟩
  | .hbm, ⟨87, _⟩ => ⟨S1x4x2x32768x32768, .f32⟩
  | .hbm, ⟨88, _⟩ => ⟨S1x4x2x32768x32768, .bf16⟩
  | .hbm, ⟨89, _⟩ => ⟨S1x32768x4x256, .bf16⟩
  | .hbm, ⟨90, _⟩ => ⟨S1x4x256x2x32768, .f32⟩
  | .hbm, ⟨91, _⟩ => ⟨S1x32768x4x2x256, .f32⟩
  | .hbm, ⟨92, _⟩ => ⟨S4x1x1, .f32⟩
  | .hbm, ⟨93, _⟩ => ⟨S1x1x4x1x1, .f32⟩
  | .hbm, ⟨94, _⟩ => ⟨S1x32768x4x2x256, .f32⟩
  | .hbm, ⟨95, _⟩ => ⟨S1x32768x4x2x256, .f32⟩
  | .hbm, ⟨96, _⟩ => ⟨S1x4x2x32768x32768, .bf16⟩
  | .hbm, ⟨97, _⟩ => ⟨S1x32768x4x2x256, .bf16⟩
  | .hbm, ⟨98, _⟩ => ⟨S1x4x2x256x32768, .f32⟩
  | .hbm, ⟨99, _⟩ => ⟨S1x32768x4x2x256, .f32⟩
  | .hbm, ⟨100, _⟩ => ⟨S_, .f32⟩
  | .hbm, ⟨101, _⟩ => ⟨S4x2, .f32⟩
  | .hbm, ⟨102, _⟩ => ⟨S4x2, .f32⟩
  | .hbm, ⟨103, _⟩ => ⟨S4x2x1, .f32⟩
  | .hbm, ⟨104, _⟩ => ⟨S1x1x4x2x1, .f32⟩
  | .hbm, ⟨105, _⟩ => ⟨S1x32768x4x2x256, .f32⟩
  | .hbm, ⟨106, _⟩ => ⟨S1x32768x4x2x256, .f32⟩
  | .hbm, ⟨107, _⟩ => ⟨S1x4x2x32768x32768, .bf16⟩
  | .hbm, ⟨108, _⟩ => ⟨S1x32768x4x2x256, .bf16⟩
  | .hbm, ⟨109, _⟩ => ⟨S1x4x2x256x32768, .f32⟩
  | .hbm, ⟨110, _⟩ => ⟨S1x32768x4x2x256, .f32⟩
  | .hbm, ⟨111, _⟩ => ⟨S4x2x1, .f32⟩
  | .hbm, ⟨112, _⟩ => ⟨S1x1x4x2x1, .f32⟩
  | .hbm, ⟨113, _⟩ => ⟨S1x32768x4x2x256, .f32⟩
  | .hbm, ⟨114, _⟩ => ⟨S1x32768x4x2x256, .f32⟩
  | .hbm, ⟨115, _⟩ => ⟨S1x32768x8x256, .f32⟩
  | .hbm, ⟨116, _⟩ => ⟨S1x32768x8x256, .bf16⟩
  | .hbm, ⟨117, _⟩ => ⟨S_, .f32⟩
  | .hbm, ⟨118, _⟩ => ⟨S1x32768x4x256, .f32⟩
  | .hbm, ⟨119, _⟩ => ⟨S1x32768x4x256, .bf16⟩
  | .hbm, ⟨120, _⟩ => ⟨S_, .f32⟩
  | .hbm, ⟨121, _⟩ => ⟨S1x32768x4x256, .f32⟩
  | .hbm, ⟨122, _⟩ => ⟨S1x32768x4x256, .bf16⟩
  | .local _ .vmem, ⟨0, _⟩ => ⟨S1x32768x8x256, .fp8e4m3⟩
  | .local _ .vmem, ⟨1, _⟩ => ⟨S1x32768x4x256, .fp8e4m3⟩
  | .local _ .vmem, ⟨2, _⟩ => ⟨S1x32768x4x256, .fp8e4m3⟩
  | .local _ .vmem, ⟨3, _⟩ => ⟨S1x32768x8x256, .fp8e5m2⟩
  | .local _ .vmem, ⟨4, _⟩ => ⟨S1x32768x8x256, .f32⟩
  | .local _ .vmem, ⟨5, _⟩ => ⟨S1x32768x4x256, .f32⟩
  | .local _ .vmem, ⟨6, _⟩ => ⟨S1x32768x4x256, .f32⟩
  | .local _ .vmem, ⟨7, _⟩ => ⟨S1x32768x8x256, .f32⟩
  | _, _ => ⟨S1x32768x8x256, .fp8e4m3⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0_0 : Ref sig .tc := ⟨.hbm, 10, rfl⟩
abbrev main_v0_1 : Ref sig .tc := ⟨.hbm, 11, rfl⟩
abbrev main_v0_2 : Ref sig .tc := ⟨.hbm, 12, rfl⟩
abbrev main_v0_3 : Ref sig .tc := ⟨.hbm, 13, rfl⟩
abbrev main_v1 : Ref sig .tc := ⟨.hbm, 14, rfl⟩
abbrev main_v2 : Ref sig .tc := ⟨.hbm, 15, rfl⟩
abbrev main_v3 : Ref sig .tc := ⟨.hbm, 16, rfl⟩
abbrev main_v4 : Ref sig .tc := ⟨.hbm, 17, rfl⟩
abbrev main_cst : Ref sig .tc := ⟨.hbm, 18, rfl⟩
abbrev main_v5 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_c : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_cst_0 : Ref sig .tc := ⟨.hbm, 55, rfl⟩
abbrev main_v40 : Ref sig .tc := ⟨.hbm, 56, rfl⟩
abbrev main_v41 : Ref sig .tc := ⟨.hbm, 57, rfl⟩
abbrev main_v42 : Ref sig .tc := ⟨.hbm, 58, rfl⟩
abbrev main_cst_1 : Ref sig .tc := ⟨.hbm, 59, rfl⟩
abbrev main_v43 : Ref sig .tc := ⟨.hbm, 60, rfl⟩
abbrev main_v44 : Ref sig .tc := ⟨.hbm, 61, rfl⟩
abbrev main_v45 : Ref sig .tc := ⟨.hbm, 62, rfl⟩
abbrev main_v46 : Ref sig .tc := ⟨.hbm, 63, rfl⟩
abbrev main_v47 : Ref sig .tc := ⟨.hbm, 64, rfl⟩
abbrev main_v48 : Ref sig .tc := ⟨.hbm, 65, rfl⟩
abbrev main_cst_2 : Ref sig .tc := ⟨.hbm, 66, rfl⟩
abbrev main_call0_v0 : Ref sig .tc := ⟨.hbm, 67, rfl⟩
abbrev main_call0_v1 : Ref sig .tc := ⟨.hbm, 68, rfl⟩
abbrev main_call0_v2 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_v60 : Ref sig .tc := ⟨.hbm, 81, rfl⟩
abbrev main_v61 : Ref sig .tc := ⟨.hbm, 82, rfl⟩
abbrev main_v62 : Ref sig .tc := ⟨.hbm, 83, rfl⟩
abbrev main_cst_3 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev main_v71 : Ref sig .tc := ⟨.hbm, 93, rfl⟩
abbrev main_v72 : Ref sig .tc := ⟨.hbm, 94, rfl⟩
abbrev main_v73 : Ref sig .tc := ⟨.hbm, 95, rfl⟩
abbrev main_v74 : Ref sig .tc := ⟨.hbm, 96, rfl⟩
abbrev main_v75 : Ref sig .tc := ⟨.hbm, 97, rfl⟩
abbrev main_v76 : Ref sig .tc := ⟨.hbm, 98, rfl⟩
abbrev main_v77 : Ref sig .tc := ⟨.hbm, 99, rfl⟩
abbrev main_cst_4 : Ref sig .tc := ⟨.hbm, 100, rfl⟩
abbrev main_v78 : Ref sig .tc := ⟨.hbm, 101, rfl⟩
abbrev main_v79 : Ref sig .tc := ⟨.hbm, 102, rfl⟩
abbrev main_v80 : Ref sig .tc := ⟨.hbm, 103, rfl⟩
abbrev main_v81 : Ref sig .tc := ⟨.hbm, 104, rfl⟩
abbrev main_v82 : Ref sig .tc := ⟨.hbm, 105, rfl⟩
abbrev main_v83 : Ref sig .tc := ⟨.hbm, 106, rfl⟩
abbrev main_v84 : Ref sig .tc := ⟨.hbm, 107, rfl⟩
abbrev main_v85 : Ref sig .tc := ⟨.hbm, 108, rfl⟩
abbrev main_v86 : Ref sig .tc := ⟨.hbm, 109, rfl⟩
abbrev main_v87 : Ref sig .tc := ⟨.hbm, 110, rfl⟩
abbrev main_v88 : Ref sig .tc := ⟨.hbm, 111, rfl⟩
abbrev main_v89 : Ref sig .tc := ⟨.hbm, 112, rfl⟩
abbrev main_v90 : Ref sig .tc := ⟨.hbm, 113, rfl⟩
abbrev main_v91 : Ref sig .tc := ⟨.hbm, 114, rfl⟩
abbrev main_v92 : Ref sig .tc := ⟨.hbm, 115, rfl⟩
abbrev main_v93 : Ref sig .tc := ⟨.hbm, 116, rfl⟩
abbrev main_cst_5 : Ref sig .tc := ⟨.hbm, 117, rfl⟩
abbrev main_v94 : Ref sig .tc := ⟨.hbm, 118, rfl⟩
abbrev main_v95 : Ref sig .tc := ⟨.hbm, 119, rfl⟩
abbrev main_cst_6 : Ref sig .tc := ⟨.hbm, 120, rfl⟩
abbrev main_v96 : Ref sig .tc := ⟨.hbm, 121, rfl⟩
abbrev main_v97 : Ref sig .tc := ⟨.hbm, 122, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S1x32768x8x256 .fp8e4m3 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1x32768x4x256 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x32768x4x256 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S1x32768x8x256 .fp8e5m2 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S1x32768x8x256 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S1x32768x4x256 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S1x32768x4x256 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S1x32768x8x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.K.Rest.lean ====
module

public import proofs.«01_k».proof.Proof.Gen.Kernel.Frame
public import proofs.«01_k».proof.Proof.Gen.Kernel.Skeleton

/-! The body of the kernel on whole memrefs, run symbolically. `Args` bundles what one call of the body is given: its
grid coordinates, its memrefs (each a whole buffer), the contents of the inputs and the contents of the carried
scratch. `restP` is the body after its first conditional (the one that clears the scratch at the start of a head
group); `runB` runs it at a point that has a query block, `runC` at a point that only writes gradients out. -/

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- What one call of the body is given: the coordinates, the memrefs, the inputs' contents `x…` and the contents `y…`
of the four scratch buffers (the key and value rings, the two accumulator rings). -/
structure Args (F : FTy → Type) where
  i : grid0.Coords
  m2 : Memref sig .tc .smem S8 .f32
  h2 : m2.IsWhole
  m3 : Memref sig .tc .smem S4 .f32
  h3 : m3.IsWhole
  m4 : Memref sig .tc .smem S4 .f32
  h4 : m4.IsWhole
  m5 : Memref sig .tc .smem S8 .f32
  h5 : m5.IsWhole
  m6 : Memref sig .tc .vmem S2x256x256 .fp8e4m3
  h6 : m6.IsWhole
  m7 : Memref sig .tc .vmem S1x256x256 .fp8e4m3
  h7 : m7.IsWhole
  m8 : Memref sig .tc .vmem S1x256x256 .fp8e4m3
  h8 : m8.IsWhole
  m9 : Memref sig .tc .vmem S2x256x256 .fp8e5m2
  h9 : m9.IsWhole
  m10 : Memref sig .tc .vmem S2x256x256 .bf16
  h10 : m10.IsWhole
  m11 : Memref sig .tc .vmem S1x2x256 .f32
  h11 : m11.IsWhole
  m12 : Memref sig .tc .vmem S2x256x256 .bf16
  h12 : m12.IsWhole
  m13 : Memref sig .tc .vmem S1x256x256 .bf16
  h13 : m13.IsWhole
  m14 : Memref sig .tc .vmem S1x256x256 .bf16
  h14 : m14.IsWhole
  m15 : Memref sig .tc .vmem S5x256x256 .fp8e4m3
  h15 : m15.IsWhole
  m16 : Memref sig .tc .vmem S5x256x256 .fp8e4m3
  h16 : m16.IsWhole
  m17 : Memref sig .tc .vmem S5x256x256 .f32
  h17 : m17.IsWhole
  m18 : Memref sig .tc .vmem S5x256x256 .f32
  h18 : m18.IsWhole
  x0 : Vec F S8 .f32
  x1 : Vec F S4 .f32
  x2 : Vec F S4 .f32
  x3 : Vec F S8 .f32
  x4 : Vec F S2x256x256 .fp8e4m3
  x5 : Vec F S1x256x256 .fp8e4m3
  x6 : Vec F S1x256x256 .fp8e4m3
  x7 : Vec F S2x256x256 .fp8e5m2
  x8 : Vec F S2x256x256 .bf16
  x9 : Vec F S1x2x256 .f32
  y0 : Vec F S5x256x256 .fp8e4m3
  y1 : Vec F S5x256x256 .fp8e4m3
  y2 : Vec F S5x256x256 .f32
  y3 : Vec F S5x256x256 .f32

variable {F : FTy → Type} [FloatOps F]

local notation "𝕄" => MT nD τ sig Unit (Elt F) ℕ (UR sig nD τ) ℕ

/-- The first conditional's condition: the point is the first of its head group. -/
abbrev cond0 (i : grid0.Coords) : Prop :=
  (Scalar.cmpi .ne (Scalar.extui (Scalar.cmpi .eq (BitVec.ofNat 32 (i 1).val) 0#32)) 0#32) = 1#1

/-- The inputs, each held at its contents. -/
def Args.ins (a : Args F) (c : Dev nD) : sProp 𝕄 :=
  iprop(owns (c : Thread nD τ) a.m2 fullShare a.x0 ∗ owns (c : Thread nD τ) a.m3 fullShare a.x1 ∗ owns (c : Thread nD τ) a.m4 fullShare a.x2 ∗ owns (c : Thread nD τ) a.m5 fullShare a.x3 ∗ owns (c : Thread nD τ) a.m6 fullShare a.x4 ∗ owns (c : Thread nD τ) a.m7 fullShare a.x5 ∗ owns (c : Thread nD τ) a.m8 fullShare a.x6 ∗ owns (c : Thread nD τ) a.m9 fullShare a.x7 ∗ owns (c : Thread nD τ) a.m10 fullShare a.x8 ∗ owns (c : Thread nD τ) a.m11 fullShare a.x9)

/-- The scratch, each buffer held at its contents. -/
def Args.scr (a : Args F) (c : Dev nD) : sProp 𝕄 :=
  iprop(owns (c : Thread nD τ) a.m15 fullShare a.y0 ∗ owns (c : Thread nD τ) a.m16 fullShare a.y1 ∗ owns (c : Thread nD τ) a.m17 fullShare a.y2 ∗ owns (c : Thread nD τ) a.m18 fullShare a.y3)

/-- The body on the bundled arguments. -/
abbrev Args.body (a : Args F) : Prog (TpuEff nD τ sig (Elt F) Λ₀ .tc) PUnit :=
  cc0_swa_bwd a.i a.m2 a.h2 a.m3 a.h3 a.m4 a.h4 a.m5 a.h5 a.m6 a.h6 a.m7 a.h7 a.m8 a.h8 a.m9 a.h9 a.m10 a.h10 a.m11 a.h11 a.m12 a.h12 a.m13 a.h13 a.m14 a.h14 a.m15 a.h15 a.m16 a.h16 a.m17 a.h17 a.m18 a.h18

/-- The body after its first conditional. -/
def Args.restP (a : Args F) : Prog (TpuEff nD τ sig (Elt F) Λ₀ .tc) PUnit := do
  let arg0 : BitVec 32 := BitVec.ofNat 32 (a.i 0).val
  let arg1 : BitVec 32 := BitVec.ofNat 32 (a.i 1).val
  let v3 : BitVec 32 := Scalar.remsi arg1 5#32
  if k0_h2 : k0_cond2 a.i = 1#1 then do
    let ⟨v45, v46, v49, v51, v53⟩ : Σ' (v45 : IVec S256x256 32) (v46 : IVec S256x256 32) (v49 : F .f32) (v51 : BitVec 32), FVec F S256x256 .fp8e4m3 ← k0_part1 a.i a.m2 a.h2 a.m3 a.h3 a.m4 a.h4 a.m5 a.h5 a.m6 a.h6 a.m7 a.h7 a.m8 a.h8 a.m9 a.h9 a.m10 a.h10 a.m11 a.h11 a.m12 a.h12 a.m13 a.h13 a.m14 a.h14 a.m15 a.h15 a.m16 a.h16 a.m17 a.h17 a.m18 a.h18 arg0 v3 k0_h2
    let ⟨v55, v56, v57, v61, v66, v78, v82, v83, v86, v89, v92, v95⟩ : Σ' (v55 : FVec F S256x256 .fp8e5m2) (v56 : FVec F S256x256 .bf16) (v57 : FVec F S256x256 .bf16) (v61 : F .f32) (v66 : F .f32) (v78 : FVec F S1x256 .f32) (v82 : FVec F S1x256 .f32) (v83 : FVec F S256x256 .f32) (v86 : BitVec 32) (v89 : FVec F S256x256 .fp8e4m3) (v92 : FVec F S256x256 .fp8e4m3), FVec F S256x256 .f32 ← k0_part2 a.i a.m2 a.h2 a.m3 a.h3 a.m4 a.h4 a.m5 a.h5 a.m6 a.h6 a.m7 a.h7 a.m8 a.h8 a.m9 a.h9 a.m10 a.h10 a.m11 a.h11 a.m12 a.h12 a.m13 a.h13 a.m14 a.h14 a.m15 a.h15 a.m16 a.h16 a.m17 a.h17 a.m18 a.h18 arg0 arg1 k0_h2 v49 v51 v53
    let ⟨v116, v139⟩ : Σ' (v116 : FVec F S256x256 .bf16), FVec F S256x256 .f32 ← k0_part3 a.i a.m2 a.h2 a.m3 a.h3 a.m4 a.h4 a.m5 a.h5 a.m6 a.h6 a.m7 a.h7 a.m8 a.h8 a.m9 a.h9 a.m10 a.h10 a.m11 a.h11 a.m12 a.h12 a.m13 a.h13 a.m14 a.h14 a.m15 a.h15 a.m16 a.h16 a.m17 a.h17 a.m18 a.h18 k0_h2 v45 v46 v51 v55 v56 v57 v66 v78 v82 v86 v92 v95
    let ⟨v146, v149, v152, v176, v179, v180, v183⟩ : Σ' (v146 : FVec F S256x256 .f32) (v149 : BitVec 32) (v152 : FVec F S256x256 .fp8e4m3) (v176 : FVec F S256x256 .bf16) (v179 : FVec F S256x256 .f32) (v180 : FVec F S256x256 .f32), FVec F S256x256 .f32 ← k0_part4 a.i a.m2 a.h2 a.m3 a.h3 a.m4 a.h4 a.m5 a.h5 a.m6 a.h6 a.m7 a.h7 a.m8 a.h8 a.m9 a.h9 a.m10 a.h10 a.m11 a.h11 a.m12 a.h12 a.m13 a.h13 a.m14 a.h14 a.m15 a.h15 a.m16 a.h16 a.m17 a.h17 a.m18 a.h18 arg1 k0_h2 v51 v53 v55 v57 v61 v66 v78 v82 v83 v89 v116 v139
    let ⟨v206, v209, v212, v215, v219, v223⟩ : Σ' (v206 : FVec F S256x256 .f32) (v209 : BitVec 32) (v212 : FVec F S256x256 .fp8e4m3) (v215 : FVec F S256x256 .fp8e4m3) (v219 : FVec F S256x256 .f32), FVec F S256x256 .f32 ← k0_part5 a.i a.m2 a.h2 a.m3 a.h3 a.m4 a.h4 a.m5 a.h5 a.m6 a.h6 a.m7 a.h7 a.m8 a.h8 a.m9 a.h9 a.m10 a.h10 a.m11 a.h11 a.m12 a.h12 a.m13 a.h13 a.m14 a.h14 a.m15 a.h15 a.m16 a.h16 a.m17 a.h17 a.m18 a.h18 arg1 k0_h2 v51 v53 v56 v61 v82 v146 v149 v152 v176 v179 v180 v183
    let ⟨v266, c1_i32_115⟩ : Σ' (v266 : FVec F S256x256 .f32), BitVec 32 ← k0_part6 a.i a.m2 a.h2 a.m3 a.h3 a.m4 a.h4 a.m5 a.h5 a.m6 a.h6 a.m7 a.h7 a.m8 a.h8 a.m9 a.h9 a.m10 a.h10 a.m11 a.h11 a.m12 a.h12 a.m13 a.h13 a.m14 a.h14 a.m15 a.h15 a.m16 a.h16 a.m17 a.h17 a.m18 a.h18 k0_h2 v51 v55 v56 v57 v66 v78 v206 v209 v212 v215 v219 v223
    let ⟨v269, v272, v296⟩ : Σ' (v269 : BitVec 32) (v272 : FVec F S256x256 .fp8e4m3), FVec F S256x256 .bf16 ← k0_part7 a.i a.m2 a.h2 a.m3 a.h3 a.m4 a.h4 a.m5 a.h5 a.m6 a.h6 a.m7 a.h7 a.m8 a.h8 a.m9 a.h9 a.m10 a.h10 a.m11 a.h11 a.m12 a.h12 a.m13 a.h13 a.m14 a.h14 a.m15 a.h15 a.m16 a.h16 a.m17 a.h17 a.m18 a.h18 arg1 k0_h2 v51 v53 v55 v57 v61 v66 v78 v82 c1_i32_115
    let ⟨v326, v329, v332, v339, v347, v350, v351⟩ : Σ' (v326 : FVec F S256x256 .f32) (v329 : BitVec 32) (v332 : FVec F S256x256 .fp8e4m3) (v339 : FVec F S256x256 .f32) (v347 : FVec F S256x256 .f32) (v350 : FVec F S256x256 .f32), FVec F S256x256 .f32 ← k0_part8 a.i a.m2 a.h2 a.m3 a.h3 a.m4 a.h4 a.m5 a.h5 a.m6 a.h6 a.m7 a.h7 a.m8 a.h8 a.m9 a.h9 a.m10 a.h10 a.m11 a.h11 a.m12 a.h12 a.m13 a.h13 a.m14 a.h14 a.m15 a.h15 a.m16 a.h16 a.m17 a.h17 a.m18 a.h18 arg1 k0_h2 v45 v46 v51 v53 v55 v56 v61 v66 v78 v82 v266 v269 v272 v296
    let ⟨v392, v393⟩ : Σ' (v392 : FVec F S256x256 .bf16), Vec F S1x256x256 .bf16 ← k0_part9 a.i a.m2 a.h2 a.m3 a.h3 a.m4 a.h4 a.m5 a.h5 a.m6 a.h6 a.m7 a.h7 a.m8 a.h8 a.m9 a.h9 a.m10 a.h10 a.m11 a.h11 a.m12 a.h12 a.m13 a.h13 a.m14 a.h14 a.m15 a.h15 a.m16 a.h16 a.m17 a.h17 a.m18 a.h18 k0_h2 v49 v51 v56 v57 v326 v329 v332 v339 v347 v350 v351
    let ⟨v397, v399, v401, v402, v403, v407, v412, v424, v428, v429, v431, c5_i32_182⟩ : Σ' (v397 : BitVec 32) (v399 : FVec F S256x256 .fp8e4m3) (v401 : FVec F S256x256 .fp8e5m2) (v402 : FVec F S256x256 .bf16) (v403 : FVec F S256x256 .bf16) (v407 : F .f32) (v412 : F .f32) (v424 : FVec F S1x256 .f32) (v428 : FVec F S1x256 .f32) (v429 : FVec F S256x256 .f32) (v431 : BitVec 32), BitVec 32 ← k0_part10 a.i a.m2 a.h2 a.m3 a.h3 a.m4 a.h4 a.m5 a.h5 a.m6 a.h6 a.m7 a.h7 a.m8 a.h8 a.m9 a.h9 a.m10 a.h10 a.m11 a.h11 a.m12 a.h12 a.m13 a.h13 a.m14 a.h14 a.m15 a.h15 a.m16 a.h16 a.m17 a.h17 a.m18 a.h18 arg0 arg1 k0_h2 v49 v392 v393
    let ⟨v432, v435, v462⟩ : Σ' (v432 : BitVec 32) (v435 : FVec F S256x256 .fp8e4m3), FVec F S256x256 .bf16 ← k0_part11 a.i a.m2 a.h2 a.m3 a.h3 a.m4 a.h4 a.m5 a.h5 a.m6 a.h6 a.m7 a.h7 a.m8 a.h8 a.m9 a.h9 a.m10 a.h10 a.m11 a.h11 a.m12 a.h12 a.m13 a.h13 a.m14 a.h14 a.m15 a.h15 a.m16 a.h16 a.m17 a.h17 a.m18 a.h18 k0_h2 v45 v46 v397 v399 v401 v403 v407 v412 v424 v428 v431 c5_i32_182
    let ⟨v492, v495, v498, v510, v516, v517, cst_214⟩ : Σ' (v492 : FVec F S256x256 .f32) (v495 : BitVec 32) (v498 : FVec F S256x256 .fp8e4m3) (v510 : FVec F S256x256 .f32) (v516 : FVec F S256x256 .f32) (v517 : FVec F S256x256 .f32), F .f32 ← k0_part12 a.i a.m2 a.h2 a.m3 a.h3 a.m4 a.h4 a.m5 a.h5 a.m6 a.h6 a.m7 a.h7 a.m8 a.h8 a.m9 a.h9 a.m10 a.h10 a.m11 a.h11 a.m12 a.h12 a.m13 a.h13 a.m14 a.h14 a.m15 a.h15 a.m16 a.h16 a.m17 a.h17 a.m18 a.h18 arg1 k0_h2 v397 v399 v401 v402 v407 v412 v424 v428 v429 v432 v435 v462
    let ⟨v552, v555, v558⟩ : Σ' (v552 : FVec F S256x256 .f32) (v555 : BitVec 32), FVec F S256x256 .fp8e4m3 ← k0_part13 a.i a.m2 a.h2 a.m3 a.h3 a.m4 a.h4 a.m5 a.h5 a.m6 a.h6 a.m7 a.h7 a.m8 a.h8 a.m9 a.h9 a.m10 a.h10 a.m11 a.h11 a.m12 a.h12 a.m13 a.h13 a.m14 a.h14 a.m15 a.h15 a.m16 a.h16 a.m17 a.h17 a.m18 a.h18 arg1 k0_h2 v397 v402 v403 v492 v495 v498 v510 v516 v517 cst_214
    let ⟨v582, v598, v599, v602⟩ : Σ' (v582 : FVec F S256x256 .bf16) (v598 : FVec F S256x256 .f32) (v599 : FVec F S256x256 .f32), F .f32 ← k0_part14 a.i a.m2 a.h2 a.m3 a.h3 a.m4 a.h4 a.m5 a.h5 a.m6 a.h6 a.m7 a.h7 a.m8 a.h8 a.m9 a.h9 a.m10 a.h10 a.m11 a.h11 a.m12 a.h12 a.m13 a.h13 a.m14 a.h14 a.m15 a.h15 a.m16 a.h16 a.m17 a.h17 a.m18 a.h18 k0_h2 v397 v399 v401 v402 v403 v407 v412 v424 v428 v555 v558
    let ⟨v612, v615, v618, v641, v642, v645⟩ : Σ' (v612 : FVec F S256x256 .f32) (v615 : BitVec 32) (v618 : FVec F S256x256 .fp8e4m3) (v641 : FVec F S256x256 .bf16) (v642 : FVec F S256x256 .bf16), FVec F S256x256 .f32 ← k0_part15 a.i a.m2 a.h2 a.m3 a.h3 a.m4 a.h4 a.m5 a.h5 a.m6 a.h6 a.m7 a.h7 a.m8 a.h8 a.m9 a.h9 a.m10 a.h10 a.m11 a.h11 a.m12 a.h12 a.m13 a.h13 a.m14 a.h14 a.m15 a.h15 a.m16 a.h16 a.m17 a.h17 a.m18 a.h18 arg1 k0_h2 v399 v401 v407 v412 v424 v428 v552 v555 v558 v582 v598 v599 v602
    let ⟨v672, v675, v678, v681, v685⟩ : Σ' (v672 : FVec F S256x256 .f32) (v675 : BitVec 32) (v678 : FVec F S256x256 .fp8e4m3) (v681 : FVec F S256x256 .fp8e4m3), FVec F S256x256 .f32 ← k0_part16 a.i a.m2 a.h2 a.m3 a.h3 a.m4 a.h4 a.m5 a.h5 a.m6 a.h6 a.m7 a.h7 a.m8 a.h8 a.m9 a.h9 a.m10 a.h10 a.m11 a.h11 a.m12 a.h12 a.m13 a.h13 a.m14 a.h14 a.m15 a.h15 a.m16 a.h16 a.m17 a.h17 a.m18 a.h18 arg1 k0_h2 v397 v399 v402 v403 v407 v612 v615 v618 v641 v642 v645
    let ⟨v705, v728⟩ : Σ' (v705 : FVec F S256x256 .bf16), FVec F S256x256 .f32 ← k0_part17 a.i a.m2 a.h2 a.m3 a.h3 a.m4 a.h4 a.m5 a.h5 a.m6 a.h6 a.m7 a.h7 a.m8 a.h8 a.m9 a.h9 a.m10 a.h10 a.m11 a.h11 a.m12 a.h12 a.m13 a.h13 a.m14 a.h14 a.m15 a.h15 a.m16 a.h16 a.m17 a.h17 a.m18 a.h18 k0_h2 v45 v46 v397 v401 v402 v403 v412 v424 v428 v675 v681 v685
    let v730 : Vec F S1x256x256 .f32 ← Prog.lift (.load a.m17 (Rect.unit (s := S5x256x256) (k0_off4 a.i 4#32) S1x256x256.size (k0_off4_inb a.i k0_h2 4)).toLoadRect (View.loadsAt_vmem h_S1x256x256))
    Prog.lift (.store a.m17 (Rect.unit (s := S5x256x256) (k0_off4 a.i 4#32) S1x256x256.size (k0_off4_inb a.i k0_h2 4)) (k0_pay5 v728) Finset.univ (View.stores_vmem_bits_univ h_S1x256x256 rfl) (.inl rfl))
    let v739 : Vec F S1x256x256 .bf16 ← Prog.lift (.load a.m12 (Rect.unit (s := S2x256x256) ![1, 0, 0] S1x256x256.size inb_S2x256x256_S1x256x256_1_0_0).toLoadRect (View.loadsAt_vmem h_S1x256x256))
    Prog.lift (.store a.m12 (Rect.unit (s := S2x256x256) ![1, 0, 0] S1x256x256.size inb_S2x256x256_S1x256x256_1_0_0) (k0_pay6 v49 v672 v678 v705) Finset.univ (View.stores_vmem h_S1x256x256 (a.h12.storeExact_slice rfl _ packedbf16_S2x256x256_S1x256x256_1_0_0) (fun _ => rfl)) (.inl rfl))
    pure ⟨⟩
  else do
    pure ⟨⟩
  let v10 : Vec F S1x256x256 .f32 ← Prog.lift (.load a.m17 (Rect.unit (s := S5x256x256) (k0_off5 a.i) S1x256x256.size (k0_off5_inb a.i)).toLoadRect (View.loadsAt_vmem h_S1x256x256))
  let v13 : Vec F S1x256x256 .bf16 ← Prog.lift (.load a.m13 (Rect.unit (s := S1x256x256) ![0, 0, 0] S1x256x256.size inb_S1x256x256_S1x256x256_0_0_0).toLoadRect (View.loadsAt_vmem h_S1x256x256))
  Prog.lift (.store a.m13 (Rect.unit (s := S1x256x256) ![0, 0, 0] S1x256x256.size inb_S1x256x256_S1x256x256_0_0_0) (k0_pay7 v10) Finset.univ (View.stores_vmem h_S1x256x256 (a.h13.storeExact_slice rfl _ packedbf16_S1x256x256_S1x256x256_0_0_0) (fun _ => rfl)) (.inl rfl))
  let v17 : Vec F S1x256x256 .f32 ← Prog.lift (.load a.m18 (Rect.unit (s := S5x256x256) (k0_off5 a.i) S1x256x256.size (k0_off5_inb a.i)).toLoadRect (View.loadsAt_vmem h_S1x256x256))
  let v20 : Vec F S1x256x256 .bf16 ← Prog.lift (.load a.m14 (Rect.unit (s := S1x256x256) ![0, 0, 0] S1x256x256.size inb_S1x256x256_S1x256x256_0_0_0).toLoadRect (View.loadsAt_vmem h_S1x256x256))
  Prog.lift (.store a.m14 (Rect.unit (s := S1x256x256) ![0, 0, 0] S1x256x256.size inb_S1x256x256_S1x256x256_0_0_0) (k0_pay8 v17) Finset.univ (View.stores_vmem h_S1x256x256 (a.h14.storeExact_slice rfl _ packedbf16_S1x256x256_S1x256x256_0_0_0) (fun _ => rfl)) (.inl rfl))
  pure ⟨⟩

/-- At a point that is not the first of its head group the body is its part after the first conditional. -/
theorem Args.body_eq_rest (a : Args F) (h : ¬ cond0 a.i) : a.body = a.restP := by
  unfold Args.body Args.restP
  rw [cc0_swa_bwd_eq_skeleton]; unfold cc0_swa_bwd_skel
  rw [dif_neg h]

set_option maxHeartbeats 4000000 in
/-- The run of the body after its first conditional, at a point that has a query block: the pieces that it leaves in
the three outputs and the four scratch buffers, and that it does. -/
noncomputable def runB (c : Dev nD) (a : Args F) (hc1 : k0_cond2 a.i = 1#1) :
    Σ' (L0 : List (View.Piece (Elt F) S2x256x256 .bf16)) (L1 L2 : List (View.Piece (Elt F) S1x256x256 .bf16))
      (LS0 LS1 : List (View.Piece (Elt F) S5x256x256 .fp8e4m3)) (LS2 : List (View.Piece (Elt F) S5x256x256 .f32)), { LS3 : List (View.Piece (Elt F) S5x256x256 .f32) //
      ∀ (E : Set ℕ) (K : PUnit → sProp 𝕄),
        iprop(a.ins c ∗ (∃ d, owns (c : Thread nD τ) a.m12 fullShare d) ∗ (∃ d, owns (c : Thread nD τ) a.m13 fullShare d) ∗ (∃ d, owns (c : Thread nD τ) a.m14 fullShare d) ∗ a.scr c ∗ (iprop(a.ins c ∗ (∃ f, (a.m12.view.loc (c : Thread nD τ) ↦[a.m12.view.set]{fullShare} a.m12.view.writes (Elt F) f L0)) ∗ (∃ f, (a.m13.view.loc (c : Thread nD τ) ↦[a.m13.view.set]{fullShare} a.m13.view.writes (Elt F) f L1)) ∗ (∃ f, (a.m14.view.loc (c : Thread nD τ) ↦[a.m14.view.set]{fullShare} a.m14.view.writes (Elt F) f L2)) ∗ (a.m15.view.loc (c : Thread nD τ) ↦[a.m15.view.set]{fullShare} a.m15.view.writes (Elt F) (a.h15.unread a.y0) LS0) ∗ (a.m16.view.loc (c : Thread nD τ) ↦[a.m16.view.set]{fullShare} a.m16.view.writes (Elt F) (a.h16.unread a.y1) LS1) ∗ (a.m17.view.loc (c : Thread nD τ) ↦[a.m17.view.set]{fullShare} a.m17.view.writes (Elt F) (a.h17.unread a.y2) LS2) ∗ (a.m18.view.loc (c : Thread nD τ) ↦[a.m18.view.set]{fullShare} a.m18.view.writes (Elt F) (a.h18.unread a.y3) LS3)) -∗ K ⟨⟩))
          ⊢ wp frame (wpE (defs₀ (F := F)) Variants.none c none) E a.restP K } := by
  refine ⟨?_, ?_, ?_, ?_, ?_, ?_, ?_, fun E K => ?run⟩
  case run =>
    unfold Args.restP Args.ins Args.scr
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, ⟨%d10, %f10, -, H10⟩, ⟨%d11, %f11, -, H11⟩, ⟨%d12, %f12, -, H12⟩, ⟨⟨%g0, %hg0, HS0⟩, ⟨%g1, %hg1, HS1⟩, ⟨%g2, %hg2, HS2⟩, ⟨%g3, %hg3, HS3⟩⟩, Hk⟩
    obtain rfl := a.h2.eq_unread hf0; obtain rfl := a.h3.eq_unread hf1; obtain rfl := a.h4.eq_unread hf2; obtain rfl := a.h5.eq_unread hf3; obtain rfl := a.h6.eq_unread hf4; obtain rfl := a.h7.eq_unread hf5; obtain rfl := a.h8.eq_unread hf6; obtain rfl := a.h9.eq_unread hf7; obtain rfl := a.h10.eq_unread hf8; obtain rfl := a.h11.eq_unread hf9; obtain rfl := a.h15.eq_unread hg0; obtain rfl := a.h16.eq_unread hg1; obtain rfl := a.h17.eq_unread hg2; obtain rfl := a.h18.eq_unread hg3
    sl_exec (disch := first | sl_exact hc1)
    sl_step
    iapply Hk
    isplitl [H0 H1 H2 H3 H4 H5 H6 H7 H8 H9]
    ·
      isplitl [H0]
      · iexists _; isplitr; · ipureintro; exact a.h2.read_unread _
        iexact H0
      isplitl [H1]
      · iexists _; isplitr; · ipureintro; exact a.h3.read_unread _
        iexact H1
      isplitl [H2]
      · iexists _; isplitr; · ipureintro; exact a.h4.read_unread _
        iexact H2
      isplitl [H3]
      · iexists _; isplitr; · ipureintro; exact a.h5.read_unread _
        iexact H3
      isplitl [H4]
      · iexists _; isplitr; · ipureintro; exact a.h6.read_unread _
        iexact H4
      isplitl [H5]
      · iexists _; isplitr; · ipureintro; exact a.h7.read_unread _
        iexact H5
      isplitl [H6]
      · iexists _; isplitr; · ipureintro; exact a.h8.read_unread _
        iexact H6
      isplitl [H7]
      · iexists _; isplitr; · ipureintro; exact a.h9.read_unread _
        iexact H7
      isplitl [H8]
      · iexists _; isplitr; · ipureintro; exact a.h10.read_unread _
        iexact H8
      iexists _; isplitr; · ipureintro; exact a.h11.read_unread _
      iexact H9
    isplitl [H10]; · iexists _; iexact H10
    isplitl [H11]; · iexists _; iexact H11
    isplitl [H12]; · iexists _; iexact H12
    isplitl [HS0]; · iexact HS0
    isplitl [HS1]; · iexact HS1
    isplitl [HS2]; · iexact HS2
    iexact HS3

set_option maxHeartbeats 4000000 in
/-- The run of the body after its first conditional, at a point without a query block: it reads the two accumulator
rings and writes the key and value gradients. -/
noncomputable def runC (c : Dev nD) (a : Args F) (hc1 : ¬ k0_cond2 a.i = 1#1) :
    Σ' (L1 : List (View.Piece (Elt F) S1x256x256 .bf16)), { L2 : List (View.Piece (Elt F) S1x256x256 .bf16) //
      ∀ (E : Set ℕ) (K : PUnit → sProp 𝕄),
        iprop((∃ d, owns (c : Thread nD τ) a.m13 fullShare d) ∗ (∃ d, owns (c : Thread nD τ) a.m14 fullShare d) ∗ owns (c : Thread nD τ) a.m17 fullShare a.y2 ∗ owns (c : Thread nD τ) a.m18 fullShare a.y3 ∗ (iprop((∃ f, (a.m13.view.loc (c : Thread nD τ) ↦[a.m13.view.set]{fullShare} a.m13.view.writes (Elt F) f L1)) ∗ (∃ f, (a.m14.view.loc (c : Thread nD τ) ↦[a.m14.view.set]{fullShare} a.m14.view.writes (Elt F) f L2)) ∗ owns (c : Thread nD τ) a.m17 fullShare a.y2 ∗ owns (c : Thread nD τ) a.m18 fullShare a.y3) -∗ K ⟨⟩))
          ⊢ wp frame (wpE (defs₀ (F := F)) Variants.none c none) E a.restP K } := by
  refine ⟨?_, ?_, fun E K => ?run⟩
  case run =>
    unfold Args.restP
    unfold owns
    iintro ⟨⟨%d11, %f11, -, H11⟩, ⟨%d12, %f12, -, H12⟩, ⟨%g2, %hg2, HS2⟩, ⟨%g3, %hg3, HS3⟩, Hk⟩
    obtain rfl := a.h17.eq_unread hg2; obtain rfl := a.h18.eq_unread hg3
    sl_exec (disch := first | sl_exact hc1)
    sl_step
    iapply Hk
    isplitl [H11]; · iexists _; iexact H11
    isplitl [H12]; · iexists _; iexact H12
    isplitl [HS2]
    · iexists _; isplitr; · ipureintro; exact a.h17.read_unread _
      iexact HS2
    iexists _; isplitr; · ipureintro; exact a.h18.read_unread _
    iexact HS3

end Cert.Kernel.Gen
end
-- ==== Proof.K.Body.lean ====
module

public import proofs.«01_k».proof.Proof.K.Rest
public import Idealize.ShloMosaic.Lib.VecWindow
public import Idealize.ShloMosaic.Lib.Claim

/-! The body of the kernel as one triple that names nothing it leaves: from its inputs at their contents, and its outputs and
scratch at any contents, it runs and gives the same back. -/

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The three outputs, each at some contents. -/
def Args.outs (a : Args F) (c : Dev nD) : sProp 𝕄 := iprop((∃ d, owns (c : Thread nD τ) a.m12 fullShare d) ∗ (∃ d, owns (c : Thread nD τ) a.m13 fullShare d) ∗ (∃ d, owns (c : Thread nD τ) a.m14 fullShare d))
/-- The four scratch buffers, each at some contents. -/
def Args.scrs (a : Args F) (c : Dev nD) : sProp 𝕄 := iprop((∃ d, owns (c : Thread nD τ) a.m15 fullShare d) ∗ (∃ d, owns (c : Thread nD τ) a.m16 fullShare d) ∗ (∃ d, owns (c : Thread nD τ) a.m17 fullShare d) ∗ (∃ d, owns (c : Thread nD τ) a.m18 fullShare d))

/-- Contents written through a whole memref are some contents of it. -/
theorem owns_of_writes {sp : Space} {s : Shape} {e : EltTy} (c : Dev nD) (v : Memref sig .tc sp s e) (f : Buf (Elt F) (v.view.loc (c : Thread nD τ))) :
    (v.view.loc (c : Thread nD τ) ↦[v.view.set]{fullShare} f : sProp 𝕄) ⊢ iprop(∃ d, owns (c : Thread nD τ) v fullShare d) := by
  iintro H
  iexists _
  unfold owns
  iexists _; isplitr
  swap; · iexact H
  ipureintro; rfl

/-- After its first conditional the body runs, from the scratch at any contents, and names nothing of what it leaves. -/
theorem Args.rest_any (c : Dev nD) (a : Args F) (E : Set ℕ) (K : PUnit → sProp 𝕄) :
    iprop(a.ins c ∗ a.outs c ∗ a.scr c ∗ (iprop(a.ins c ∗ a.outs c ∗ a.scrs c) -∗ K ⟨⟩))
      ⊢ wp frame (wpE (defs₀ (F := F)) Variants.none c none) E a.restP K := by
  unfold Args.outs Args.scrs
  by_cases hc1 : k0_cond2 a.i = 1#1
  · iintro ⟨HI, ⟨H10, H11, H12⟩, HS, Hk⟩
    iapply ((runB c a hc1).2.2.2.2.2.2.2 E K)
    isplitl [HI]; · iexact HI
    isplitl [H10]; · iexact H10
    isplitl [H11]; · iexact H11
    isplitl [H12]; · iexact H12
    isplitl [HS]; · iexact HS
    iintro ⟨HI, ⟨%f10, H10⟩, ⟨%f11, H11⟩, ⟨%f12, H12⟩, HS0, HS1, HS2, HS3⟩
    iapply Hk
    isplitl [HI]; · iexact HI
    isplitl [H10 H11 H12]
    · isplitl [H10]; · iapply (owns_of_writes c a.m12 _); iexact H10
      isplitl [H11]; · iapply (owns_of_writes c a.m13 _); iexact H11
      iapply (owns_of_writes c a.m14 _); iexact H12
    isplitl [HS0]; · iapply (owns_of_writes c a.m15 _); iexact HS0
    isplitl [HS1]; · iapply (owns_of_writes c a.m16 _); iexact HS1
    isplitl [HS2]; · iapply (owns_of_writes c a.m17 _); iexact HS2
    iapply (owns_of_writes c a.m18 _); iexact HS3
  · unfold Args.scr
    iintro ⟨HI, ⟨H10, H11, H12⟩, ⟨HS0, HS1, HS2, HS3⟩, Hk⟩
    iapply ((runC c a hc1).2.2 E K)
    isplitl [H11]; · iexact H11
    isplitl [H12]; · iexact H12
    isplitl [HS2]; · iexact HS2
    isplitl [HS3]; · iexact HS3
    iintro ⟨⟨%f11, H11⟩, ⟨%f12, H12⟩, HS2, HS3⟩
    iapply Hk
    isplitl [HI]; · iexact HI
    isplitl [H10 H11 H12]
    · isplitl [H10]; · iexact H10
      isplitl [H11]; · iapply (owns_of_writes c a.m13 _); iexact H11
      iapply (owns_of_writes c a.m14 _); iexact H12
    isplitl [HS0]; · iexists _; iexact HS0
    isplitl [HS1]; · iexists _; iexact HS1
    isplitl [HS2]; · iexists _; iexact HS2
    iexists _; iexact HS3

/-- The first conditional's eight accesses (it loads and stores each scratch buffer whole), then `R`. -/
def Args.clearP (a : Args F) (R : Prog (TpuEff nD τ sig (Elt F) Λ₀ .tc) PUnit) : Prog (TpuEff nD τ sig (Elt F) Λ₀ .tc) PUnit := do
  let v24 : Vec F S5x256x256 .fp8e4m3 ← Prog.lift (.load a.m15 (Rect.unit (s := S5x256x256) ![0, 0, 0] S5x256x256.size inb_S5x256x256_S5x256x256_0_0_0).toLoadRect (View.loadsAt_vmem h_S5x256x256))
  Prog.lift (.store a.m15 (Rect.unit (s := S5x256x256) ![0, 0, 0] S5x256x256.size inb_S5x256x256_S5x256x256_0_0_0) (k0_pay1 (F := F)) Finset.univ (View.stores_vmem h_S5x256x256 (a.h15.storeExact_slice rfl _ packedfp8e4m3_S5x256x256_S5x256x256_0_0_0) (fun _ => rfl)) (.inl rfl))
  let v28 : Vec F S5x256x256 .fp8e4m3 ← Prog.lift (.load a.m16 (Rect.unit (s := S5x256x256) ![0, 0, 0] S5x256x256.size inb_S5x256x256_S5x256x256_0_0_0).toLoadRect (View.loadsAt_vmem h_S5x256x256))
  Prog.lift (.store a.m16 (Rect.unit (s := S5x256x256) ![0, 0, 0] S5x256x256.size inb_S5x256x256_S5x256x256_0_0_0) (k0_pay2 (F := F)) Finset.univ (View.stores_vmem h_S5x256x256 (a.h16.storeExact_slice rfl _ packedfp8e4m3_S5x256x256_S5x256x256_0_0_0) (fun _ => rfl)) (.inl rfl))
  let v32 : Vec F S5x256x256 .f32 ← Prog.lift (.load a.m17 (Rect.unit (s := S5x256x256) ![0, 0, 0] S5x256x256.size inb_S5x256x256_S5x256x256_0_0_0).toLoadRect (View.loadsAt_vmem h_S5x256x256))
  Prog.lift (.store a.m17 (Rect.unit (s := S5x256x256) ![0, 0, 0] S5x256x256.size inb_S5x256x256_S5x256x256_0_0_0) (k0_pay3 (F := F)) Finset.univ (View.stores_vmem_bits_univ h_S5x256x256 rfl) (.inl rfl))
  let v36 : Vec F S5x256x256 .f32 ← Prog.lift (.load a.m18 (Rect.unit (s := S5x256x256) ![0, 0, 0] S5x256x256.size inb_S5x256x256_S5x256x256_0_0_0).toLoadRect (View.loadsAt_vmem h_S5x256x256))
  Prog.lift (.store a.m18 (Rect.unit (s := S5x256x256) ![0, 0, 0] S5x256x256.size inb_S5x256x256_S5x256x256_0_0_0) (k0_pay4 (F := F)) Finset.univ (View.stores_vmem_bits_univ h_S5x256x256 rfl) (.inl rfl))
  R

/-- The first conditional's work at the first point of a head group: the four scratch buffers are cleared, and the rest
of the body goes on from there. -/
theorem Args.wp_clear (c : Dev nD) (a : Args F) (h : cond0 a.i) (E : Set ℕ) (K : PUnit → sProp 𝕄) (P : sProp 𝕄)
    (hrest : iprop(P ∗ owns (c : Thread nD τ) a.m15 fullShare (k0_pay1 (F := F)) ∗ owns (c : Thread nD τ) a.m16 fullShare (k0_pay2 (F := F)) ∗ owns (c : Thread nD τ) a.m17 fullShare (k0_pay3 (F := F)) ∗ owns (c : Thread nD τ) a.m18 fullShare (k0_pay4 (F := F)))
      ⊢ wp frame (wpE (defs₀ (F := F)) Variants.none c none) E a.restP K) :
    iprop(P ∗ (∃ d, owns (c : Thread nD τ) a.m15 fullShare d) ∗ (∃ d, owns (c : Thread nD τ) a.m16 fullShare d) ∗ (∃ d, owns (c : Thread nD τ) a.m17 fullShare d) ∗ (∃ d, owns (c : Thread nD τ) a.m18 fullShare d))
      ⊢ wp frame (wpE (defs₀ (F := F)) Variants.none c none) E a.body K := by
  have hR : a.body = Args.clearP a a.restP := by
    unfold Args.body Args.restP Args.clearP
    rw [cc0_swa_bwd_eq_skeleton]; unfold cc0_swa_bwd_skel; exact dif_pos h
  rw [hR]
  generalize a.restP = R at hrest ⊢
  -- [cc0_swa_bwd_eq_skeleton]; unfold cc0_swa_bwd_skel
  unfold Args.clearP owns
  iintro ⟨HP, ⟨%d0, %f0, -, HS0⟩, ⟨%d1, %f1, -, HS1⟩, ⟨%d2, %f2, -, HS2⟩, ⟨%d3, %f3, -, HS3⟩⟩
  sl_exec
  iapply hrest
  isplitl [HP]; · iexact HP
  isplitl [HS0]
  · unfold owns; iexists _; isplitr
    swap; · iexact HS0
    ipureintro; exact View.read_writes_full ..
  isplitl [HS1]
  · unfold owns; iexists _; isplitr
    swap; · iexact HS1
    ipureintro; exact View.read_writes_full ..
  isplitl [HS2]
  · unfold owns; iexists _; isplitr
    swap; · iexact HS2
    ipureintro; exact View.read_writes_full ..
  unfold owns; iexists _; isplitr
  swap; · iexact HS3
  ipureintro; exact View.read_writes_full ..

/-- The whole body, naming nothing of what it leaves. -/
theorem Args.body_any (c : Dev nD) (a : Args F) (E : Set ℕ) (K : PUnit → sProp 𝕄) :
    iprop(a.ins c ∗ a.outs c ∗ a.scrs c ∗ (iprop(a.ins c ∗ a.outs c ∗ a.scrs c) -∗ K ⟨⟩))
      ⊢ wp frame (wpE (defs₀ (F := F)) Variants.none c none) E a.body K := by
  by_cases h : cond0 a.i
  · refine BIBase.Entails.trans ?_ (a.wp_clear c h E K iprop(a.ins c ∗ a.outs c ∗ (iprop(a.ins c ∗ a.outs c ∗ a.scrs c) -∗ K ⟨⟩)) ?_)
    · unfold Args.scrs
      iintro ⟨HI, HO, HS, Hk⟩
      isplitl [HI HO Hk]
      · isplitl [HI]; · iexact HI
        isplitl [HO]; · iexact HO
        iexact Hk
      iexact HS
    · iintro ⟨⟨HI, HO, Hk⟩, HS0, HS1, HS2, HS3⟩
      iapply (({ a with y0 := k0_pay1, y1 := k0_pay2, y2 := k0_pay3, y3 := k0_pay4 } : Args F).rest_any c E K)
      isplitl [HI]; · iexact HI
      isplitl [HO]; · iexact HO
      isplitl [HS0 HS1 HS2 HS3]
      · unfold Args.scr
        isplitl [HS0]; · iexact HS0
        isplitl [HS1]; · iexact HS1
        isplitl [HS2]; · iexact HS2
        iexact HS3
      iexact Hk
  · rw [a.body_eq_rest h]
    unfold Args.scrs
    iintro ⟨HI, HO, ⟨⟨%e0, HS0⟩, ⟨%e1, HS1⟩, ⟨%e2, HS2⟩, ⟨%e3, HS3⟩⟩, Hk⟩
    iapply (({ a with y0 := e0, y1 := e1, y2 := e2, y3 := e3 } : Args F).rest_any c E K)
    isplitl [HI]; · iexact HI
    isplitl [HO]; · iexact HO
    isplitl [HS0 HS1 HS2 HS3]
    · unfold Args.scr
      isplitl [HS0]; · iexact HS0
      isplitl [HS1]; · iexact HS1
      isplitl [HS2]; · iexact HS2
      iexact HS3
    iexact Hk

end Cert.Kernel.Gen

end
-- ==== Proof.K.Frame.lean ====
module

public import proofs.«01_k».proof.Proof.K.Body
public import Idealize.ShloMosaic.Lib.VecWindow
public import Idealize.ShloMosaic.Lib.Claim

/-! The frame of the program: its outputs and its scratch are held at some contents throughout, nothing of them is named,
and every argument array ends as it was. -/

@[expose] public section

set_option maxRecDepth 16384

noncomputable section

namespace Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-- What the body is given at point `t`: the staging buffers in use there, the inputs' blocks, the scratch at `y…`. -/
def pt (c : Dev nD) (t : Fin cfg0.N) (y0 y1 : Vec F S5x256x256 .fp8e4m3) (y2 y3 : Vec F S5x256x256 .f32) : Args F :=
  { i := grid0.coords t, m2 := win0_0.stage (cfg0.slots t 0), h2 := hstage0_0 ((cfg0.slots t 0).cast nbuf0_0), m3 := win0_1.stage (cfg0.slots t 1), h3 := hstage0_1 ((cfg0.slots t 1).cast nbuf0_1), m4 := win0_2.stage (cfg0.slots t 2), h4 := hstage0_2 ((cfg0.slots t 2).cast nbuf0_2), m5 := win0_3.stage (cfg0.slots t 3), h5 := hstage0_3 ((cfg0.slots t 3).cast nbuf0_3), m6 := win0_4.stage (cfg0.slots t 4), h6 := hstage0_4 ((cfg0.slots t 4).cast nbuf0_4), m7 := win0_5.stage (cfg0.slots t 5), h7 := hstage0_5 ((cfg0.slots t 5).cast nbuf0_5), m8 := win0_6.stage (cfg0.slots t 6), h8 := hstage0_6 ((cfg0.slots t 6).cast nbuf0_6), m9 := win0_7.stage (cfg0.slots t 7), h9 := hstage0_7 ((cfg0.slots t 7).cast nbuf0_7), m10 := win0_8.stage (cfg0.slots t 8), h10 := hstage0_8 ((cfg0.slots t 8).cast nbuf0_8), m11 := win0_9.stage (cfg0.slots t 9), h11 := hstage0_9 ((cfg0.slots t 9).cast nbuf0_9), m12 := win0_10.stage (cfg0.slots t 10), h12 := hstage0_10 ((cfg0.slots t 10).cast nbuf0_10), m13 := win0_11.stage (cfg0.slots t 11), h13 := hstage0_11 ((cfg0.slots t 11).cast nbuf0_11), m14 := win0_12.stage (cfg0.slots t 12), h14 := hstage0_12 ((cfg0.slots t 12).cast nbuf0_12), m15 := Memref.whole cc0_scratch0, h15 := Memref.isWhole_whole _, m16 := Memref.whole cc0_scratch1, h16 := Memref.isWhole_whole _, m17 := Memref.whole cc0_scratch2, h17 := Memref.isWhole_whole _, m18 := Memref.whole cc0_scratch3, h18 := Memref.isWhole_whole _, x0 := iblk m c 0 t, x1 := iblk m c 1 t, x2 := iblk m c 2 t, x3 := iblk m c 3 t, x4 := iblk m c 4 t, x5 := iblk m c 5 t, x6 := iblk m c 6 t, x7 := iblk m c 7 t, x8 := iblk m c 8 t, x9 := iblk m c 9 t, y0 := y0, y1 := y1, y2 := y2, y3 := y3 }

/-- The scratch operands at some contents, and the generator register: the region's own invariant. -/
theorem PhiA0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d)) ∗ (∃ r, prngReg c r)) := by
  unfold Pipeline.ΦA; rw [scopedRest0_eq]; simp only [owns_whole]; try rfl

/-- The host buffers written after the region. -/
def T0 : Finset (Ref sig .tc) := {main_v12, main_v13, main_v14, main_v15, main_v16, main_v17}

/-- The host lines after the region write those only. -/
theorem sfx_writes : ∀ ops ∈ ([hostOps1] : List (List (HloOp τ sig (Elt F)))), ∀ op ∈ ops,
    ∀ b : Ref sig .tc, Proc.devRef .tc b ∈ op.writes → b ∈ T0 := by
  intro ops hops op hop
  simp only [List.mem_cons, List.mem_nil_iff, or_false] at hops
  rcases hops with rfl
  · simp only [hostOps1, List.mem_cons, List.mem_nil_iff, or_false] at hop
    rcases hop with rfl | rfl | rfl | rfl | rfl | rfl
    all_goals intro b hb; simp only [StableHlo.unary_writes, Finset.mem_singleton] at hb; cases Proc.devRef_injective _ hb; decide

/-- The arguments end unchanged, from a run whose post forgets the outputs. -/
theorem frame_ofR (rdat : (c : Dev nD) → Pipeline.RDat τ (Elt F) Unit ℕ (UR sig nD τ) ℕ (cfgs 0) c)
    (hA : ∀ c w, (rdat c).A w = V m c (Pipeline.arrRef spec0 w))
    (h : θ_run defs (onTc (τ := τ) (main (F := F))) (s₀ m ρ) (Pipeline.RDat.FramePostR (cfgs 0) rdat T0 (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)) :=
  (θ_run defs _ _).mono (fun _ h c => ⟨((h c).2 main_arg0 (Finset.mem_sdiff.mpr ⟨Pipeline.mem_restRefs_of main_arg0 (by decide) (by decide), by decide⟩)).trans (V_main_arg0 m c),
      (Pipeline.RDat.FramePostR.arr_in h c 0 rfl).trans ((hA c 0).trans (V_main_arg1 m c)),
      ((h c).2 main_arg2 (Finset.mem_sdiff.mpr ⟨Pipeline.mem_restRefs_of main_arg2 (by decide) (by decide), by decide⟩)).trans (V_main_arg2 m c),
      (Pipeline.RDat.FramePostR.arr_in h c 1 rfl).trans ((hA c 1).trans (V_main_arg3 m c)),
      ((h c).2 main_arg4 (Finset.mem_sdiff.mpr ⟨Pipeline.mem_restRefs_of main_arg4 (by decide) (by decide), by decide⟩)).trans (V_main_arg4 m c),
      (Pipeline.RDat.FramePostR.arr_in h c 2 rfl).trans ((hA c 2).trans (V_main_arg5 m c)),
      ((h c).2 main_arg6 (Finset.mem_sdiff.mpr ⟨Pipeline.mem_restRefs_of main_arg6 (by decide) (by decide), by decide⟩)).trans (V_main_arg6 m c),
      (Pipeline.RDat.FramePostR.arr_in h c 3 rfl).trans ((hA c 3).trans (V_main_arg7 m c)),
      ((h c).2 main_arg8 (Finset.mem_sdiff.mpr ⟨Pipeline.mem_restRefs_of main_arg8 (by decide) (by decide), by decide⟩)).trans (V_main_arg8 m c),
      ((h c).2 main_arg9 (Finset.mem_sdiff.mpr ⟨Pipeline.mem_restRefs_of main_arg9 (by decide) (by decide), by decide⟩)).trans (V_main_arg9 m c)⟩) h

/-- The output windows, whose contents are not named. -/
def forgets0 : Fin 13 → Bool := fun w => w.val == 10 || w.val == 11 || w.val == 12

/-- The proof data: each input's buffer at its block, the outputs at no named contents, the scratch at some contents. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, h⟩ => Pipeline.Dat.unnamed (cfg := cfg0) ⟨10, h⟩ t
    | ⟨11, h⟩ => Pipeline.Dat.unnamed (cfg := cfg0) ⟨11, h⟩ t
    | ⟨12, h⟩ => Pipeline.Dat.unnamed (cfg := cfg0) ⟨12, h⟩ t
  Φ t := Pipeline.ΦA spec0 c
  q _ := fullShare
  owed _ := 0

/-- The proof data's arrays are the region-entry contents. -/
theorem A_eq (c : Dev nD) (w : Fin cfg0.W) : (dats m 0 c).A w = V m c (Pipeline.arrRef spec0 w) := by
  dsimp only [dats]

/-- Input window 0 holds its block after the body. -/
theorem after0_0 (c : Dev nD) (t : Fin cfg0.N) : (dats m 0 c).after 0 t = iblk m c 0 t := by dsimp only [dats]
/-- Input window 0 holds its block before the body. -/
theorem before0_0 (c : Dev nD) (t : Fin cfg0.N) (d) : (dats m 0 c).before 0 t d = iblk m c 0 t :=
  before0_0_of m (dats m 0 c) (A_eq m c 0) (after0_0 m c) t d
/-- Input window 1 holds its block after the body. -/
theorem after0_1 (c : Dev nD) (t : Fin cfg0.N) : (dats m 0 c).after 1 t = iblk m c 1 t := by dsimp only [dats]
/-- Input window 1 holds its block before the body. -/
theorem before0_1 (c : Dev nD) (t : Fin cfg0.N) (d) : (dats m 0 c).before 1 t d = iblk m c 1 t :=
  before0_1_of m (dats m 0 c) (A_eq m c 1) (after0_1 m c) t d
/-- Input window 2 holds its block after the body. -/
theorem after0_2 (c : Dev nD) (t : Fin cfg0.N) : (dats m 0 c).after 2 t = iblk m c 2 t := by dsimp only [dats]
/-- Input window 2 holds its block before the body. -/
theorem before0_2 (c : Dev nD) (t : Fin cfg0.N) (d) : (dats m 0 c).before 2 t d = iblk m c 2 t :=
  before0_2_of m (dats m 0 c) (A_eq m c 2) (after0_2 m c) t d
/-- Input window 3 holds its block after the body. -/
theorem after0_3 (c : Dev nD) (t : Fin cfg0.N) : (dats m 0 c).after 3 t = iblk m c 3 t := by dsimp only [dats]
/-- Input window 3 holds its block before the body. -/
theorem before0_3 (c : Dev nD) (t : Fin cfg0.N) (d) : (dats m 0 c).before 3 t d = iblk m c 3 t :=
  before0_3_of m (dats m 0 c) (A_eq m c 3) (after0_3 m c) t d
/-- Input window 4 holds its block after the body. -/
theorem after0_4 (c : Dev nD) (t : Fin cfg0.N) : (dats m 0 c).after 4 t = iblk m c 4 t := by dsimp only [dats]
/-- Input window 4 holds its block before the body. -/
theorem before0_4 (c : Dev nD) (t : Fin cfg0.N) (d) : (dats m 0 c).before 4 t d = iblk m c 4 t :=
  before0_4_of m (dats m 0 c) (A_eq m c 4) (after0_4 m c) t d
/-- Input window 5 holds its block after the body. -/
theorem after0_5 (c : Dev nD) (t : Fin cfg0.N) : (dats m 0 c).after 5 t = iblk m c 5 t := by dsimp only [dats]
/-- Input window 5 holds its block before the body. -/
theorem before0_5 (c : Dev nD) (t : Fin cfg0.N) (d) : (dats m 0 c).before 5 t d = iblk m c 5 t :=
  before0_5_of m (dats m 0 c) (A_eq m c 5) (after0_5 m c) t d
/-- Input window 6 holds its block after the body. -/
theorem after0_6 (c : Dev nD) (t : Fin cfg0.N) : (dats m 0 c).after 6 t = iblk m c 6 t := by dsimp only [dats]
/-- Input window 6 holds its block before the body. -/
theorem before0_6 (c : Dev nD) (t : Fin cfg0.N) (d) : (dats m 0 c).before 6 t d = iblk m c 6 t :=
  before0_6_of m (dats m 0 c) (A_eq m c 6) (after0_6 m c) t d
/-- Input window 7 holds its block after the body. -/
theorem after0_7 (c : Dev nD) (t : Fin cfg0.N) : (dats m 0 c).after 7 t = iblk m c 7 t := by dsimp only [dats]
/-- Input window 7 holds its block before the body. -/
theorem before0_7 (c : Dev nD) (t : Fin cfg0.N) (d) : (dats m 0 c).before 7 t d = iblk m c 7 t :=
  before0_7_of m (dats m 0 c) (A_eq m c 7) (after0_7 m c) t d
/-- Input window 8 holds its block after the body. -/
theorem after0_8 (c : Dev nD) (t : Fin cfg0.N) : (dats m 0 c).after 8 t = iblk m c 8 t := by dsimp only [dats]
/-- Input window 8 holds its block before the body. -/
theorem before0_8 (c : Dev nD) (t : Fin cfg0.N) (d) : (dats m 0 c).before 8 t d = iblk m c 8 t :=
  before0_8_of m (dats m 0 c) (A_eq m c 8) (after0_8 m c) t d
/-- Input window 9 holds its block after the body. -/
theorem after0_9 (c : Dev nD) (t : Fin cfg0.N) : (dats m 0 c).after 9 t = iblk m c 9 t := by dsimp only [dats]
/-- Input window 9 holds its block before the body. -/
theorem before0_9 (c : Dev nD) (t : Fin cfg0.N) (d) : (dats m 0 c).before 9 t d = iblk m c 9 t :=
  before0_9_of m (dats m 0 c) (A_eq m c 9) (after0_9 m c) t d

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare d)
    ∗ (∃ d, owns (c : Thread nD τ) (win0_11.stage (cfg0.slots t 11)) fullShare d)
    ∗ (∃ d, owns (c : Thread nD τ) (win0_12.stage (cfg0.slots t 12)) fullShare d))

/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ (∃ d, owns (c : Thread nD τ) (win0_10.stage (cfg0.slots t 10)) fullShare d)
    ∗ (∃ d, owns (c : Thread nD τ) (win0_11.stage (cfg0.slots t 11)) fullShare d)
    ∗ (∃ d, owns (c : Thread nD τ) (win0_12.stage (cfg0.slots t 12)) fullShare d))

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  have key := (pt m c t (k0_pay1 (F := F)) k0_pay2 k0_pay3 k0_pay4).body_any c Set.univ (fun _ => bodyPost m c t)
  unfold bodyPre
  simp only [before0_0, before0_1, before0_2, before0_3, before0_4, before0_5, before0_6, before0_7, before0_8, before0_9]
  rw [show (dats m 0 c).Φ t.castSucc = Pipeline.ΦA spec0 c from rfl, PhiA0_eq]
  refine BIBase.Entails.trans ?_ key
  unfold Args.ins Args.outs Args.scrs bodyPost
  rw [show (dats m 0 c).owesAt () t.succ = (dats m 0 c).owesAt () t.castSucc from rfl, after0_0, after0_1, after0_2, after0_3, after0_4, after0_5, after0_6, after0_7, after0_8, after0_9,
    show (dats m 0 c).Φ t.succ = Pipeline.ΦA spec0 c from rfl, PhiA0_eq]
  dsimp only [pt]
  iintro ⟨⟨HS, Hg⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, H10, H11, H12⟩
  isplitl [H0 H1 H2 H3 H4 H5 H6 H7 H8 H9]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [H10 H11 H12]
  · isplitl [H10]; · iexact H10
    isplitl [H11]; · iexact H11
    iexact H12
  isplitl [HS]; · iexact HS
  iintro ⟨⟨H0, H1, H2, H3, H4, H5, H6, H7, H8, H9⟩, ⟨H10, H11, H12⟩, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ forgets0 := fun t => by
  rw [bigSep_W0, bigSep_W0, defs₀_row]
  exact triple_restated (sound_body m c t) rfl .rfl fun _ => .rfl

set_option backward.isDefEq.respectTransparency.types false in
set_option maxHeartbeats 800000 in
/-- The run of @main: every weakly fair execution ends, the inputs as they were, every semaphore counter at zero. -/
theorem run_main_quiescent : θ_run defs (onTc (τ := τ) (main (F := F))) (s₀ m ρ) (fun r => (Pipeline.RDat.FramePostR (cfgs 0) (fun c => (dats m 0 c).toRForget forgets0) T0 (V m)) r ∧ r.2.sem = fun _ => 0) :=
  Pipeline.θ_run_frame_around_T_track_forget (Q' := _) cfgs (dats m) (0 : Fin 1) launch0 defs₀ Variants.none forgets0 T0 m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps) (hT := sfx_writes)
    (hmain := hmain m Variants.none) (hA := A_eq m) (hin := fun _ => .rfl) (hout := fun _ => .rfl)

/-- The frame: the argument arrays end unchanged and every counter at zero, at any float semantics. -/
theorem frameT : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_ofR m ρ (fun c => (dats m 0 c).toRForget forgets0) (A_eq m) ((θ_run defs _ _).mono (fun _ h => h.1) (run_main_quiescent m ρ)))
    ((θ_run defs _ _).mono (fun _ h => h.2) (run_main_quiescent m ρ))

end Cert.Kernel.Gen

end
-- ==== Proof.KI.Rest.lean ====
module

public import proofs.«01_k».proof.Proof.Gen.KernelIdeal.Frame
public import proofs.«01_k».proof.Proof.Gen.KernelIdeal.Skeleton

/-! The body of the kernel on whole memrefs, run symbolically. `Args` bundles what one call of the body is given: its
grid coordinates, its memrefs (each a whole buffer), the contents of the inputs and the contents of the carried
scratch. `restP` is the body after its first conditional (the one that clears the scratch at the start of a head
group); `runB` runs it at a point that has a query block, `runC` at a point that only writes gradients out. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

/-- What one call of the body is given: the coordinates, the memrefs, the inputs' contents `x…` and the contents `y…`
of the four scratch buffers (the key and value rings, the two accumulator rings). -/
structure Args (F : FTy → Type) where
  i : grid0.Coords
  m2 : Memref sig .tc .smem S8 .f32
  h2 : m2.IsWhole
  m3 : Memref sig .tc .smem S4 .f32
  h3 : m3.IsWhole
  m4 : Memref sig .tc .smem S4 .f32
  h4 : m4.IsWhole
  m5 : Memref sig .tc .smem S8 .f32
  h5 : m5.IsWhole
  m6 : Memref sig .tc .vmem S2x256x256 .fp8e4m3
  h6 : m6.IsWhole
  m7 : Memref sig .tc .vmem S1x256x256 .fp8e4m3
  h7 : m7.IsWhole
  m8 : Memref sig .tc .vmem S1x256x256 .fp8e4m3
  h8 : m8.IsWhole
  m9 : Memref sig .tc .vmem S2x256x256 .fp8e5m2
  h9 : m9.IsWhole
  m10 : Memref sig .tc .vmem S2x256x256 .bf16
  h10 : m10.IsWhole
  m11 : Memref sig .tc .vmem S1x2x256 .f32
  h11 : m11.IsWhole
  m12 : Memref sig .tc .vmem S2x256x256 .bf16
  h12 : m12.IsWhole
  m13 : Memref sig .tc .vmem S1x256x256 .bf16
  h13 : m13.IsWhole
  m14 : Memref sig .tc .vmem S1x256x256 .bf16
  h14 : m14.IsWhole
  m15 : Memref sig .tc .vmem S5x256x256 .fp8e4m3
  h15 : m15.IsWhole
  m16 : Memref sig .tc .vmem S5x256x256 .fp8e4m3
  h16 : m16.IsWhole
  m17 : Memref sig .tc .vmem S5x256x256 .f32
  h17 : m17.IsWhole
  m18 : Memref sig .tc .vmem S5x256x256 .f32
  h18 : m18.IsWhole
  x0 : Vec F S8 .f32
  x1 : Vec F S4 .f32
  x2 : Vec F S4 .f32
  x3 : Vec F S8 .f32
  x4 : Vec F S2x256x256 .fp8e4m3
  x5 : Vec F S1x256x256 .fp8e4m3
  x6 : Vec F S1x256x256 .fp8e4m3
  x7 : Vec F S2x256x256 .fp8e5m2
  x8 : Vec F S2x256x256 .bf16
  x9 : Vec F S1x2x256 .f32
  y0 : Vec F S5x256x256 .fp8e4m3
  y1 : Vec F S5x256x256 .fp8e4m3
  y2 : Vec F S5x256x256 .f32
  y3 : Vec F S5x256x256 .f32

variable {F : FTy → Type} [FloatOps F] [Named F]

local notation "𝕄" => MT nD τ sig Unit (Elt F) ℕ (UR sig nD τ) ℕ

/-- The first conditional's condition: the point is the first of its head group. -/
abbrev cond0 (i : grid0.Coords) : Prop :=
  (Scalar.cmpi .ne (Scalar.extui (Scalar.cmpi .eq (BitVec.ofNat 32 (i 1).val) 0#32)) 0#32) = 1#1

/-- The inputs, each held at its contents. -/
def Args.ins (a : Args F) (c : Dev nD) : sProp 𝕄 :=
  iprop(owns (c : Thread nD τ) a.m2 fullShare a.x0 ∗ owns (c : Thread nD τ) a.m3 fullShare a.x1 ∗ owns (c : Thread nD τ) a.m4 fullShare a.x2 ∗ owns (c : Thread nD τ) a.m5 fullShare a.x3 ∗ owns (c : Thread nD τ) a.m6 fullShare a.x4 ∗ owns (c : Thread nD τ) a.m7 fullShare a.x5 ∗ owns (c : Thread nD τ) a.m8 fullShare a.x6 ∗ owns (c : Thread nD τ) a.m9 fullShare a.x7 ∗ owns (c : Thread nD τ) a.m10 fullShare a.x8 ∗ owns (c : Thread nD τ) a.m11 fullShare a.x9)

/-- The scratch, each buffer held at its contents. -/
def Args.scr (a : Args F) (c : Dev nD) : sProp 𝕄 :=
  iprop(owns (c : Thread nD τ) a.m15 fullShare a.y0 ∗ owns (c : Thread nD τ) a.m16 fullShare a.y1 ∗ owns (c : Thread nD τ) a.m17 fullShare a.y2 ∗ owns (c : Thread nD τ) a.m18 fullShare a.y3)

/-- The body on the bundled arguments. -/
abbrev Args.body (a : Args F) : Prog (TpuEff nD τ sig (Elt F) Λ₀ .tc) PUnit :=
  cc0_swa_bwd a.i a.m2 a.h2 a.m3 a.h3 a.m4 a.h4 a.m5 a.h5 a.m6 a.h6 a.m7 a.h7 a.m8 a.h8 a.m9 a.h9 a.m10 a.h10 a.m11 a.h11 a.m12 a.h12 a.m13 a.h13 a.m14 a.h14 a.m15 a.h15 a.m16 a.h16 a.m17 a.h17 a.m18 a.h18

/-- The body after its first conditional. -/
def Args.restP (a : Args F) : Prog (TpuEff nD τ sig (Elt F) Λ₀ .tc) PUnit := do
  let arg0 : BitVec 32 := BitVec.ofNat 32 (a.i 0).val
  let arg1 : BitVec 32 := BitVec.ofNat 32 (a.i 1).val
  let v3 : BitVec 32 := Scalar.remsi arg1 5#32
  if k0_h2 : k0_cond2 a.i = 1#1 then do
    let ⟨v45, v46, v49, v51, v53⟩ : Σ' (v45 : IVec S256x256 32) (v46 : IVec S256x256 32) (v49 : F .f32) (v51 : BitVec 32), FVec F S256x256 .fp8e4m3 ← k0_part1 a.i a.m2 a.h2 a.m3 a.h3 a.m4 a.h4 a.m5 a.h5 a.m6 a.h6 a.m7 a.h7 a.m8 a.h8 a.m9 a.h9 a.m10 a.h10 a.m11 a.h11 a.m12 a.h12 a.m13 a.h13 a.m14 a.h14 a.m15 a.h15 a.m16 a.h16 a.m17 a.h17 a.m18 a.h18 arg0 v3 k0_h2
    let ⟨v55, v56, v57, v61, v66, v78, v82, v83, v86, v89, v92, v95⟩ : Σ' (v55 : FVec F S256x256 .fp8e5m2) (v56 : FVec F S256x256 .bf16) (v57 : FVec F S256x256 .bf16) (v61 : F .f32) (v66 : F .f32) (v78 : FVec F S1x256 .f32) (v82 : FVec F S1x256 .f32) (v83 : FVec F S256x256 .f32) (v86 : BitVec 32) (v89 : FVec F S256x256 .fp8e4m3) (v92 : FVec F S256x256 .fp8e4m3), FVec F S256x256 .f32 ← k0_part2 a.i a.m2 a.h2 a.m3 a.h3 a.m4 a.h4 a.m5 a.h5 a.m6 a.h6 a.m7 a.h7 a.m8 a.h8 a.m9 a.h9 a.m10 a.h10 a.m11 a.h11 a.m12 a.h12 a.m13 a.h13 a.m14 a.h14 a.m15 a.h15 a.m16 a.h16 a.m17 a.h17 a.m18 a.h18 arg0 arg1 k0_h2 v49 v51 v53
    let ⟨v116, v139⟩ : Σ' (v116 : FVec F S256x256 .bf16), FVec F S256x256 .f32 ← k0_part3 a.i a.m2 a.h2 a.m3 a.h3 a.m4 a.h4 a.m5 a.h5 a.m6 a.h6 a.m7 a.h7 a.m8 a.h8 a.m9 a.h9 a.m10 a.h10 a.m11 a.h11 a.m12 a.h12 a.m13 a.h13 a.m14 a.h14 a.m15 a.h15 a.m16 a.h16 a.m17 a.h17 a.m18 a.h18 k0_h2 v45 v46 v51 v55 v56 v57 v66 v78 v82 v86 v92 v95
    let ⟨v146, v149, v152, v176, v179, v180, v183⟩ : Σ' (v146 : FVec F S256x256 .f32) (v149 : BitVec 32) (v152 : FVec F S256x256 .fp8e4m3) (v176 : FVec F S256x256 .bf16) (v179 : FVec F S256x256 .f32) (v180 : FVec F S256x256 .f32), FVec F S256x256 .f32 ← k0_part4 a.i a.m2 a.h2 a.m3 a.h3 a.m4 a.h4 a.m5 a.h5 a.m6 a.h6 a.m7 a.h7 a.m8 a.h8 a.m9 a.h9 a.m10 a.h10 a.m11 a.h11 a.m12 a.h12 a.m13 a.h13 a.m14 a.h14 a.m15 a.h15 a.m16 a.h16 a.m17 a.h17 a.m18 a.h18 arg1 k0_h2 v51 v53 v55 v57 v61 v66 v78 v82 v83 v89 v116 v139
    let ⟨v206, v209, v212, v215, v219, v223⟩ : Σ' (v206 : FVec F S256x256 .f32) (v209 : BitVec 32) (v212 : FVec F S256x256 .fp8e4m3) (v215 : FVec F S256x256 .fp8e4m3) (v219 : FVec F S256x256 .f32), FVec F S256x256 .f32 ← k0_part5 a.i a.m2 a.h2 a.m3 a.h3 a.m4 a.h4 a.m5 a.h5 a.m6 a.h6 a.m7 a.h7 a.m8 a.h8 a.m9 a.h9 a.m10 a.h10 a.m11 a.h11 a.m12 a.h12 a.m13 a.h13 a.m14 a.h14 a.m15 a.h15 a.m16 a.h16 a.m17 a.h17 a.m18 a.h18 arg1 k0_h2 v51 v53 v56 v61 v82 v146 v149 v152 v176 v179 v180 v183
    let ⟨v266, c1_i32_115⟩ : Σ' (v266 : FVec F S256x256 .f32), BitVec 32 ← k0_part6 a.i a.m2 a.h2 a.m3 a.h3 a.m4 a.h4 a.m5 a.h5 a.m6 a.h6 a.m7 a.h7 a.m8 a.h8 a.m9 a.h9 a.m10 a.h10 a.m11 a.h11 a.m12 a.h12 a.m13 a.h13 a.m14 a.h14 a.m15 a.h15 a.m16 a.h16 a.m17 a.h17 a.m18 a.h18 k0_h2 v51 v55 v56 v57 v66 v78 v206 v209 v212 v215 v219 v223
    let ⟨v269, v272, v296⟩ : Σ' (v269 : BitVec 32) (v272 : FVec F S256x256 .fp8e4m3), FVec F S256x256 .bf16 ← k0_part7 a.i a.m2 a.h2 a.m3 a.h3 a.m4 a.h4 a.m5 a.h5 a.m6 a.h6 a.m7 a.h7 a.m8 a.h8 a.m9 a.h9 a.m10 a.h10 a.m11 a.h11 a.m12 a.h12 a.m13 a.h13 a.m14 a.h14 a.m15 a.h15 a.m16 a.h16 a.m17 a.h17 a.m18 a.h18 arg1 k0_h2 v51 v53 v55 v57 v61 v66 v78 v82 c1_i32_115
    let ⟨v326, v329, v332, v339, v347, v350, v351⟩ : Σ' (v326 : FVec F S256x256 .f32) (v329 : BitVec 32) (v332 : FVec F S256x256 .fp8e4m3) (v339 : FVec F S256x256 .f32) (v347 : FVec F S256x256 .f32) (v350 : FVec F S256x256 .f32), FVec F S256x256 .f32 ← k0_part8 a.i a.m2 a.h2 a.m3 a.h3 a.m4 a.h4 a.m5 a.h5 a.m6 a.h6 a.m7 a.h7 a.m8 a.h8 a.m9 a.h9 a.m10 a.h10 a.m11 a.h11 a.m12 a.h12 a.m13 a.h13 a.m14 a.h14 a.m15 a.h15 a.m16 a.h16 a.m17 a.h17 a.m18 a.h18 arg1 k0_h2 v45 v46 v51 v53 v55 v56 v61 v66 v78 v82 v266 v269 v272 v296
    let ⟨v392, v393⟩ : Σ' (v392 : FVec F S256x256 .bf16), Vec F S1x256x256 .bf16 ← k0_part9 a.i a.m2 a.h2 a.m3 a.h3 a.m4 a.h4 a.m5 a.h5 a.m6 a.h6 a.m7 a.h7 a.m8 a.h8 a.m9 a.h9 a.m10 a.h10 a.m11 a.h11 a.m12 a.h12 a.m13 a.h13 a.m14 a.h14 a.m15 a.h15 a.m16 a.h16 a.m17 a.h17 a.m18 a.h18 k0_h2 v49 v51 v56 v57 v326 v329 v332 v339 v347 v350 v351
    let ⟨v397, v399, v401, v402, v403, v407, v412, v424, v428, v429, v431, c5_i32_182⟩ : Σ' (v397 : BitVec 32) (v399 : FVec F S256x256 .fp8e4m3) (v401 : FVec F S256x256 .fp8e5m2) (v402 : FVec F S256x256 .bf16) (v403 : FVec F S256x256 .bf16) (v407 : F .f32) (v412 : F .f32) (v424 : FVec F S1x256 .f32) (v428 : FVec F S1x256 .f32) (v429 : FVec F S256x256 .f32) (v431 : BitVec 32), BitVec 32 ← k0_part10 a.i a.m2 a.h2 a.m3 a.h3 a.m4 a.h4 a.m5 a.h5 a.m6 a.h6 a.m7 a.h7 a.m8 a.h8 a.m9 a.h9 a.m10 a.h10 a.m11 a.h11 a.m12 a.h12 a.m13 a.h13 a.m14 a.h14 a.m15 a.h15 a.m16 a.h16 a.m17 a.h17 a.m18 a.h18 arg0 arg1 k0_h2 v49 v392 v393
    let ⟨v432, v435, v462⟩ : Σ' (v432 : BitVec 32) (v435 : FVec F S256x256 .fp8e4m3), FVec F S256x256 .bf16 ← k0_part11 a.i a.m2 a.h2 a.m3 a.h3 a.m4 a.h4 a.m5 a.h5 a.m6 a.h6 a.m7 a.h7 a.m8 a.h8 a.m9 a.h9 a.m10 a.h10 a.m11 a.h11 a.m12 a.h12 a.m13 a.h13 a.m14 a.h14 a.m15 a.h15 a.m16 a.h16 a.m17 a.h17 a.m18 a.h18 k0_h2 v45 v46 v397 v399 v401 v403 v407 v412 v424 v428 v431 c5_i32_182
    let ⟨v492, v495, v498, v510, v516, v517, cst_214⟩ : Σ' (v492 : FVec F S256x256 .f32) (v495 : BitVec 32) (v498 : FVec F S256x256 .fp8e4m3) (v510 : FVec F S256x256 .f32) (v516 : FVec F S256x256 .f32) (v517 : FVec F S256x256 .f32), F .f32 ← k0_part12 a.i a.m2 a.h2 a.m3 a.h3 a.m4 a.h4 a.m5 a.h5 a.m6 a.h6 a.m7 a.h7 a.m8 a.h8 a.m9 a.h9 a.m10 a.h10 a.m11 a.h11 a.m12 a.h12 a.m13 a.h13 a.m14 a.h14 a.m15 a.h15 a.m16 a.h16 a.m17 a.h17 a.m18 a.h18 arg1 k0_h2 v397 v399 v401 v402 v407 v412 v424 v428 v429 v432 v435 v462
    let ⟨v552, v555, v558⟩ : Σ' (v552 : FVec F S256x256 .f32) (v555 : BitVec 32), FVec F S256x256 .fp8e4m3 ← k0_part13 a.i a.m2 a.h2 a.m3 a.h3 a.m4 a.h4 a.m5 a.h5 a.m6 a.h6 a.m7 a.h7 a.m8 a.h8 a.m9 a.h9 a.m10 a.h10 a.m11 a.h11 a.m12 a.h12 a.m13 a.h13 a.m14 a.h14 a.m15 a.h15 a.m16 a.h16 a.m17 a.h17 a.m18 a.h18 arg1 k0_h2 v397 v402 v403 v492 v495 v498 v510 v516 v517 cst_214
    let ⟨v582, v598, v599, v602⟩ : Σ' (v582 : FVec F S256x256 .bf16) (v598 : FVec F S256x256 .f32) (v599 : FVec F S256x256 .f32), F .f32 ← k0_part14 a.i a.m2 a.h2 a.m3 a.h3 a.m4 a.h4 a.m5 a.h5 a.m6 a.h6 a.m7 a.h7 a.m8 a.h8 a.m9 a.h9 a.m10 a.h10 a.m11 a.h11 a.m12 a.h12 a.m13 a.h13 a.m14 a.h14 a.m15 a.h15 a.m16 a.h16 a.m17 a.h17 a.m18 a.h18 k0_h2 v397 v399 v401 v402 v403 v407 v412 v424 v428 v555 v558
    let ⟨v612, v615, v618, v641, v642, v645⟩ : Σ' (v612 : FVec F S256x256 .f32) (v615 : BitVec 32) (v618 : FVec F S256x256 .fp8e4m3) (v641 : FVec F S256x256 .bf16) (v642 : FVec F S256x256 .bf16), FVec F S256x256 .f32 ← k0_part15 a.i a.m2 a.h2 a.m3 a.h3 a.m4 a.h4 a.m5 a.h5 a.m6 a.h6 a.m7 a.h7 a.m8 a.h8 a.m9 a.h9 a.m10 a.h10 a.m11 a.h11 a.m12 a.h12 a.m13 a.h13 a.m14 a.h14 a.m15 a.h15 a.m16 a.h16 a.m17 a.h17 a.m18 a.h18 arg1 k0_h2 v399 v401 v407 v412 v424 v428 v552 v555 v558 v582 v598 v599 v602
    let ⟨v672, v675, v678, v681, v685⟩ : Σ' (v672 : FVec F S256x256 .f32) (v675 : BitVec 32) (v678 : FVec F S256x256 .fp8e4m3) (v681 : FVec F S256x256 .fp8e4m3), FVec F S256x256 .f32 ← k0_part16 a.i a.m2 a.h2 a.m3 a.h3 a.m4 a.h4 a.m5 a.h5 a.m6 a.h6 a.m7 a.h7 a.m8 a.h8 a.m9 a.h9 a.m10 a.h10 a.m11 a.h11 a.m12 a.h12 a.m13 a.h13 a.m14 a.h14 a.m15 a.h15 a.m16 a.h16 a.m17 a.h17 a.m18 a.h18 arg1 k0_h2 v397 v399 v402 v403 v407 v612 v615 v618 v641 v642 v645
    let ⟨v705, v728⟩ : Σ' (v705 : FVec F S256x256 .bf16), FVec F S256x256 .f32 ← k0_part17 a.i a.m2 a.h2 a.m3 a.h3 a.m4 a.h4 a.m5 a.h5 a.m6 a.h6 a.m7 a.h7 a.m8 a.h8 a.m9 a.h9 a.m10 a.h10 a.m11 a.h11 a.m12 a.h12 a.m13 a.h13 a.m14 a.h14 a.m15 a.h15 a.m16 a.h16 a.m17 a.h17 a.m18 a.h18 k0_h2 v45 v46 v397 v401 v402 v403 v412 v424 v428 v675 v681 v685
    let v730 : Vec F S1x256x256 .f32 ← Prog.lift (.load a.m17 (Rect.unit (s := S5x256x256) (k0_off4 a.i 4#32) S1x256x256.size (k0_off4_inb a.i k0_h2 4)).toLoadRect (View.loadsAt_vmem h_S1x256x256))
    Prog.lift (.store a.m17 (Rect.unit (s := S5x256x256) (k0_off4 a.i 4#32) S1x256x256.size (k0_off4_inb a.i k0_h2 4)) (k0_pay5 v728) Finset.univ (View.stores_vmem_bits_univ h_S1x256x256 rfl) (.inl rfl))
    let v739 : Vec F S1x256x256 .bf16 ← Prog.lift (.load a.m12 (Rect.unit (s := S2x256x256) ![1, 0, 0] S1x256x256.size inb_S2x256x256_S1x256x256_1_0_0).toLoadRect (View.loadsAt_vmem h_S1x256x256))
    Prog.lift (.store a.m12 (Rect.unit (s := S2x256x256) ![1, 0, 0] S1x256x256.size inb_S2x256x256_S1x256x256_1_0_0) (k0_pay6 v49 v672 v678 v705) Finset.univ (View.stores_vmem h_S1x256x256 (a.h12.storeExact_slice rfl _ packedbf16_S2x256x256_S1x256x256_1_0_0) (fun _ => rfl)) (.inl rfl))
    pure ⟨⟩
  else do
    pure ⟨⟩
  let v10 : Vec F S1x256x256 .f32 ← Prog.lift (.load a.m17 (Rect.unit (s := S5x256x256) (k0_off5 a.i) S1x256x256.size (k0_off5_inb a.i)).toLoadRect (View.loadsAt_vmem h_S1x256x256))
  let v13 : Vec F S1x256x256 .bf16 ← Prog.lift (.load a.m13 (Rect.unit (s := S1x256x256) ![0, 0, 0] S1x256x256.size inb_S1x256x256_S1x256x256_0_0_0).toLoadRect (View.loadsAt_vmem h_S1x256x256))
  Prog.lift (.store a.m13 (Rect.unit (s := S1x256x256) ![0, 0, 0] S1x256x256.size inb_S1x256x256_S1x256x256_0_0_0) (k0_pay7 v10) Finset.univ (View.stores_vmem h_S1x256x256 (a.h13.storeExact_slice rfl _ packedbf16_S1x256x256_S1x256x256_0_0_0) (fun _ => rfl)) (.inl rfl))
  let v17 : Vec F S1x256x256 .f32 ← Prog.lift (.load a.m18 (Rect.unit (s := S5x256x256) (k0_off5 a.i) S1x256x256.size (k0_off5_inb a.i)).toLoadRect (View.loadsAt_vmem h_S1x256x256))
  let v20 : Vec F S1x256x256 .bf16 ← Prog.lift (.load a.m14 (Rect.unit (s := S1x256x256) ![0, 0, 0] S1x256x256.size inb_S1x256x256_S1x256x256_0_0_0).toLoadRect (View.loadsAt_vmem h_S1x256x256))
  Prog.lift (.store a.m14 (Rect.unit (s := S1x256x256) ![0, 0, 0] S1x256x256.size inb_S1x256x256_S1x256x256_0_0_0) (k0_pay8 v17) Finset.univ (View.stores_vmem h_S1x256x256 (a.h14.storeExact_slice rfl _ packedbf16_S1x256x256_S1x256x256_0_0_0) (fun _ => rfl)) (.inl rfl))
  pure ⟨⟩

/-- At a point that is not the first of its head group the body is its part after the first conditional. -/
theorem Args.body_eq_rest (a : Args F) (h : ¬ cond0 a.i) : a.body = a.restP := by
  unfold Args.body Args.restP
  rw [cc0_swa_bwd_eq_skeleton]; unfold cc0_swa_bwd_skel
  rw [dif_neg h]

set_option maxHeartbeats 4000000 in
/-- The run of the body after its first conditional, at a point that has a query block: the pieces that it leaves in
the three outputs and the four scratch buffers, and that it does. -/
noncomputable def runB (c : Dev nD) (a : Args F) (hc1 : k0_cond2 a.i = 1#1) :
    Σ' (L0 : List (View.Piece (Elt F) S2x256x256 .bf16)) (L1 L2 : List (View.Piece (Elt F) S1x256x256 .bf16))
      (LS0 LS1 : List (View.Piece (Elt F) S5x256x256 .fp8e4m3)) (LS2 : List (View.Piece (Elt F) S5x256x256 .f32)), { LS3 : List (View.Piece (Elt F) S5x256x256 .f32) //
      ∀ (E : Set ℕ) (K : PUnit → sProp 𝕄),
        iprop(a.ins c ∗ (∃ d, owns (c : Thread nD τ) a.m12 fullShare d) ∗ (∃ d, owns (c : Thread nD τ) a.m13 fullShare d) ∗ (∃ d, owns (c : Thread nD τ) a.m14 fullShare d) ∗ a.scr c ∗ (iprop(a.ins c ∗ (∃ f, (a.m12.view.loc (c : Thread nD τ) ↦[a.m12.view.set]{fullShare} a.m12.view.writes (Elt F) f L0)) ∗ (∃ f, (a.m13.view.loc (c : Thread nD τ) ↦[a.m13.view.set]{fullShare} a.m13.view.writes (Elt F) f L1)) ∗ (∃ f, (a.m14.view.loc (c : Thread nD τ) ↦[a.m14.view.set]{fullShare} a.m14.view.writes (Elt F) f L2)) ∗ (a.m15.view.loc (c : Thread nD τ) ↦[a.m15.view.set]{fullShare} a.m15.view.writes (Elt F) (a.h15.unread a.y0) LS0) ∗ (a.m16.view.loc (c : Thread nD τ) ↦[a.m16.view.set]{fullShare} a.m16.view.writes (Elt F) (a.h16.unread a.y1) LS1) ∗ (a.m17.view.loc (c : Thread nD τ) ↦[a.m17.view.set]{fullShare} a.m17.view.writes (Elt F) (a.h17.unread a.y2) LS2) ∗ (a.m18.view.loc (c : Thread nD τ) ↦[a.m18.view.set]{fullShare} a.m18.view.writes (Elt F) (a.h18.unread a.y3) LS3)) -∗ K ⟨⟩))
          ⊢ wp frame (wpE (defs₀ (F := F)) Variants.none c none) E a.restP K } := by
  refine ⟨?_, ?_, ?_, ?_, ?_, ?_, ?_, fun E K => ?run⟩
  case run =>
    unfold Args.restP Args.ins Args.scr
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton]
    unfold owns
    iintro ⟨⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%f7, %hf7, H7⟩, ⟨%f8, %hf8, H8⟩, ⟨%f9, %hf9, H9⟩⟩, ⟨%d10, %f10, -, H10⟩, ⟨%d11, %f11, -, H11⟩, ⟨%d12, %f12, -, H12⟩, ⟨⟨%g0, %hg0, HS0⟩, ⟨%g1, %hg1, HS1⟩, ⟨%g2, %hg2, HS2⟩, ⟨%g3, %hg3, HS3⟩⟩, Hk⟩
    obtain rfl := a.h2.eq_unread hf0; obtain rfl := a.h3.eq_unread hf1; obtain rfl := a.h4.eq_unread hf2; obtain rfl := a.h5.eq_unread hf3; obtain rfl := a.h6.eq_unread hf4; obtain rfl := a.h7.eq_unread hf5; obtain rfl := a.h8.eq_unread hf6; obtain rfl := a.h9.eq_unread hf7; obtain rfl := a.h10.eq_unread hf8; obtain rfl := a.h11.eq_unread hf9; obtain rfl := a.h15.eq_unread hg0; obtain rfl := a.h16.eq_unread hg1; obtain rfl := a.h17.eq_unread hg2; obtain rfl := a.h18.eq_unread hg3
    sl_exec (disch := first | sl_exact hc1)
    sl_step
    iapply Hk
    isplitl [H0 H1 H2 H3 H4 H5 H6 H7 H8 H9]
    ·
      isplitl [H0]
      · iexists _; isplitr; · ipureintro; exact a.h2.read_unread _
        iexact H0
      isplitl [H1]
      · iexists _; isplitr; · ipureintro; exact a.h3.read_unread _
        iexact H1
      isplitl [H2]
      · iexists _; isplitr; · ipureintro; exact a.h4.read_unread _
        iexact H2
      isplitl [H3]
      · iexists _; isplitr; · ipureintro; exact a.h5.read_unread _
        iexact H3
      isplitl [H4]
      · iexists _; isplitr; · ipureintro; exact a.h6.read_unread _
        iexact H4
      isplitl [H5]
      · iexists _; isplitr; · ipureintro; exact a.h7.read_unread _
        iexact H5
      isplitl [H6]
      · iexists _; isplitr; · ipureintro; exact a.h8.read_unread _
        iexact H6
      isplitl [H7]
      · iexists _; isplitr; · ipureintro; exact a.h9.read_unread _
        iexact H7
      isplitl [H8]
      · iexists _; isplitr; · ipureintro; exact a.h10.read_unread _
        iexact H8
      iexists _; isplitr; · ipureintro; exact a.h11.read_unread _
      iexact H9
    isplitl [H10]; · iexists _; iexact H10
    isplitl [H11]; · iexists _; iexact H11
    isplitl [H12]; · iexists _; iexact H12
    isplitl [HS0]; · iexact HS0
    isplitl [HS1]; · iexact HS1
    isplitl [HS2]; · iexact HS2
    iexact HS3

set_option maxHeartbeats 4000000 in
/-- The run of the body after its first conditional, at a point without a query block: it reads the two accumulator
rings and writes the key and value gradients. -/
noncomputable def runC (c : Dev nD) (a : Args F) (hc1 : ¬ k0_cond2 a.i = 1#1) :
    Σ' (L1 : List (View.Piece (Elt F) S1x256x256 .bf16)), { L2 : List (View.Piece (Elt F) S1x256x256 .bf16) //
      ∀ (E : Set ℕ) (K : PUnit → sProp 𝕄),
        iprop((∃ d, owns (c : Thread nD τ) a.m13 fullShare d) ∗ (∃ d, owns (c : Thread nD τ) a.m14 fullShare d) ∗ owns (c : Thread nD τ) a.m17 fullShare a.y2 ∗ owns (c : Thread nD τ) a.m18 fullShare a.y3 ∗ (iprop((∃ f, (a.m13.view.loc (c : Thread nD τ) ↦[a.m13.view.set]{fullShare} a.m13.view.writes (Elt F) f L1)) ∗ (∃ f, (a.m14.view.loc (c : Thread nD τ) ↦[a.m14.view.set]{fullShare} a.m14.view.writes (Elt F) f L2)) ∗ owns (c : Thread nD τ) a.m17 fullShare a.y2 ∗ owns (c : Thread nD τ) a.m18 fullShare a.y3) -∗ K ⟨⟩))
          ⊢ wp frame (wpE (defs₀ (F := F)) Variants.none c none) E a.restP K } := by
  refine ⟨?_, ?_, fun E K => ?run⟩
  case run =>
    unfold Args.restP
    unfold owns
    iintro ⟨⟨%d11, %f11, -, H11⟩, ⟨%d12, %f12, -, H12⟩, ⟨%g2, %hg2, HS2⟩, ⟨%g3, %hg3, HS3⟩, Hk⟩
    obtain rfl := a.h17.eq_unread hg2; obtain rfl := a.h18.eq_unread hg3
    sl_exec (disch := first | sl_exact hc1)
    sl_step
    iapply Hk
    isplitl [H11]; · iexists _; iexact H11
    isplitl [H12]; · iexists _; iexact H12
    isplitl [HS2]
    · iexists _; isplitr; · ipureintro; exact a.h17.read_unread _
      iexact HS2
    iexists _; isplitr; · ipureintro; exact a.h18.read_unread _
    iexact HS3

end Cert.KernelIdeal.Gen
end
-- ==== Proof.KI.Pure.lean ====
module

public import proofs.«01_k».proof.Proof.Gen.KernelIdeal.Frame

/-! What one step of the body computes, as functions: the scores of one query block of one head against one key block, the
probabilities, the score gradient, and what these add to the three gradients. `j = 0` is the oldest key block of the
window (its lower triangle is outside the window), `j = 4` the newest (its upper triangle is in the future). -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- What one head brings to a point: its blocks of queries, output gradients, outputs and log-sum-exps, and its scales. -/
structure Hd (F : FTy → Type) where
  q : Vec F S1x256x256 .fp8e4m3
  dO : Vec F S1x256x256 .fp8e5m2
  o : Vec F S1x256x256 .bf16
  lse : Vec F S1x1x256 .f32
  qs : F .f32
  dos : F .f32
  ks : F .f32
  vs : F .f32

/-- The block without its leading axis. -/
abbrev flat {e : EltTy} (x : Vec F S1x256x256 e) : Vec F S256x256 e := shapeCast S256x256 x shapeCasts_S1x256x256_S256x256
/-- The block with a leading axis. -/
abbrev lift {e : EltTy} (x : Vec F S256x256 e) : Vec F S1x256x256 e := shapeCast S1x256x256 x shapeCasts_S256x256_S1x256x256

/-- The key scale with the softmax scale. -/
def Hd.kssm (h : Hd F) : F .f32 := Scalar.mulf h.ks (Scalar.ofBits .f32 0x3D800000#32)
/-- The scale of the scores, over the softcap. -/
def Hd.c1 (h : Hd F) : F .f32 := Scalar.mulf (Scalar.mulf h.qs h.kssm) (Named.named κ "inv_softcap" 0x3E4CCCCD#32)
/-- The scale of the probability gradient. -/
def Hd.c3 (h : Hd F) : F .f32 := Scalar.mulf h.dos h.vs
/-- Row sums of output gradient times output. -/
def Hd.delta (h : Hd F) : FVec F S1x256 .f32 :=
  mulf (shapeCast S1x256 (multiReduction .add [0] S256 (transpose S256x256 [1, 0] (mulf (extf .f32 (flat h.dO) bitsLt_fp8e5m2_f32) (extf .f32 (flat h.o) bitsLt_bf16_f32)) transposes_S256x256_p1_0_S256x256) 0x00000000#32 reduces_S256x256_S256 (.inl rfl) rfl) shapeCasts_S256_S1x256) (broadcast S1x256 h.dos)
/-- The log-sum-exps in base two. -/
def Hd.lse2 (h : Hd F) : FVec F S1x256 .f32 :=
  mulf (shapeCast S1x256 h.lse shapeCasts_S1x1x256_S1x256) (broadcast S1x256 (Named.named κ "log2e" 0x3FB8AA3B#32))
/-- The tangent of the scaled scores: keys down, queries across. -/
def Hd.th (h : Hd F) (k : Vec F S1x256x256 .fp8e4m3) : FVec F S256x256 .f32 :=
  tanh (mulf (matmul dot_S256x256_S256x256_S256x256_1_1_0_0_n_n none (flat k) (flat h.q) (constant S256x256 .f32 0x00000000#32)) (broadcast S256x256 h.c1))
/-- The mask of the window's oldest and newest block. -/
def msk (j : ℕ) (x : FVec F S256x256 .f32) : FVec F S256x256 .f32 :=
  match j with
  | 0 => select (cmpi .sgt (iota Kind.tc S256x256 32 [0] iota_S256x256_d0_w32) (iota Kind.tc S256x256 32 [1] iota_S256x256_d1_w32)) x (broadcast S256x256 (Scalar.ofBits .f32 0x00000000#32))
  | 4 => select (cmpi .sle (iota Kind.tc S256x256 32 [0] iota_S256x256_d0_w32) (iota Kind.tc S256x256 32 [1] iota_S256x256_d1_w32)) x (broadcast S256x256 (Scalar.ofBits .f32 0x00000000#32))
  | _ => x
/-- The probabilities. -/
def Hd.p (h : Hd F) (j : ℕ) (k : Vec F S1x256x256 .fp8e4m3) : FVec F S256x256 .f32 :=
  msk j (exp2 (subf (mulf (h.th k) (broadcast S256x256 (Named.named κ "softcap_log2e" 0x40E6D4CA#32))) (broadcastTo S256x256 h.lse2 broadcasts_S1x256_S256x256)))
/-- The score gradient. -/
def Hd.ds (h : Hd F) (j : ℕ) (k v : Vec F S1x256x256 .fp8e4m3) : FVec F S256x256 .bf16 :=
  truncf .bf16 (mulf (mulf (h.p j k)
      (subf (mulf (matmul dot_S256x256_S256x256_S256x256_1_1_0_0_n_n none (flat v) (flat h.dO) (constant S256x256 .f32 0x00000000#32)) (broadcast S256x256 h.c3)) (broadcastTo S256x256 h.delta broadcasts_S1x256_S256x256)))
    (subf (broadcast S256x256 (Scalar.ofBits .f32 0x3F800000#32)) (mulf (h.th k) (h.th k)))) bitsLt_bf16_f32
/-- The value gradient's accumulator after the step. -/
def Hd.dv (h : Hd F) (j : ℕ) (k : Vec F S1x256x256 .fp8e4m3) (acc : Vec F S1x256x256 .f32) : Vec F S1x256x256 .f32 :=
  lift (e := .f32) (addf (flat (e := .f32) acc) (mulf (matmul dot_S256x256_S256x256_S256x256_1_0_0_1_n_n none (truncf .bf16 (h.p j k) bitsLt_bf16_f32) (extf .bf16 (flat h.dO) bitsLt_fp8e5m2_bf16) (constant S256x256 .f32 0x00000000#32)) (broadcast S256x256 h.dos)))
/-- The key gradient's accumulator after the step. -/
def Hd.dk (h : Hd F) (j : ℕ) (k v : Vec F S1x256x256 .fp8e4m3) (acc : Vec F S1x256x256 .f32) : Vec F S1x256x256 .f32 :=
  lift (e := .f32) (addf (flat (e := .f32) acc) (mulf (matmul dot_S256x256_S256x256_S256x256_1_0_0_1_n_n none (h.ds j k v) (extf .bf16 (flat h.q) bitsLt_fp8e4m3_bf16) (constant S256x256 .f32 0x00000000#32)) (broadcast S256x256 (Scalar.mulf h.qs (Scalar.ofBits .f32 0x3D800000#32)))))
/-- The query gradient's sum after the step. -/
def Hd.dq (h : Hd F) (j : ℕ) (k v : Vec F S1x256x256 .fp8e4m3) (acc : FVec F S256x256 .f32) : FVec F S256x256 .f32 :=
  addf acc (matmul dot_S256x256_S256x256_S256x256_0_0_1_1_n_n none (h.ds j k v) (extf .bf16 (flat k) bitsLt_fp8e4m3_bf16) (constant S256x256 .f32 0x00000000#32))
/-- The query gradient of the block: the five key blocks' terms, scaled. -/
def Hd.dqOut (h : Hd F) (k v : Fin 5 → Vec F S1x256x256 .fp8e4m3) : FVec F S1x256x256 .bf16 :=
  lift (e := .bf16) (truncf .bf16 (mulf (h.dq 4 (k 4) (v 4) (h.dq 3 (k 3) (v 3) (h.dq 2 (k 2) (v 2) (h.dq 1 (k 1) (v 1) (h.dq 0 (k 0) (v 0) (broadcast S256x256 (Scalar.ofBits .f32 0x00000000#32))))))) (broadcast S256x256 h.kssm)) bitsLt_bf16_f32)

end Cert.KernelIdeal.Gen

end
-- ==== Proof.KI.Ring.lean ====
module

public import proofs.«01_k».proof.Proof.KI.Pure
public import Idealize.ShloMosaic.Lib.VecWindow
public import Idealize.ShloMosaic.Lib.ValueIdxCore

/-! The rings of five slots: which slot a load or store of the body meets, and what the slots of an accumulator ring hold after
the ten steps of a point. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open VecWindow

/-- Slot `n` of a ring fits in it. -/
theorem slot_inb (n : Fin 5) : ∀ a, (![n.val, 0, 0] : Fin 3 → ℕ) a + S1x256x256.size a ≤ S5x256x256.size a := by
  have := n.isLt
  intro a; fin_cases a <;> simp <;> omega

/-- Slot `n` of a ring. -/
def slot {α : Type} (x : S5x256x256.Idx → α) (n : Fin 5) : S1x256x256.Idx → α := window x ![n.val, 0, 0] S1x256x256.size (slot_inb n)
/-- The ring with `w` in slot `n`. -/
def setSlot {α : Type} (x : S5x256x256.Idx → α) (n : Fin 5) (w : S1x256x256.Idx → α) : S5x256x256.Idx → α := put x ![n.val, 0, 0] S1x256x256.size w

/-- A slot that was set reads what it was set to. -/
theorem slot_set_same {α : Type} (x : S5x256x256.Idx → α) (n : Fin 5) (w) : slot (setSlot x n w) n = w := window_put_same ..
/-- Setting a slot leaves the others. -/
theorem slot_set_ne {α : Type} (x : S5x256x256.Idx → α) (n n' : Fin 5) (w) (h : n' ≠ n) : slot (setSlot x n w) n' = slot x n' := by
  refine window_put_of_disjoint _ _ _ _ _ _ _ (0 : Fin 3) ?_
  have : n'.val ≠ n.val := fun e => h (Fin.ext e)
  show n'.val + 1 ≤ n.val ∨ n.val + 1 ≤ n'.val
  omega

/-- The slot of the window's block `j` at a point. -/
def sl (i : grid0.Coords) (j : Fin 5) : Fin 5 := ⟨((i 1).val + 1 + j.val) % 5, Nat.mod_lt _ (by decide)⟩

/-- Different places of the window are different slots. -/
theorem sl_ne (i : grid0.Coords) {j j' : Fin 5} (h : j ≠ j') : sl i j ≠ sl i j' := by
  intro e
  have e := congrArg Fin.val e
  simp only [sl] at e
  have := j.isLt; have := j'.isLt
  exact h (Fin.ext (by omega))

/-- The word arithmetic of the newest slot, at every point. -/
theorem off1_dec : ∀ a : Fin 132, (Scalar.indexCast (Scalar.remsi (BitVec.ofNat 32 a.val) 5#32)).toNat = (a.val + 1 + 4) % 5 := by decide +kernel
/-- The word arithmetic of window place `j`'s slot, at every point. -/
theorem off4_dec : ∀ (a : Fin 132) (j : Fin 5), (Scalar.indexCast (Scalar.remsi (Scalar.addi (Scalar.addi (BitVec.ofNat 32 a.val) 1#32) (BitVec.ofNat 32 j.val)) 5#32)).toNat = (a.val + 1 + j.val) % 5 := by decide +kernel
/-- The word arithmetic of the oldest slot, at every point. -/
theorem off5_dec : ∀ a : Fin 132, (Scalar.indexCast (Scalar.remsi (Scalar.addi (BitVec.ofNat 32 a.val) 1#32) 5#32)).toNat = (a.val + 1 + 0) % 5 := by decide +kernel

/-- The newest slot is window place 4. -/
theorem off1_eq (i : grid0.Coords) : k0_off1 i = ![(sl i 4).val, 0, 0] := by
  unfold k0_off1; dsimp only; rw [show (Scalar.indexCast (Scalar.remsi (BitVec.ofNat 32 (i 1).val) 5#32)).toNat = _ from off1_dec (i 1)]; rfl
/-- The slot of window place `j`. -/
theorem off4_eq (i : grid0.Coords) (j : Fin 5) : k0_off4 i (BitVec.ofNat 32 j.val) = ![(sl i j).val, 0, 0] := by
  unfold k0_off4; dsimp only; rw [show (Scalar.indexCast (Scalar.remsi (Scalar.addi (Scalar.addi (BitVec.ofNat 32 (i 1).val) 1#32) (BitVec.ofNat 32 j.val)) 5#32)).toNat = _ from off4_dec (i 1) j]; rfl
/-- The oldest slot is window place 0. -/
theorem off5_eq (i : grid0.Coords) : k0_off5 i = ![(sl i 0).val, 0, 0] := by
  unfold k0_off5; dsimp only; rw [show (Scalar.indexCast (Scalar.remsi (Scalar.addi (BitVec.ofNat 32 (i 1).val) 1#32) 5#32)).toNat = _ from off5_dec (i 1)]; rfl

/-- The bound of the window's block `j`'s offset, of any of the five. -/
theorem off4_inb (i : grid0.Coords) (h : k0_cond2 i = 1#1) (j : Fin 5) : ∀ x, (k0_off4 i (BitVec.ofNat 32 j.val)) x + S1x256x256.size x ≤ S5x256x256.size x :=
  k0_off4_inb i h j

section
variable {sp : Space} {e : EltTy} (v : View sig .tc sp S5x256x256 e)

/-- A load at window place `j` reads its slot. -/
theorem read4 (i : grid0.Coords) (j : Fin 5) (inb) (f) :
    v.readAt (Elt F) (Rect.unit (s := S5x256x256) (k0_off4 i (BitVec.ofNat 32 j.val)) S1x256x256.size inb).toLoadRect f = slot (v.read (Elt F) f) (sl i j) :=
  View.readAt_unit v f _ (off4_eq i j) (slot_inb _)
/-- A store at window place `j` sets its slot, on top of the earlier stores. -/
theorem write4 (i : grid0.Coords) (j : Fin 5) (inb) (w) (L) (f) :
    v.read (Elt F) (v.writes (Elt F) f (⟨Rect.unit (s := S5x256x256) (k0_off4 i (BitVec.ofNat 32 j.val)) S1x256x256.size inb, w⟩ :: L)) = setSlot (v.read (Elt F) (v.writes (Elt F) f L)) (sl i j) w :=
  View.read_writes_cons_put v f _ w L (off4_eq i j)
/-- A store at the newest slot sets window place 4. -/
theorem write1 (i : grid0.Coords) (inb) (w) (f) :
    v.read (Elt F) (v.writes (Elt F) f [⟨Rect.unit (s := S5x256x256) (k0_off1 i) S1x256x256.size inb, w⟩]) = setSlot (v.read (Elt F) f) (sl i 4) w :=
  View.read_writes_cons_put v f _ w [] (off1_eq i)

/-- What an accumulator ring's slots hold after a point's stores: the new block's slot is cleared, and then each of the two
heads takes one step on each slot. -/
theorem ring_steps (i : grid0.Coords) (hi : k0_cond2 i = 1#1) (inb1) (z : Vec F S1x256x256 e) (G0 G1 : Fin 5 → Vec F S1x256x256 e → Vec F S1x256x256 e) (f0 f1)
    (L1 L2 L3 L4 L5 L6 L7 L8 L9 L10 L11 : List (View.Piece (Elt F) S5x256x256 e))
    (e1 : L1 = [⟨Rect.unit (s := S5x256x256) (k0_off1 i) S1x256x256.size inb1, z⟩])
    (e2 : L2 = ⟨(Rect.unit (s := S5x256x256) (k0_off4 i (BitVec.ofNat 32 (0 : Fin 5).val)) S1x256x256.size (off4_inb i hi 0)), G0 0 (v.readAt (Elt F) (Rect.unit (s := S5x256x256) (k0_off4 i (BitVec.ofNat 32 (0 : Fin 5).val)) S1x256x256.size (off4_inb i hi 0)).toLoadRect (v.writes (Elt F) f0 L1))⟩ :: L1)
    (e3 : L3 = ⟨(Rect.unit (s := S5x256x256) (k0_off4 i (BitVec.ofNat 32 (1 : Fin 5).val)) S1x256x256.size (off4_inb i hi 1)), G0 1 (v.readAt (Elt F) (Rect.unit (s := S5x256x256) (k0_off4 i (BitVec.ofNat 32 (1 : Fin 5).val)) S1x256x256.size (off4_inb i hi 1)).toLoadRect (v.writes (Elt F) f0 L2))⟩ :: L2)
    (e4 : L4 = ⟨(Rect.unit (s := S5x256x256) (k0_off4 i (BitVec.ofNat 32 (2 : Fin 5).val)) S1x256x256.size (off4_inb i hi 2)), G0 2 (v.readAt (Elt F) (Rect.unit (s := S5x256x256) (k0_off4 i (BitVec.ofNat 32 (2 : Fin 5).val)) S1x256x256.size (off4_inb i hi 2)).toLoadRect (v.writes (Elt F) f0 L3))⟩ :: L3)
    (e5 : L5 = ⟨(Rect.unit (s := S5x256x256) (k0_off4 i (BitVec.ofNat 32 (3 : Fin 5).val)) S1x256x256.size (off4_inb i hi 3)), G0 3 (v.readAt (Elt F) (Rect.unit (s := S5x256x256) (k0_off4 i (BitVec.ofNat 32 (3 : Fin 5).val)) S1x256x256.size (off4_inb i hi 3)).toLoadRect (v.writes (Elt F) f0 L4))⟩ :: L4)
    (e6 : L6 = ⟨(Rect.unit (s := S5x256x256) (k0_off4 i (BitVec.ofNat 32 (4 : Fin 5).val)) S1x256x256.size (off4_inb i hi 4)), G0 4 (v.readAt (Elt F) (Rect.unit (s := S5x256x256) (k0_off4 i (BitVec.ofNat 32 (4 : Fin 5).val)) S1x256x256.size (off4_inb i hi 4)).toLoadRect (v.writes (Elt F) f0 L5))⟩ :: L5)
    (e7 : L7 = ⟨(Rect.unit (s := S5x256x256) (k0_off4 i (BitVec.ofNat 32 (0 : Fin 5).val)) S1x256x256.size (off4_inb i hi 0)), G1 0 (v.readAt (Elt F) (Rect.unit (s := S5x256x256) (k0_off4 i (BitVec.ofNat 32 (0 : Fin 5).val)) S1x256x256.size (off4_inb i hi 0)).toLoadRect (v.writes (Elt F) f1 L6))⟩ :: L6)
    (e8 : L8 = ⟨(Rect.unit (s := S5x256x256) (k0_off4 i (BitVec.ofNat 32 (1 : Fin 5).val)) S1x256x256.size (off4_inb i hi 1)), G1 1 (v.readAt (Elt F) (Rect.unit (s := S5x256x256) (k0_off4 i (BitVec.ofNat 32 (1 : Fin 5).val)) S1x256x256.size (off4_inb i hi 1)).toLoadRect (v.writes (Elt F) f1 L7))⟩ :: L7)
    (e9 : L9 = ⟨(Rect.unit (s := S5x256x256) (k0_off4 i (BitVec.ofNat 32 (2 : Fin 5).val)) S1x256x256.size (off4_inb i hi 2)), G1 2 (v.readAt (Elt F) (Rect.unit (s := S5x256x256) (k0_off4 i (BitVec.ofNat 32 (2 : Fin 5).val)) S1x256x256.size (off4_inb i hi 2)).toLoadRect (v.writes (Elt F) f1 L8))⟩ :: L8)
    (e10 : L10 = ⟨(Rect.unit (s := S5x256x256) (k0_off4 i (BitVec.ofNat 32 (3 : Fin 5).val)) S1x256x256.size (off4_inb i hi 3)), G1 3 (v.readAt (Elt F) (Rect.unit (s := S5x256x256) (k0_off4 i (BitVec.ofNat 32 (3 : Fin 5).val)) S1x256x256.size (off4_inb i hi 3)).toLoadRect (v.writes (Elt F) f1 L9))⟩ :: L9)
    (e11 : L11 = ⟨(Rect.unit (s := S5x256x256) (k0_off4 i (BitVec.ofNat 32 (4 : Fin 5).val)) S1x256x256.size (off4_inb i hi 4)), G1 4 (v.readAt (Elt F) (Rect.unit (s := S5x256x256) (k0_off4 i (BitVec.ofNat 32 (4 : Fin 5).val)) S1x256x256.size (off4_inb i hi 4)).toLoadRect (v.writes (Elt F) f1 L10))⟩ :: L10)
    (f) (j : Fin 5) :
    slot (v.read (Elt F) (v.writes (Elt F) f L11)) (sl i j) = G1 j (G0 j (if j = 4 then z else slot (v.read (Elt F) f0) (sl i j))) := by
  have r2 : ∀ g, v.read (Elt F) (v.writes (Elt F) g L2) = setSlot (v.read (Elt F) (v.writes (Elt F) g L1)) (sl i 0) (G0 0 (slot (v.read (Elt F) (v.writes (Elt F) f0 L1)) (sl i 0))) := fun g => by
    rw [e2, write4, read4]
  have r3 : ∀ g, v.read (Elt F) (v.writes (Elt F) g L3) = setSlot (v.read (Elt F) (v.writes (Elt F) g L2)) (sl i 1) (G0 1 (slot (v.read (Elt F) (v.writes (Elt F) f0 L2)) (sl i 1))) := fun g => by
    rw [e3, write4, read4]
  have r4 : ∀ g, v.read (Elt F) (v.writes (Elt F) g L4) = setSlot (v.read (Elt F) (v.writes (Elt F) g L3)) (sl i 2) (G0 2 (slot (v.read (Elt F) (v.writes (Elt F) f0 L3)) (sl i 2))) := fun g => by
    rw [e4, write4, read4]
  have r5 : ∀ g, v.read (Elt F) (v.writes (Elt F) g L5) = setSlot (v.read (Elt F) (v.writes (Elt F) g L4)) (sl i 3) (G0 3 (slot (v.read (Elt F) (v.writes (Elt F) f0 L4)) (sl i 3))) := fun g => by
    rw [e5, write4, read4]
  have r6 : ∀ g, v.read (Elt F) (v.writes (Elt F) g L6) = setSlot (v.read (Elt F) (v.writes (Elt F) g L5)) (sl i 4) (G0 4 (slot (v.read (Elt F) (v.writes (Elt F) f0 L5)) (sl i 4))) := fun g => by
    rw [e6, write4, read4]
  have r7 : ∀ g, v.read (Elt F) (v.writes (Elt F) g L7) = setSlot (v.read (Elt F) (v.writes (Elt F) g L6)) (sl i 0) (G1 0 (slot (v.read (Elt F) (v.writes (Elt F) f1 L6)) (sl i 0))) := fun g => by
    rw [e7, write4, read4]
  have r8 : ∀ g, v.read (Elt F) (v.writes (Elt F) g L8) = setSlot (v.read (Elt F) (v.writes (Elt F) g L7)) (sl i 1) (G1 1 (slot (v.read (Elt F) (v.writes (Elt F) f1 L7)) (sl i 1))) := fun g => by
    rw [e8, write4, read4]
  have r9 : ∀ g, v.read (Elt F) (v.writes (Elt F) g L9) = setSlot (v.read (Elt F) (v.writes (Elt F) g L8)) (sl i 2) (G1 2 (slot (v.read (Elt F) (v.writes (Elt F) f1 L8)) (sl i 2))) := fun g => by
    rw [e9, write4, read4]
  have r10 : ∀ g, v.read (Elt F) (v.writes (Elt F) g L10) = setSlot (v.read (Elt F) (v.writes (Elt F) g L9)) (sl i 3) (G1 3 (slot (v.read (Elt F) (v.writes (Elt F) f1 L9)) (sl i 3))) := fun g => by
    rw [e10, write4, read4]
  have r11 : ∀ g, v.read (Elt F) (v.writes (Elt F) g L11) = setSlot (v.read (Elt F) (v.writes (Elt F) g L10)) (sl i 4) (G1 4 (slot (v.read (Elt F) (v.writes (Elt F) f1 L10)) (sl i 4))) := fun g => by
    rw [e11, write4, read4]
  have r1 : ∀ g, v.read (Elt F) (v.writes (Elt F) g L1) = setSlot (v.read (Elt F) g) (sl i 4) z := fun g => by
    rw [e1, write1]
  clear e1 e2 e3 e4 e5 e6 e7 e8 e9 e10 e11
  have n01 : sl i 0 ≠ sl i 1 := sl_ne i (by decide)
  have n02 : sl i 0 ≠ sl i 2 := sl_ne i (by decide)
  have n03 : sl i 0 ≠ sl i 3 := sl_ne i (by decide)
  have n04 : sl i 0 ≠ sl i 4 := sl_ne i (by decide)
  have n10 : sl i 1 ≠ sl i 0 := sl_ne i (by decide)
  have n12 : sl i 1 ≠ sl i 2 := sl_ne i (by decide)
  have n13 : sl i 1 ≠ sl i 3 := sl_ne i (by decide)
  have n14 : sl i 1 ≠ sl i 4 := sl_ne i (by decide)
  have n20 : sl i 2 ≠ sl i 0 := sl_ne i (by decide)
  have n21 : sl i 2 ≠ sl i 1 := sl_ne i (by decide)
  have n23 : sl i 2 ≠ sl i 3 := sl_ne i (by decide)
  have n24 : sl i 2 ≠ sl i 4 := sl_ne i (by decide)
  have n30 : sl i 3 ≠ sl i 0 := sl_ne i (by decide)
  have n31 : sl i 3 ≠ sl i 1 := sl_ne i (by decide)
  have n32 : sl i 3 ≠ sl i 2 := sl_ne i (by decide)
  have n34 : sl i 3 ≠ sl i 4 := sl_ne i (by decide)
  have n40 : sl i 4 ≠ sl i 0 := sl_ne i (by decide)
  have n41 : sl i 4 ≠ sl i 1 := sl_ne i (by decide)
  have n42 : sl i 4 ≠ sl i 2 := sl_ne i (by decide)
  have n43 : sl i 4 ≠ sl i 3 := sl_ne i (by decide)
  have a0 : slot (v.read (Elt F) (v.writes (Elt F) f0 L1)) (sl i 0) = slot (v.read (Elt F) f0) (sl i 0) := by
    rw [r1, slot_set_ne _ _ _ _ n04]
  have a1 : slot (v.read (Elt F) (v.writes (Elt F) f0 L2)) (sl i 1) = slot (v.read (Elt F) f0) (sl i 1) := by
    rw [r2, slot_set_ne _ _ _ _ n10, r1, slot_set_ne _ _ _ _ n14]
  have a2 : slot (v.read (Elt F) (v.writes (Elt F) f0 L3)) (sl i 2) = slot (v.read (Elt F) f0) (sl i 2) := by
    rw [r3, slot_set_ne _ _ _ _ n21, r2, slot_set_ne _ _ _ _ n20, r1, slot_set_ne _ _ _ _ n24]
  have a3 : slot (v.read (Elt F) (v.writes (Elt F) f0 L4)) (sl i 3) = slot (v.read (Elt F) f0) (sl i 3) := by
    rw [r4, slot_set_ne _ _ _ _ n32, r3, slot_set_ne _ _ _ _ n31, r2, slot_set_ne _ _ _ _ n30, r1, slot_set_ne _ _ _ _ n34]
  have a4 : slot (v.read (Elt F) (v.writes (Elt F) f0 L5)) (sl i 4) = z := by
    rw [r5, slot_set_ne _ _ _ _ n43, r4, slot_set_ne _ _ _ _ n42, r3, slot_set_ne _ _ _ _ n41, r2, slot_set_ne _ _ _ _ n40, r1, slot_set_same]
  have b0 : ∀ g, slot (v.read (Elt F) (v.writes (Elt F) g L6)) (sl i 0) = G0 0 (slot (v.read (Elt F) f0) (sl i 0)) := fun g => by
    rw [r6, slot_set_ne _ _ _ _ n04, r5, slot_set_ne _ _ _ _ n03, r4, slot_set_ne _ _ _ _ n02, r3, slot_set_ne _ _ _ _ n01, r2, slot_set_same, a0]
  have b1 : ∀ g, slot (v.read (Elt F) (v.writes (Elt F) g L6)) (sl i 1) = G0 1 (slot (v.read (Elt F) f0) (sl i 1)) := fun g => by
    rw [r6, slot_set_ne _ _ _ _ n14, r5, slot_set_ne _ _ _ _ n13, r4, slot_set_ne _ _ _ _ n12, r3, slot_set_same, a1]
  have b2 : ∀ g, slot (v.read (Elt F) (v.writes (Elt F) g L6)) (sl i 2) = G0 2 (slot (v.read (Elt F) f0) (sl i 2)) := fun g => by
    rw [r6, slot_set_ne _ _ _ _ n24, r5, slot_set_ne _ _ _ _ n23, r4, slot_set_same, a2]
  have b3 : ∀ g, slot (v.read (Elt F) (v.writes (Elt F) g L6)) (sl i 3) = G0 3 (slot (v.read (Elt F) f0) (sl i 3)) := fun g => by
    rw [r6, slot_set_ne _ _ _ _ n34, r5, slot_set_same, a3]
  have b4 : ∀ g, slot (v.read (Elt F) (v.writes (Elt F) g L6)) (sl i 4) = G0 4 (z) := fun g => by
    rw [r6, slot_set_same, a4]
  have c0 : slot (v.read (Elt F) (v.writes (Elt F) f1 L6)) (sl i 0) = G0 0 (slot (v.read (Elt F) f0) (sl i 0)) := by
    rw [b0]
  have c1 : slot (v.read (Elt F) (v.writes (Elt F) f1 L7)) (sl i 1) = G0 1 (slot (v.read (Elt F) f0) (sl i 1)) := by
    rw [r7, slot_set_ne _ _ _ _ n10, b1]
  have c2 : slot (v.read (Elt F) (v.writes (Elt F) f1 L8)) (sl i 2) = G0 2 (slot (v.read (Elt F) f0) (sl i 2)) := by
    rw [r8, slot_set_ne _ _ _ _ n21, r7, slot_set_ne _ _ _ _ n20, b2]
  have c3 : slot (v.read (Elt F) (v.writes (Elt F) f1 L9)) (sl i 3) = G0 3 (slot (v.read (Elt F) f0) (sl i 3)) := by
    rw [r9, slot_set_ne _ _ _ _ n32, r8, slot_set_ne _ _ _ _ n31, r7, slot_set_ne _ _ _ _ n30, b3]
  have c4 : slot (v.read (Elt F) (v.writes (Elt F) f1 L10)) (sl i 4) = G0 4 (z) := by
    rw [r10, slot_set_ne _ _ _ _ n43, r9, slot_set_ne _ _ _ _ n42, r8, slot_set_ne _ _ _ _ n41, r7, slot_set_ne _ _ _ _ n40, b4]
  have d0 : slot (v.read (Elt F) (v.writes (Elt F) f L11)) (sl i 0) = G1 0 (G0 0 (slot (v.read (Elt F) f0) (sl i 0))) := by
    rw [r11, slot_set_ne _ _ _ _ n04, r10, slot_set_ne _ _ _ _ n03, r9, slot_set_ne _ _ _ _ n02, r8, slot_set_ne _ _ _ _ n01, r7, slot_set_same, c0]
  have d1 : slot (v.read (Elt F) (v.writes (Elt F) f L11)) (sl i 1) = G1 1 (G0 1 (slot (v.read (Elt F) f0) (sl i 1))) := by
    rw [r11, slot_set_ne _ _ _ _ n14, r10, slot_set_ne _ _ _ _ n13, r9, slot_set_ne _ _ _ _ n12, r8, slot_set_same, c1]
  have d2 : slot (v.read (Elt F) (v.writes (Elt F) f L11)) (sl i 2) = G1 2 (G0 2 (slot (v.read (Elt F) f0) (sl i 2))) := by
    rw [r11, slot_set_ne _ _ _ _ n24, r10, slot_set_ne _ _ _ _ n23, r9, slot_set_same, c2]
  have d3 : slot (v.read (Elt F) (v.writes (Elt F) f L11)) (sl i 3) = G1 3 (G0 3 (slot (v.read (Elt F) f0) (sl i 3))) := by
    rw [r11, slot_set_ne _ _ _ _ n34, r10, slot_set_same, c3]
  have d4 : slot (v.read (Elt F) (v.writes (Elt F) f L11)) (sl i 4) = G1 4 (G0 4 (z)) := by
    rw [r11, slot_set_same, c4]
  match j with
  | 0 => exact d0
  | 1 => exact d1
  | 2 => exact d2
  | 3 => exact d3
  | 4 => exact d4

end

/-- Two blocks stacked. -/
def pair {α : Type} (u w : S1x256x256.Idx → α) : S2x256x256.Idx → α :=
  fun y => if (y 0).val = 0 then u (ValueIdx.ix3 (0 : Fin 1) (y 1) (y 2)) else w (ValueIdx.ix3 (0 : Fin 1) (y 1) (y 2))

/-- The two stores of a stacked pair cover it. -/
theorem read_pair {sp : Space} {e : EltTy} (v : View sig .tc sp S2x256x256 e) (f) (u w : Vec F S1x256x256 e) :
    v.read (Elt F) (v.writes (Elt F) f [⟨Rect.unit (s := S2x256x256) ![1, 0, 0] S1x256x256.size inb_S2x256x256_S1x256x256_1_0_0, w⟩, ⟨Rect.unit (s := S2x256x256) ![0, 0, 0] S1x256x256.size inb_S2x256x256_S1x256x256_0_0_0, u⟩]) = pair u w := by
  have e1 := View.read_writes_cons_put (off' := ![1, 0, 0]) v f inb_S2x256x256_S1x256x256_1_0_0 w [⟨Rect.unit (s := S2x256x256) ![0, 0, 0] S1x256x256.size inb_S2x256x256_S1x256x256_0_0_0, u⟩] rfl
  have e2 := View.read_writes_cons_put (off' := ![0, 0, 0]) v f inb_S2x256x256_S1x256x256_0_0_0 u [] rfl
  refine e1.trans ?_
  rw [e2]
  funext y
  have h0 : (y 0).val < 2 := (y 0).isLt
  have h1 : (y 1).val < 256 := (y 1).isLt
  have h2 : (y 2).val < 256 := (y 2).isLt
  unfold put pair
  by_cases hy : (y 0).val = 0
  · have a1 : ¬ ∀ a, (![1, 0, 0] : Fin 3 → ℕ) a ≤ (y a).val ∧ (y a).val < (![1, 0, 0] : Fin 3 → ℕ) a + S1x256x256.size a := fun h => by
      have := (h 0).1; simp at this; omega
    have a0 : ∀ a, (![0, 0, 0] : Fin 3 → ℕ) a ≤ (y a).val ∧ (y a).val < (![0, 0, 0] : Fin 3 → ℕ) a + S1x256x256.size a := by
      intro a; fin_cases a <;> simp <;> omega
    rw [dif_neg a1, dif_pos a0, if_pos hy]
    refine congrArg u (funext fun a => Fin.ext ?_)
    fin_cases a <;> simp [Rect.unitLocal] <;> omega
  · have a1 : ∀ a, (![1, 0, 0] : Fin 3 → ℕ) a ≤ (y a).val ∧ (y a).val < (![1, 0, 0] : Fin 3 → ℕ) a + S1x256x256.size a := by
      intro a; fin_cases a <;> simp <;> omega
    rw [dif_pos a1, if_neg hy]
    refine congrArg w (funext fun a => Fin.ext ?_)
    fin_cases a <;> simp [Rect.unitLocal] <;> omega

end Cert.KernelIdeal.Gen

end
-- ==== Proof.KI.Stage.lean ====
module

public import proofs.«01_k».proof.Proof.KI.Rest
public import proofs.«01_k».proof.Proof.KI.Ring
public import Idealize.ShloMosaic.Lib.VecWindow

/-! The run of the body at a point with a query block, store by store: each store into an accumulator ring is one step of
`Hd.dv` or `Hd.dk` on the slot it was loaded from, and the query gradient is `Hd.dqOut`. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (c : Dev nD) (a : Args F) (hc1 : k0_cond2 a.i = 1#1)

/-- What head 0 of the point's pair brings, read off the memrefs. -/
def Args.hd0 : Hd F where
  q := View.readAt (Elt F) a.m6.view (Rect.unit (s := S2x256x256) ![0, 0, 0] S1x256x256.size inb_S2x256x256_S1x256x256_0_0_0).toLoadRect (a.h6.unread a.x4)
  dO := View.readAt (Elt F) a.m9.view (Rect.unit (s := S2x256x256) ![0, 0, 0] S1x256x256.size inb_S2x256x256_S1x256x256_0_0_0).toLoadRect (a.h9.unread a.x7)
  o := View.readAt (Elt F) a.m10.view (Rect.unit (s := S2x256x256) ![0, 0, 0] S1x256x256.size inb_S2x256x256_S1x256x256_0_0_0).toLoadRect (a.h10.unread a.x8)
  lse := View.readAt (Elt F) a.m11.view (Rect.unit (s := S1x2x256) ![0, 0, 0] S1x1x256.size inb_S1x2x256_S1x1x256_0_0_0).toLoadRect (a.h11.unread a.x9)
  qs := runB.sl.r_3 c a hc1
  dos := runB.sl.r_4 c a hc1
  ks := runB.sl.r c a hc1
  vs := runB.sl.r_5 c a hc1

/-- What head 1 of the point's pair brings, read off the memrefs. -/
def Args.hd1 : Hd F where
  q := View.readAt (Elt F) a.m6.view (Rect.unit (s := S2x256x256) ![1, 0, 0] S1x256x256.size inb_S2x256x256_S1x256x256_1_0_0).toLoadRect (a.h6.unread a.x4)
  dO := View.readAt (Elt F) a.m9.view (Rect.unit (s := S2x256x256) ![1, 0, 0] S1x256x256.size inb_S2x256x256_S1x256x256_1_0_0).toLoadRect (a.h9.unread a.x7)
  o := View.readAt (Elt F) a.m10.view (Rect.unit (s := S2x256x256) ![1, 0, 0] S1x256x256.size inb_S2x256x256_S1x256x256_1_0_0).toLoadRect (a.h10.unread a.x8)
  lse := View.readAt (Elt F) a.m11.view (Rect.unit (s := S1x2x256) ![0, 1, 0] S1x1x256.size inb_S1x2x256_S1x1x256_0_1_0).toLoadRect (a.h11.unread a.x9)
  qs := runB.sl.r_40 c a hc1
  dos := runB.sl.r_41 c a hc1
  ks := runB.sl.r c a hc1
  vs := runB.sl.r_5 c a hc1

/-- The key block in slot `j` of the window, after the point's own block is stored. -/
def Args.kb (j : Fin 5) : Vec F S1x256x256 .fp8e4m3 :=
  View.readAt (Elt F) a.m15.view (Rect.unit (s := S5x256x256) (k0_off4 a.i (BitVec.ofNat 32 j.val)) S1x256x256.size (off4_inb a.i hc1 j)).toLoadRect (a.m15.view.writes (Elt F) (a.h15.unread a.y0) (runB.sl.HS0_1 c a hc1))
/-- The value block likewise. -/
def Args.vb (j : Fin 5) : Vec F S1x256x256 .fp8e4m3 :=
  View.readAt (Elt F) a.m16.view (Rect.unit (s := S5x256x256) (k0_off4 a.i (BitVec.ofNat 32 j.val)) S1x256x256.size (off4_inb a.i hc1 j)).toLoadRect (a.m16.view.writes (Elt F) (a.h16.unread a.y1) (runB.sl.HS1_1 c a hc1))

/-- The first head's store into the value-gradient slot of window place 0 is one step. -/
theorem HS3_2_eq : runB.sl.HS3_2 c a hc1 = ⟨(Rect.unit (s := S5x256x256) (k0_off4 a.i 0#32) S1x256x256.size (off4_inb a.i hc1 0)), (a.hd0 c hc1).dv 0 (a.kb c hc1 0) (View.readAt (Elt F) a.m18.view (Rect.unit (s := S5x256x256) (k0_off4 a.i 0#32) S1x256x256.size (off4_inb a.i hc1 0)).toLoadRect (a.m18.view.writes (Elt F) (a.h18.unread a.y3) (runB.sl.HS3_1 a hc1)))⟩ :: runB.sl.HS3_1 a hc1 := (rfl)
/-- The first head's store into the key-gradient slot of window place 0 is one step. -/
theorem HS2_2_eq : runB.sl.HS2_2 c a hc1 = ⟨(Rect.unit (s := S5x256x256) (k0_off4 a.i 0#32) S1x256x256.size (off4_inb a.i hc1 0)), (a.hd0 c hc1).dk 0 (a.kb c hc1 0) (a.vb c hc1 0) (View.readAt (Elt F) a.m17.view (Rect.unit (s := S5x256x256) (k0_off4 a.i 0#32) S1x256x256.size (off4_inb a.i hc1 0)).toLoadRect (a.m17.view.writes (Elt F) (a.h17.unread a.y2) (runB.sl.HS2_1 a hc1)))⟩ :: runB.sl.HS2_1 a hc1 := (rfl)
/-- The first head's store into the value-gradient slot of window place 1 is one step. -/
theorem HS3_3_eq : runB.sl.HS3_3 c a hc1 = ⟨(Rect.unit (s := S5x256x256) (k0_off4 a.i 1#32) S1x256x256.size (off4_inb a.i hc1 1)), (a.hd0 c hc1).dv 1 (a.kb c hc1 1) (View.readAt (Elt F) a.m18.view (Rect.unit (s := S5x256x256) (k0_off4 a.i 1#32) S1x256x256.size (off4_inb a.i hc1 1)).toLoadRect (a.m18.view.writes (Elt F) (a.h18.unread a.y3) (runB.sl.HS3_2 c a hc1)))⟩ :: runB.sl.HS3_2 c a hc1 := (rfl)
/-- The first head's store into the key-gradient slot of window place 1 is one step. -/
theorem HS2_3_eq : runB.sl.HS2_3 c a hc1 = ⟨(Rect.unit (s := S5x256x256) (k0_off4 a.i 1#32) S1x256x256.size (off4_inb a.i hc1 1)), (a.hd0 c hc1).dk 1 (a.kb c hc1 1) (a.vb c hc1 1) (View.readAt (Elt F) a.m17.view (Rect.unit (s := S5x256x256) (k0_off4 a.i 1#32) S1x256x256.size (off4_inb a.i hc1 1)).toLoadRect (a.m17.view.writes (Elt F) (a.h17.unread a.y2) (runB.sl.HS2_2 c a hc1)))⟩ :: runB.sl.HS2_2 c a hc1 := (rfl)
/-- The first head's store into the value-gradient slot of window place 2 is one step. -/
theorem HS3_4_eq : runB.sl.HS3_4 c a hc1 = ⟨(Rect.unit (s := S5x256x256) (k0_off4 a.i 2#32) S1x256x256.size (off4_inb a.i hc1 2)), (a.hd0 c hc1).dv 2 (a.kb c hc1 2) (View.readAt (Elt F) a.m18.view (Rect.unit (s := S5x256x256) (k0_off4 a.i 2#32) S1x256x256.size (off4_inb a.i hc1 2)).toLoadRect (a.m18.view.writes (Elt F) (a.h18.unread a.y3) (runB.sl.HS3_3 c a hc1)))⟩ :: runB.sl.HS3_3 c a hc1 := (rfl)
/-- The first head's store into the key-gradient slot of window place 2 is one step. -/
theorem HS2_4_eq : runB.sl.HS2_4 c a hc1 = ⟨(Rect.unit (s := S5x256x256) (k0_off4 a.i 2#32) S1x256x256.size (off4_inb a.i hc1 2)), (a.hd0 c hc1).dk 2 (a.kb c hc1 2) (a.vb c hc1 2) (View.readAt (Elt F) a.m17.view (Rect.unit (s := S5x256x256) (k0_off4 a.i 2#32) S1x256x256.size (off4_inb a.i hc1 2)).toLoadRect (a.m17.view.writes (Elt F) (a.h17.unread a.y2) (runB.sl.HS2_3 c a hc1)))⟩ :: runB.sl.HS2_3 c a hc1 := (rfl)
/-- The first head's store into the value-gradient slot of window place 3 is one step. -/
theorem HS3_5_eq : runB.sl.HS3_5 c a hc1 = ⟨(Rect.unit (s := S5x256x256) (k0_off4 a.i 3#32) S1x256x256.size (off4_inb a.i hc1 3)), (a.hd0 c hc1).dv 3 (a.kb c hc1 3) (View.readAt (Elt F) a.m18.view (Rect.unit (s := S5x256x256) (k0_off4 a.i 3#32) S1x256x256.size (off4_inb a.i hc1 3)).toLoadRect (a.m18.view.writes (Elt F) (a.h18.unread a.y3) (runB.sl.HS3_4 c a hc1)))⟩ :: runB.sl.HS3_4 c a hc1 := (rfl)
/-- The first head's store into the key-gradient slot of window place 3 is one step. -/
theorem HS2_5_eq : runB.sl.HS2_5 c a hc1 = ⟨(Rect.unit (s := S5x256x256) (k0_off4 a.i 3#32) S1x256x256.size (off4_inb a.i hc1 3)), (a.hd0 c hc1).dk 3 (a.kb c hc1 3) (a.vb c hc1 3) (View.readAt (Elt F) a.m17.view (Rect.unit (s := S5x256x256) (k0_off4 a.i 3#32) S1x256x256.size (off4_inb a.i hc1 3)).toLoadRect (a.m17.view.writes (Elt F) (a.h17.unread a.y2) (runB.sl.HS2_4 c a hc1)))⟩ :: runB.sl.HS2_4 c a hc1 := (rfl)
/-- The first head's store into the value-gradient slot of window place 4 is one step. -/
theorem HS3_6_eq : runB.sl.HS3_6 c a hc1 = ⟨(Rect.unit (s := S5x256x256) (k0_off4 a.i 4#32) S1x256x256.size (off4_inb a.i hc1 4)), (a.hd0 c hc1).dv 4 (a.kb c hc1 4) (View.readAt (Elt F) a.m18.view (Rect.unit (s := S5x256x256) (k0_off4 a.i 4#32) S1x256x256.size (off4_inb a.i hc1 4)).toLoadRect (a.m18.view.writes (Elt F) (a.h18.unread a.y3) (runB.sl.HS3_5 c a hc1)))⟩ :: runB.sl.HS3_5 c a hc1 := (rfl)
/-- The first head's store into the key-gradient slot of window place 4 is one step. -/
theorem HS2_6_eq : runB.sl.HS2_6 c a hc1 = ⟨(Rect.unit (s := S5x256x256) (k0_off4 a.i 4#32) S1x256x256.size (off4_inb a.i hc1 4)), (a.hd0 c hc1).dk 4 (a.kb c hc1 4) (a.vb c hc1 4) (View.readAt (Elt F) a.m17.view (Rect.unit (s := S5x256x256) (k0_off4 a.i 4#32) S1x256x256.size (off4_inb a.i hc1 4)).toLoadRect (a.m17.view.writes (Elt F) (a.h17.unread a.y2) (runB.sl.HS2_5 c a hc1)))⟩ :: runB.sl.HS2_5 c a hc1 := (rfl)
/-- The second head's store into the value-gradient slot of window place 0 is one step. -/
theorem HS3_7_eq : runB.sl.HS3_7 c a hc1 = ⟨(Rect.unit (s := S5x256x256) (k0_off4 a.i 0#32) S1x256x256.size (off4_inb a.i hc1 0)), (a.hd1 c hc1).dv 0 (a.kb c hc1 0) (a.m18.view.readCov (runB.sl.HS3_6 c a hc1) (Rect.unit (s := S5x256x256) (k0_off4 a.i 0#32) S1x256x256.size (off4_inb a.i hc1 0)).toLoadRect)⟩ :: runB.sl.HS3_6 c a hc1 := (rfl)
/-- The second head's store into the key-gradient slot of window place 0 is one step. -/
theorem HS2_7_eq : runB.sl.HS2_7 c a hc1 = ⟨(Rect.unit (s := S5x256x256) (k0_off4 a.i 0#32) S1x256x256.size (off4_inb a.i hc1 0)), (a.hd1 c hc1).dk 0 (a.kb c hc1 0) (a.vb c hc1 0) (a.m17.view.readCov (runB.sl.HS2_6 c a hc1) (Rect.unit (s := S5x256x256) (k0_off4 a.i 0#32) S1x256x256.size (off4_inb a.i hc1 0)).toLoadRect)⟩ :: runB.sl.HS2_6 c a hc1 := (rfl)
/-- The second head's store into the value-gradient slot of window place 1 is one step. -/
theorem HS3_8_eq : runB.sl.HS3_8 c a hc1 = ⟨(Rect.unit (s := S5x256x256) (k0_off4 a.i 1#32) S1x256x256.size (off4_inb a.i hc1 1)), (a.hd1 c hc1).dv 1 (a.kb c hc1 1) (a.m18.view.readCov (runB.sl.HS3_7 c a hc1) (Rect.unit (s := S5x256x256) (k0_off4 a.i 1#32) S1x256x256.size (off4_inb a.i hc1 1)).toLoadRect)⟩ :: runB.sl.HS3_7 c a hc1 := (rfl)
/-- The second head's store into the key-gradient slot of window place 1 is one step. -/
theorem HS2_8_eq : runB.sl.HS2_8 c a hc1 = ⟨(Rect.unit (s := S5x256x256) (k0_off4 a.i 1#32) S1x256x256.size (off4_inb a.i hc1 1)), (a.hd1 c hc1).dk 1 (a.kb c hc1 1) (a.vb c hc1 1) (a.m17.view.readCov (runB.sl.HS2_7 c a hc1) (Rect.unit (s := S5x256x256) (k0_off4 a.i 1#32) S1x256x256.size (off4_inb a.i hc1 1)).toLoadRect)⟩ :: runB.sl.HS2_7 c a hc1 := (rfl)
/-- The second head's store into the value-gradient slot of window place 2 is one step. -/
theorem HS3_9_eq : runB.sl.HS3_9 c a hc1 = ⟨(Rect.unit (s := S5x256x256) (k0_off4 a.i 2#32) S1x256x256.size (off4_inb a.i hc1 2)), (a.hd1 c hc1).dv 2 (a.kb c hc1 2) (a.m18.view.readCov (runB.sl.HS3_8 c a hc1) (Rect.unit (s := S5x256x256) (k0_off4 a.i 2#32) S1x256x256.size (off4_inb a.i hc1 2)).toLoadRect)⟩ :: runB.sl.HS3_8 c a hc1 := (rfl)
/-- The second head's store into the key-gradient slot of window place 2 is one step. -/
theorem HS2_9_eq : runB.sl.HS2_9 c a hc1 = ⟨(Rect.unit (s := S5x256x256) (k0_off4 a.i 2#32) S1x256x256.size (off4_inb a.i hc1 2)), (a.hd1 c hc1).dk 2 (a.kb c hc1 2) (a.vb c hc1 2) (a.m17.view.readCov (runB.sl.HS2_8 c a hc1) (Rect.unit (s := S5x256x256) (k0_off4 a.i 2#32) S1x256x256.size (off4_inb a.i hc1 2)).toLoadRect)⟩ :: runB.sl.HS2_8 c a hc1 := (rfl)
/-- The second head's store into the value-gradient slot of window place 3 is one step. -/
theorem HS3_10_eq : runB.sl.HS3_10 c a hc1 = ⟨(Rect.unit (s := S5x256x256) (k0_off4 a.i 3#32) S1x256x256.size (off4_inb a.i hc1 3)), (a.hd1 c hc1).dv 3 (a.kb c hc1 3) (a.m18.view.readCov (runB.sl.HS3_9 c a hc1) (Rect.unit (s := S5x256x256) (k0_off4 a.i 3#32) S1x256x256.size (off4_inb a.i hc1 3)).toLoadRect)⟩ :: runB.sl.HS3_9 c a hc1 := (rfl)
/-- The second head's store into the key-gradient slot of window place 3 is one step. -/
theorem HS2_10_eq : runB.sl.HS2_10 c a hc1 = ⟨(Rect.unit (s := S5x256x256) (k0_off4 a.i 3#32) S1x256x256.size (off4_inb a.i hc1 3)), (a.hd1 c hc1).dk 3 (a.kb c hc1 3) (a.vb c hc1 3) (a.m17.view.readCov (runB.sl.HS2_9 c a hc1) (Rect.unit (s := S5x256x256) (k0_off4 a.i 3#32) S1x256x256.size (off4_inb a.i hc1 3)).toLoadRect)⟩ :: runB.sl.HS2_9 c a hc1 := (rfl)
/-- The second head's store into the value-gradient slot of window place 4 is one step. -/
theorem HS3_11_eq : runB.sl.HS3_11 c a hc1 = ⟨(Rect.unit (s := S5x256x256) (k0_off4 a.i 4#32) S1x256x256.size (off4_inb a.i hc1 4)), (a.hd1 c hc1).dv 4 (a.kb c hc1 4) (a.m18.view.readCov (runB.sl.HS3_10 c a hc1) (Rect.unit (s := S5x256x256) (k0_off4 a.i 4#32) S1x256x256.size (off4_inb a.i hc1 4)).toLoadRect)⟩ :: runB.sl.HS3_10 c a hc1 := (rfl)
/-- The second head's store into the key-gradient slot of window place 4 is one step. -/
theorem HS2_11_eq : runB.sl.HS2_11 c a hc1 = ⟨(Rect.unit (s := S5x256x256) (k0_off4 a.i 4#32) S1x256x256.size (off4_inb a.i hc1 4)), (a.hd1 c hc1).dk 4 (a.kb c hc1 4) (a.vb c hc1 4) (a.m17.view.readCov (runB.sl.HS2_10 c a hc1) (Rect.unit (s := S5x256x256) (k0_off4 a.i 4#32) S1x256x256.size (off4_inb a.i hc1 4)).toLoadRect)⟩ :: runB.sl.HS2_10 c a hc1 := (rfl)

/-- The first head's query gradient after the first key block. -/
theorem r_18_eq : runB.sl.r_18 c a hc1 = (a.hd0 c hc1).dq 0 (a.kb c hc1 0) (a.vb c hc1 0) (broadcast S256x256 (Scalar.ofBits .f32 0x00000000#32)) := (rfl)
/-- The first head's query gradient after the second key block. -/
theorem r_24_eq : runB.sl.r_24 c a hc1 = (a.hd0 c hc1).dq 1 (a.kb c hc1 1) (a.vb c hc1 1) (runB.sl.r_18 c a hc1) := (rfl)
/-- The first head's query gradient after the third key block. -/
theorem r_29_eq : runB.sl.r_29 c a hc1 = (a.hd0 c hc1).dq 2 (a.kb c hc1 2) (a.vb c hc1 2) (runB.sl.r_24 c a hc1) := (rfl)
/-- The first head's query gradient after the fourth key block. -/
theorem r_32_eq : runB.sl.r_32 c a hc1 = (a.hd0 c hc1).dq 3 (a.kb c hc1 3) (a.vb c hc1 3) (runB.sl.r_29 c a hc1) := (rfl)
/-- The first head's query gradient after the last key block, scaled and cast. -/
theorem dq0_last : k0_pay68 (runB.sl.r_38 c a hc1) = lift (e := .bf16) (truncf .bf16 (mulf ((a.hd0 c hc1).dq 4 (a.kb c hc1 4) (a.vb c hc1 4) (runB.sl.r_32 c a hc1)) (broadcast S256x256 (a.hd0 c hc1).kssm)) bitsLt_bf16_f32) := (rfl)
/-- The query gradient of head 0. -/
theorem dq0_eq : k0_pay68 (runB.sl.r_38 c a hc1) = (a.hd0 c hc1).dqOut (a.kb c hc1) (a.vb c hc1) := by
  rw [dq0_last, r_32_eq, r_29_eq, r_24_eq, r_18_eq]; rfl
/-- The second head's query gradient after the first key block. -/
theorem r_52_eq : runB.sl.r_52 c a hc1 = (a.hd1 c hc1).dq 0 (a.kb c hc1 0) (a.vb c hc1 0) (broadcast S256x256 (Scalar.ofBits .f32 0x00000000#32)) := (rfl)
/-- The second head's query gradient after the second key block. -/
theorem r_57_eq : runB.sl.r_57 c a hc1 = (a.hd1 c hc1).dq 1 (a.kb c hc1 1) (a.vb c hc1 1) (runB.sl.r_52 c a hc1) := (rfl)
/-- The second head's query gradient after the third key block. -/
theorem r_63_eq : runB.sl.r_63 c a hc1 = (a.hd1 c hc1).dq 2 (a.kb c hc1 2) (a.vb c hc1 2) (runB.sl.r_57 c a hc1) := (rfl)
/-- The second head's query gradient after the fourth key block. -/
theorem r_68_eq : runB.sl.r_68 c a hc1 = (a.hd1 c hc1).dq 3 (a.kb c hc1 3) (a.vb c hc1 3) (runB.sl.r_63 c a hc1) := (rfl)
/-- The second head's query gradient after the last key block, scaled and cast. -/
theorem dq1_last : k0_pay6 (runB.sl.r_1 c a hc1) (runB.sl.r_68 c a hc1) (runB.sl.r_69 c a hc1) (runB.sl.r_72 c a hc1) = lift (e := .bf16) (truncf .bf16 (mulf ((a.hd1 c hc1).dq 4 (a.kb c hc1 4) (a.vb c hc1 4) (runB.sl.r_68 c a hc1)) (broadcast S256x256 (a.hd1 c hc1).kssm)) bitsLt_bf16_f32) := (rfl)
/-- The query gradient of head 1. -/
theorem dq1_eq : k0_pay6 (runB.sl.r_1 c a hc1) (runB.sl.r_68 c a hc1) (runB.sl.r_69 c a hc1) (runB.sl.r_72 c a hc1) = (a.hd1 c hc1).dqOut (a.kb c hc1) (a.vb c hc1) := by
  rw [dq1_last, r_68_eq, r_63_eq, r_57_eq, r_52_eq]; rfl

end Cert.KernelIdeal.Gen

end
-- ==== Proof.KI.Body.lean ====
module

public import proofs.«01_k».proof.Proof.KI.Rest
public import Idealize.ShloMosaic.Lib.VecWindow
public import Idealize.ShloMosaic.Lib.Claim

/-! The body of the kernel as one triple that names nothing it leaves: from its inputs at their contents, and its outputs and
scratch at any contents, it runs and gives the same back. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

/-- The three outputs, each at some contents. -/
def Args.outs (a : Args F) (c : Dev nD) : sProp 𝕄 := iprop((∃ d, owns (c : Thread nD τ) a.m12 fullShare d) ∗ (∃ d, owns (c : Thread nD τ) a.m13 fullShare d) ∗ (∃ d, owns (c : Thread nD τ) a.m14 fullShare d))
/-- The four scratch buffers, each at some contents. -/
def Args.scrs (a : Args F) (c : Dev nD) : sProp 𝕄 := iprop((∃ d, owns (c : Thread nD τ) a.m15 fullShare d) ∗ (∃ d, owns (c : Thread nD τ) a.m16 fullShare d) ∗ (∃ d, owns (c : Thread nD τ) a.m17 fullShare d) ∗ (∃ d, owns (c : Thread nD τ) a.m18 fullShare d))

/-- Contents written through a whole memref are some contents of it. -/
theorem owns_of_writes {sp : Space} {s : Shape} {e : EltTy} (c : Dev nD) (v : Memref sig .tc sp s e) (f : Buf (Elt F) (v.view.loc (c : Thread nD τ))) :
    (v.view.loc (c : Thread nD τ) ↦[v.view.set]{fullShare} f : sProp 𝕄) ⊢ iprop(∃ d, owns (c : Thread nD τ) v fullShare d) := by
  iintro H
  iexists _
  unfold owns
  iexists _; isplitr
  swap; · iexact H
  ipureintro; rfl

/-- After its first conditional the body runs, from the scratch at any contents, and names nothing of what it leaves. -/
theorem Args.rest_any (c : Dev nD) (a : Args F) (E : Set ℕ) (K : PUnit → sProp 𝕄) :
    iprop(a.ins c ∗ a.outs c ∗ a.scr c ∗ (iprop(a.ins c ∗ a.outs c ∗ a.scrs c) -∗ K ⟨⟩))
      ⊢ wp frame (wpE (defs₀ (F := F)) Variants.none c none) E a.restP K := by
  unfold Args.outs Args.scrs
  by_cases hc1 : k0_cond2 a.i = 1#1
  · iintro ⟨HI, ⟨H10, H11, H12⟩, HS, Hk⟩
    iapply ((runB c a hc1).2.2.2.2.2.2.2 E K)
    isplitl [HI]; · iexact HI
    isplitl [H10]; · iexact H10
    isplitl [H11]; · iexact H11
    isplitl [H12]; · iexact H12
    isplitl [HS]; · iexact HS
    iintro ⟨HI, ⟨%f10, H10⟩, ⟨%f11, H11⟩, ⟨%f12, H12⟩, HS0, HS1, HS2, HS3⟩
    iapply Hk
    isplitl [HI]; · iexact HI
    isplitl [H10 H11 H12]
    · isplitl [H10]; · iapply (owns_of_writes c a.m12 _); iexact H10
      isplitl [H11]; · iapply (owns_of_writes c a.m13 _); iexact H11
      iapply (owns_of_writes c a.m14 _); iexact H12
    isplitl [HS0]; · iapply (owns_of_writes c a.m15 _); iexact HS0
    isplitl [HS1]; · iapply (owns_of_writes c a.m16 _); iexact HS1
    isplitl [HS2]; · iapply (owns_of_writes c a.m17 _); iexact HS2
    iapply (owns_of_writes c a.m18 _); iexact HS3
  · unfold Args.scr
    iintro ⟨HI, ⟨H10, H11, H12⟩, ⟨HS0, HS1, HS2, HS3⟩, Hk⟩
    iapply ((runC c a hc1).2.2 E K)
    isplitl [H11]; · iexact H11
    isplitl [H12]; · iexact H12
    isplitl [HS2]; · iexact HS2
    isplitl [HS3]; · iexact HS3
    iintro ⟨⟨%f11, H11⟩, ⟨%f12, H12⟩, HS2, HS3⟩
    iapply Hk
    isplitl [HI]; · iexact HI
    isplitl [H10 H11 H12]
    · isplitl [H10]; · iexact H10
      isplitl [H11]; · iapply (owns_of_writes c a.m13 _); iexact H11
      iapply (owns_of_writes c a.m14 _); iexact H12
    isplitl [HS0]; · iexists _; iexact HS0
    isplitl [HS1]; · iexists _; iexact HS1
    isplitl [HS2]; · iexists _; iexact HS2
    iexists _; iexact HS3

/-- The first conditional's eight accesses (it loads and stores each scratch buffer whole), then `R`. -/
def Args.clearP (a : Args F) (R : Prog (TpuEff nD τ sig (Elt F) Λ₀ .tc) PUnit) : Prog (TpuEff nD τ sig (Elt F) Λ₀ .tc) PUnit := do
  let v24 : Vec F S5x256x256 .fp8e4m3 ← Prog.lift (.load a.m15 (Rect.unit (s := S5x256x256) ![0, 0, 0] S5x256x256.size inb_S5x256x256_S5x256x256_0_0_0).toLoadRect (View.loadsAt_vmem h_S5x256x256))
  Prog.lift (.store a.m15 (Rect.unit (s := S5x256x256) ![0, 0, 0] S5x256x256.size inb_S5x256x256_S5x256x256_0_0_0) (k0_pay1 (F := F)) Finset.univ (View.stores_vmem h_S5x256x256 (a.h15.storeExact_slice rfl _ packedfp8e4m3_S5x256x256_S5x256x256_0_0_0) (fun _ => rfl)) (.inl rfl))
  let v28 : Vec F S5x256x256 .fp8e4m3 ← Prog.lift (.load a.m16 (Rect.unit (s := S5x256x256) ![0, 0, 0] S5x256x256.size inb_S5x256x256_S5x256x256_0_0_0).toLoadRect (View.loadsAt_vmem h_S5x256x256))
  Prog.lift (.store a.m16 (Rect.unit (s := S5x256x256) ![0, 0, 0] S5x256x256.size inb_S5x256x256_S5x256x256_0_0_0) (k0_pay2 (F := F)) Finset.univ (View.stores_vmem h_S5x256x256 (a.h16.storeExact_slice rfl _ packedfp8e4m3_S5x256x256_S5x256x256_0_0_0) (fun _ => rfl)) (.inl rfl))
  let v32 : Vec F S5x256x256 .f32 ← Prog.lift (.load a.m17 (Rect.unit (s := S5x256x256) ![0, 0, 0] S5x256x256.size inb_S5x256x256_S5x256x256_0_0_0).toLoadRect (View.loadsAt_vmem h_S5x256x256))
  Prog.lift (.store a.m17 (Rect.unit (s := S5x256x256) ![0, 0, 0] S5x256x256.size inb_S5x256x256_S5x256x256_0_0_0) (k0_pay3 (F := F)) Finset.univ (View.stores_vmem_bits_univ h_S5x256x256 rfl) (.inl rfl))
  let v36 : Vec F S5x256x256 .f32 ← Prog.lift (.load a.m18 (Rect.unit (s := S5x256x256) ![0, 0, 0] S5x256x256.size inb_S5x256x256_S5x256x256_0_0_0).toLoadRect (View.loadsAt_vmem h_S5x256x256))
  Prog.lift (.store a.m18 (Rect.unit (s := S5x256x256) ![0, 0, 0] S5x256x256.size inb_S5x256x256_S5x256x256_0_0_0) (k0_pay4 (F := F)) Finset.univ (View.stores_vmem_bits_univ h_S5x256x256 rfl) (.inl rfl))
  R

/-- The first conditional's work at the first point of a head group: the four scratch buffers are cleared, and the rest
of the body goes on from there. -/
theorem Args.wp_clear (c : Dev nD) (a : Args F) (h : cond0 a.i) (E : Set ℕ) (K : PUnit → sProp 𝕄) (P : sProp 𝕄)
    (hrest : iprop(P ∗ owns (c : Thread nD τ) a.m15 fullShare (k0_pay1 (F := F)) ∗ owns (c : Thread nD τ) a.m16 fullShare (k0_pay2 (F := F)) ∗ owns (c : Thread nD τ) a.m17 fullShare (k0_pay3 (F := F)) ∗ owns (c : Thread nD τ) a.m18 fullShare (k0_pay4 (F := F)))
      ⊢ wp frame (wpE (defs₀ (F := F)) Variants.none c none) E a.restP K) :
    iprop(P ∗ (∃ d, owns (c : Thread nD τ) a.m15 fullShare d) ∗ (∃ d, owns (c : Thread nD τ) a.m16 fullShare d) ∗ (∃ d, owns (c : Thread nD τ) a.m17 fullShare d) ∗ (∃ d, owns (c : Thread nD τ) a.m18 fullShare d))
      ⊢ wp frame (wpE (defs₀ (F := F)) Variants.none c none) E a.body K := by
  have hR : a.body = Args.clearP a a.restP := by
    unfold Args.body Args.restP Args.clearP
    rw [cc0_swa_bwd_eq_skeleton]; unfold cc0_swa_bwd_skel; exact dif_pos h
  rw [hR]
  generalize a.restP = R at hrest ⊢
  -- [cc0_swa_bwd_eq_skeleton]; unfold cc0_swa_bwd_skel
  unfold Args.clearP owns
  iintro ⟨HP, ⟨%d0, %f0, -, HS0⟩, ⟨%d1, %f1, -, HS1⟩, ⟨%d2, %f2, -, HS2⟩, ⟨%d3, %f3, -, HS3⟩⟩
  sl_exec
  iapply hrest
  isplitl [HP]; · iexact HP
  isplitl [HS0]
  · unfold owns; iexists _; isplitr
    swap; · iexact HS0
    ipureintro; exact View.read_writes_full ..
  isplitl [HS1]
  · unfold owns; iexists _; isplitr
    swap; · iexact HS1
    ipureintro; exact View.read_writes_full ..
  isplitl [HS2]
  · unfold owns; iexists _; isplitr
    swap; · iexact HS2
    ipureintro; exact View.read_writes_full ..
  unfold owns; iexists _; isplitr
  swap; · iexact HS3
  ipureintro; exact View.read_writes_full ..

/-- The whole body, naming nothing of what it leaves. -/
theorem Args.body_any (c : Dev nD) (a : Args F) (E : Set ℕ) (K : PUnit → sProp 𝕄) :
    iprop(a.ins c ∗ a.outs c ∗ a.scrs c ∗ (iprop(a.ins c ∗ a.outs c ∗ a.scrs c) -∗ K ⟨⟩))
      ⊢ wp frame (wpE (defs₀ (F := F)) Variants.none c none) E a.body K := by
  by_cases h : cond0 a.i
  · refine BIBase.Entails.trans ?_ (a.wp_clear c h E K iprop(a.ins c ∗ a.outs c ∗ (iprop(a.ins c ∗ a.outs c ∗ a.scrs c) -∗ K ⟨⟩)) ?_)
    · unfold Args.scrs
      iintro ⟨HI, HO, HS, Hk⟩
      isplitl [HI HO Hk]
      · isplitl [HI]; · iexact HI
        isplitl [HO]; · iexact HO
        iexact Hk
      iexact HS
    · iintro ⟨⟨HI, HO, Hk⟩, HS0, HS1, HS2, HS3⟩
      iapply (({ a with y0 := k0_pay1, y1 := k0_pay2, y2 := k0_pay3, y3 := k0_pay4 } : Args F).rest_any c E K)
      isplitl [HI]; · iexact HI
      isplitl [HO]; · iexact HO
      isplitl [HS0 HS1 HS2 HS3]
      · unfold Args.scr
        isplitl [HS0]; · iexact HS0
        isplitl [HS1]; · iexact HS1
        isplitl [HS2]; · iexact HS2
        iexact HS3
      iexact Hk
  · rw [a.body_eq_rest h]
    unfold Args.scrs
    iintro ⟨HI, HO, ⟨⟨%e0, HS0⟩, ⟨%e1, HS1⟩, ⟨%e2, HS2⟩, ⟨%e3, HS3⟩⟩, Hk⟩
    iapply (({ a with y0 := e0, y1 := e1, y2 := e2, y3 := e3 } : Args F).rest_any c E K)
    isplitl [HI]; · iexact HI
    isplitl [HO]; · iexact HO
    isplitl [HS0 HS1 HS2 HS3]
    · unfold Args.scr
      isplitl [HS0]; · iexact HS0
      isplitl [HS1]; · iexact HS1
      isplitl [HS2]; · iexact HS2
      iexact HS3
    iexact Hk

end Cert.KernelIdeal.Gen

end
-- ==== Proof.KI.Step.lean ====
module

public import proofs.«01_k».proof.Proof.KI.Stage
public import proofs.«01_k».proof.Proof.KI.Body
public import Idealize.ShloMosaic.Lib.Pipeline.Value
public import Idealize.ShloMosaic.Lib.WholeRead

/-! The body after its first conditional as one triple with every result named: what the scratch and the three output blocks
hold afterwards, in terms of the point's input blocks and the slots of the rings. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open VecWindow ValueIdx

/-- What head `h` of the point's pair brings. -/
def Args.head (a : Args F) (h : Fin 2) : Hd F where
  q := fun y => a.x4 (ix3 h (y 1) (y 2))
  dO := fun y => a.x7 (ix3 h (y 1) (y 2))
  o := fun y => a.x8 (ix3 h (y 1) (y 2))
  lse := fun y => a.x9 (ix3 (0 : Fin 1) h (y 2))
  qs := a.x0 (ix1 ⟨(a.i 0).val * 2 + h.val, by have h0 : (a.i 0).val < 4 := (a.i 0).isLt; omega⟩)
  dos := a.x3 (ix1 ⟨(a.i 0).val * 2 + h.val, by have h0 : (a.i 0).val < 4 := (a.i 0).isLt; omega⟩)
  ks := a.x1 (ix1 ⟨(a.i 0).val, (a.i 0).isLt⟩)
  vs := a.x2 (ix1 ⟨(a.i 0).val, (a.i 0).isLt⟩)
/-- The window's key block `j`: the newest is the point's own. -/
def Args.k (a : Args F) (j : Fin 5) : Vec F S1x256x256 .fp8e4m3 := if j = 4 then a.x5 else slot a.y0 (sl a.i j)
/-- The window's value block `j`. -/
def Args.v (a : Args F) (j : Fin 5) : Vec F S1x256x256 .fp8e4m3 := if j = 4 then a.x6 else slot a.y1 (sl a.i j)

/-- The word arithmetic of the key head's index. -/
theorem off2_dec : ∀ a : Fin 4, (Scalar.indexCast (BitVec.ofNat 32 a.val)).toNat = a.val := by decide +kernel
/-- The word arithmetic of the query head's index. -/
theorem off3_dec : ∀ (a : Fin 4) (h : Fin 2), (Scalar.indexCast (Scalar.addi (Scalar.muli (BitVec.ofNat 32 a.val) 2#32) (BitVec.ofNat 32 h.val))).toNat = a.val * 2 + h.val := by decide +kernel

/-- The key scale read at a point is the key head's. -/
theorem off2_eq (i : grid0.Coords) : k0_off2 i = ![(i 0).val] := by
  unfold k0_off2; dsimp only; rw [show (Scalar.indexCast (BitVec.ofNat 32 (i 0).val)).toNat = _ from off2_dec (i 0)]
/-- The query scale read at a point is the query head's. -/
theorem off3_eq (i : grid0.Coords) (h : Fin 2) : k0_off3 i (BitVec.ofNat 32 h.val) = ![(i 0).val * 2 + h.val] := by
  unfold k0_off3; dsimp only; rw [show (Scalar.indexCast (Scalar.addi (Scalar.muli (BitVec.ofNat 32 (i 0).val) 2#32) (BitVec.ofNat 32 h.val))).toNat = _ from off3_dec (i 0) h]

variable (c : Dev nD) (a : Args F) (hc1 : k0_cond2 a.i = 1#1)

/-- What the first head reads off the memrefs, in terms of the point's blocks. -/
theorem hd0_eq : a.hd0 c hc1 = a.head 0 := by
  unfold Args.hd0 Args.head
  congr 1
  · funext y
    rw [Memref.IsWhole.readAt_unread]
    refine congrArg a.x4 (funext fun b => Fin.ext ?_)
    have h0 : (y 0).val < 1 := (y 0).isLt
    fin_cases b <;> simp [Rect.unit, LoadRect.idx, Rect.toLoadRect] <;> omega
  · funext y
    rw [Memref.IsWhole.readAt_unread]
    refine congrArg a.x7 (funext fun b => Fin.ext ?_)
    have h0 : (y 0).val < 1 := (y 0).isLt
    fin_cases b <;> simp [Rect.unit, LoadRect.idx, Rect.toLoadRect] <;> omega
  · funext y
    rw [Memref.IsWhole.readAt_unread]
    refine congrArg a.x8 (funext fun b => Fin.ext ?_)
    have h0 : (y 0).val < 1 := (y 0).isLt
    fin_cases b <;> simp [Rect.unit, LoadRect.idx, Rect.toLoadRect] <;> omega
  · funext y
    rw [Memref.IsWhole.readAt_unread]
    refine congrArg a.x9 (funext fun b => Fin.ext ?_)
    have h0 : (y 0).val < 1 := (y 0).isLt
    have h1 : (y 1).val < 1 := (y 1).isLt
    fin_cases b <;> simp [Rect.unit, LoadRect.idx, Rect.toLoadRect] <;> omega
  · unfold runB.sl.r_3
    rw [Memref.IsWhole.readAt_unread]
    refine congrArg a.x0 (funext fun b => Fin.ext ?_)
    have e := congrFun (off3_eq a.i 0) (0 : Fin 1)
    fin_cases b; simpa [Rect.unit, LoadRect.idx, Rect.toLoadRect, Shape.Idx.first] using e
  · unfold runB.sl.r_4
    rw [Memref.IsWhole.readAt_unread]
    refine congrArg a.x3 (funext fun b => Fin.ext ?_)
    have e := congrFun (off3_eq a.i 0) (0 : Fin 1)
    fin_cases b; simpa [Rect.unit, LoadRect.idx, Rect.toLoadRect, Shape.Idx.first] using e
  · unfold runB.sl.r
    rw [Memref.IsWhole.readAt_unread]
    refine congrArg a.x1 (funext fun b => Fin.ext ?_)
    have e := congrFun (off2_eq a.i) (0 : Fin 1)
    fin_cases b; simpa [Rect.unit, LoadRect.idx, Rect.toLoadRect, Shape.Idx.first] using e
  · unfold runB.sl.r_5
    rw [Memref.IsWhole.readAt_unread]
    refine congrArg a.x2 (funext fun b => Fin.ext ?_)
    have e := congrFun (off2_eq a.i) (0 : Fin 1)
    fin_cases b; simpa [Rect.unit, LoadRect.idx, Rect.toLoadRect, Shape.Idx.first] using e

/-- What the second head reads off the memrefs, in terms of the point's blocks. -/
theorem hd1_eq : a.hd1 c hc1 = a.head 1 := by
  unfold Args.hd1 Args.head
  congr 1
  · funext y
    rw [Memref.IsWhole.readAt_unread]
    refine congrArg a.x4 (funext fun b => Fin.ext ?_)
    have h0 : (y 0).val < 1 := (y 0).isLt
    fin_cases b <;> simp [Rect.unit, LoadRect.idx, Rect.toLoadRect] <;> omega
  · funext y
    rw [Memref.IsWhole.readAt_unread]
    refine congrArg a.x7 (funext fun b => Fin.ext ?_)
    have h0 : (y 0).val < 1 := (y 0).isLt
    fin_cases b <;> simp [Rect.unit, LoadRect.idx, Rect.toLoadRect] <;> omega
  · funext y
    rw [Memref.IsWhole.readAt_unread]
    refine congrArg a.x8 (funext fun b => Fin.ext ?_)
    have h0 : (y 0).val < 1 := (y 0).isLt
    fin_cases b <;> simp [Rect.unit, LoadRect.idx, Rect.toLoadRect] <;> omega
  · funext y
    rw [Memref.IsWhole.readAt_unread]
    refine congrArg a.x9 (funext fun b => Fin.ext ?_)
    have h0 : (y 0).val < 1 := (y 0).isLt
    have h1 : (y 1).val < 1 := (y 1).isLt
    fin_cases b <;> simp [Rect.unit, LoadRect.idx, Rect.toLoadRect] <;> omega
  · unfold runB.sl.r_40
    rw [Memref.IsWhole.readAt_unread]
    refine congrArg a.x0 (funext fun b => Fin.ext ?_)
    have e := congrFun (off3_eq a.i 1) (0 : Fin 1)
    fin_cases b; simpa [Rect.unit, LoadRect.idx, Rect.toLoadRect, Shape.Idx.first] using e
  · unfold runB.sl.r_41
    rw [Memref.IsWhole.readAt_unread]
    refine congrArg a.x3 (funext fun b => Fin.ext ?_)
    have e := congrFun (off3_eq a.i 1) (0 : Fin 1)
    fin_cases b; simpa [Rect.unit, LoadRect.idx, Rect.toLoadRect, Shape.Idx.first] using e
  · unfold runB.sl.r
    rw [Memref.IsWhole.readAt_unread]
    refine congrArg a.x1 (funext fun b => Fin.ext ?_)
    have e := congrFun (off2_eq a.i) (0 : Fin 1)
    fin_cases b; simpa [Rect.unit, LoadRect.idx, Rect.toLoadRect, Shape.Idx.first] using e
  · unfold runB.sl.r_5
    rw [Memref.IsWhole.readAt_unread]
    refine congrArg a.x2 (funext fun b => Fin.ext ?_)
    have e := congrFun (off2_eq a.i) (0 : Fin 1)
    fin_cases b; simpa [Rect.unit, LoadRect.idx, Rect.toLoadRect, Shape.Idx.first] using e

/-- Reshaping a key block to its own shape changes nothing. -/
theorem pay9_eq (x : Vec F S1x256x256 .fp8e4m3) : k0_pay9 x = x := by unfold k0_pay9; exact shapeCast_shapeCast ..
/-- Reshaping a value block to its own shape changes nothing. -/
theorem pay10_eq (x : Vec F S1x256x256 .fp8e4m3) : k0_pay10 x = x := by unfold k0_pay10; exact shapeCast_shapeCast ..

/-- The key ring after the point's block is stored. -/
theorem ring0_eq : a.m15.view.read (Elt F) (a.m15.view.writes (Elt F) (a.h15.unread a.y0) (runB.sl.HS0_1 c a hc1)) = setSlot a.y0 (sl a.i 4) a.x5 := by
  unfold runB.sl.HS0_1
  rw [write1, pay9_eq, a.h15.read_unread, show (View.readAt (Elt F) a.m7.view _ (a.h7.unread a.x5)) = _ from View.readAt_full _ _ _, a.h7.read_unread]
/-- The value ring after the point's block is stored. -/
theorem ring1_eq : a.m16.view.read (Elt F) (a.m16.view.writes (Elt F) (a.h16.unread a.y1) (runB.sl.HS1_1 c a hc1)) = setSlot a.y1 (sl a.i 4) a.x6 := by
  unfold runB.sl.HS1_1
  rw [write1, pay10_eq, a.h16.read_unread, show (View.readAt (Elt F) a.m8.view _ (a.h8.unread a.x6)) = _ from View.readAt_full _ _ _, a.h8.read_unread]

/-- The key block loaded at window place `j`, in terms of the rings before the point. -/
theorem kb_eq (j : Fin 5) : a.kb c hc1 j = a.k j := by
  unfold Args.kb Args.k
  rw [read4, ring0_eq]
  by_cases h : j = 4
  · subst h; rw [if_pos rfl, slot_set_same]
  · rw [if_neg h, slot_set_ne _ _ _ _ (sl_ne a.i h)]
/-- The value block loaded at window place `j`, in terms of the rings before the point. -/
theorem vb_eq (j : Fin 5) : a.vb c hc1 j = a.v j := by
  unfold Args.vb Args.v
  rw [read4, ring1_eq]
  by_cases h : j = 4
  · subst h; rw [if_pos rfl, slot_set_same]
  · rw [if_neg h, slot_set_ne _ _ _ _ (sl_ne a.i h)]

/-- The key-gradient ring after the point. -/
def Args.z2 : Vec F S5x256x256 .f32 := a.m17.view.read (Elt F) (a.m17.view.writes (Elt F) (a.h17.unread a.y2) (runB.sl.HS2_11 c a hc1))
/-- The value-gradient ring after the point. -/
def Args.z3 : Vec F S5x256x256 .f32 := a.m18.view.read (Elt F) (a.m18.view.writes (Elt F) (a.h18.unread a.y3) (runB.sl.HS3_11 c a hc1))

/-- What the key-gradient ring's slots hold after the point. -/
theorem z2_slot (j : Fin 5) : slot (a.z2 c hc1) (sl a.i j) = (a.head 1).dk j.val (a.k j) (a.v j) ((a.head 0).dk j.val (a.k j) (a.v j) (if j = 4 then k0_pay11 else slot a.y2 (sl a.i j))) := by
  have h := ring_steps a.m17.view a.i hc1 (k0_off1_inb a.i hc1) (k0_pay11 (F := F)) (fun j acc => (a.hd0 c hc1).dk j.val (a.kb c hc1 j) (a.vb c hc1 j) acc) (fun j acc => (a.hd1 c hc1).dk j.val (a.kb c hc1 j) (a.vb c hc1 j) acc) (a.h17.unread a.y2) a.m17.view.junk
    _ _ _ _ _ _ _ _ _ _ _ (show runB.sl.HS2_1 a hc1 = _ from rfl) (HS2_2_eq c a hc1) (HS2_3_eq c a hc1) (HS2_4_eq c a hc1) (HS2_5_eq c a hc1) (HS2_6_eq c a hc1) (HS2_7_eq c a hc1) (HS2_8_eq c a hc1) (HS2_9_eq c a hc1) (HS2_10_eq c a hc1) (HS2_11_eq c a hc1) (a.h17.unread a.y2) j
  rw [a.h17.read_unread, hd0_eq, hd1_eq, kb_eq, vb_eq] at h
  exact h
/-- What the value-gradient ring's slots hold after the point. -/
theorem z3_slot (j : Fin 5) : slot (a.z3 c hc1) (sl a.i j) = (a.head 1).dv j.val (a.k j) ((a.head 0).dv j.val (a.k j) (if j = 4 then k0_pay12 else slot a.y3 (sl a.i j))) := by
  have h := ring_steps a.m18.view a.i hc1 (k0_off1_inb a.i hc1) (k0_pay12 (F := F)) (fun j acc => (a.hd0 c hc1).dv j.val (a.kb c hc1 j) acc) (fun j acc => (a.hd1 c hc1).dv j.val (a.kb c hc1 j) acc) (a.h18.unread a.y3) a.m18.view.junk
    _ _ _ _ _ _ _ _ _ _ _ (show runB.sl.HS3_1 a hc1 = _ from rfl) (HS3_2_eq c a hc1) (HS3_3_eq c a hc1) (HS3_4_eq c a hc1) (HS3_5_eq c a hc1) (HS3_6_eq c a hc1) (HS3_7_eq c a hc1) (HS3_8_eq c a hc1) (HS3_9_eq c a hc1) (HS3_10_eq c a hc1) (HS3_11_eq c a hc1) (a.h18.unread a.y3) j
  rw [a.h18.read_unread, hd0_eq, hd1_eq, kb_eq] at h
  exact h

/-- The four rings, and the query-gradient block last written. -/
structure St (F : FTy → Type) where
  y0 : Vec F S5x256x256 .fp8e4m3
  y1 : Vec F S5x256x256 .fp8e4m3
  y2 : Vec F S5x256x256 .f32
  y3 : Vec F S5x256x256 .f32
  o0 : Vec F S2x256x256 .bf16

/-- What the body leaves, from the query-gradient block `p` before it. -/
def Args.fin (c : Dev nD) (a : Args F) (p : Vec F S2x256x256 .bf16) : St F :=
  if hc1 : k0_cond2 a.i = 1#1 then
    ⟨setSlot a.y0 (sl a.i 4) a.x5, setSlot a.y1 (sl a.i 4) a.x6, a.z2 c hc1, a.z3 c hc1, pair ((a.head 0).dqOut a.k a.v) ((a.head 1).dqOut a.k a.v)⟩
  else ⟨a.y0, a.y1, a.y2, a.y3, p⟩

/-- What a point with a query block leaves in the rings and the query-gradient block. -/
theorem Args.fin_pos (c : Dev nD) (a : Args F) (p : Vec F S2x256x256 .bf16) (hc1 : k0_cond2 a.i = 1#1) :
    a.fin c p = ⟨setSlot a.y0 (sl a.i 4) a.x5, setSlot a.y1 (sl a.i 4) a.x6, a.z2 c hc1, a.z3 c hc1, pair ((a.head 0).dqOut a.k a.v) ((a.head 1).dqOut a.k a.v)⟩ := by
  unfold Args.fin; exact dif_pos hc1
/-- What a point without a query block leaves: everything as it was. -/
theorem Args.fin_neg (c : Dev nD) (a : Args F) (p : Vec F S2x256x256 .bf16) (hn : ¬ k0_cond2 a.i = 1#1) :
    a.fin c p = ⟨a.y0, a.y1, a.y2, a.y3, p⟩ := by
  unfold Args.fin; exact dif_neg hn

/-- The scratch after the body. -/
def scrAt (c : Dev nD) (a : Args F) (s : St F) : sProp 𝕄 :=
  iprop(owns (c : Thread nD τ) a.m15 fullShare s.y0 ∗ owns (c : Thread nD τ) a.m16 fullShare s.y1 ∗ owns (c : Thread nD τ) a.m17 fullShare s.y2 ∗ owns (c : Thread nD τ) a.m18 fullShare s.y3)
/-- The three output blocks after the body. -/
def outAt (c : Dev nD) (a : Args F) (s : St F) : sProp 𝕄 :=
  iprop(owns (c : Thread nD τ) a.m12 fullShare s.o0 ∗ owns (c : Thread nD τ) a.m13 fullShare (k0_pay7 (slot s.y2 (sl a.i 0))) ∗ owns (c : Thread nD τ) a.m14 fullShare (k0_pay8 (slot s.y3 (sl a.i 0))))

/-- Contents written through a whole memref are the contents they read as. -/
theorem owns_writes {sp : Space} {s : Shape} {e : EltTy} (c : Dev nD) (v : Memref sig .tc sp s e) (f : Buf (Elt F) (v.view.loc (c : Thread nD τ))) (d : Vec F s e) (h : v.view.read (Elt F) f = d) :
    (v.view.loc (c : Thread nD τ) ↦[v.view.set]{fullShare} f : sProp 𝕄) ⊢ owns (c : Thread nD τ) v fullShare d := by
  iintro H
  unfold owns
  iexists _; isplitr
  swap; · iexact H
  ipureintro; exact h

/-- `kb_eq` for all five places. -/
theorem kf_eq : a.kb c hc1 = a.k := funext fun j => kb_eq c a hc1 j
/-- `vb_eq` for all five places. -/
theorem vf_eq : a.vb c hc1 = a.v := funext fun j => vb_eq c a hc1 j

/-- What a point with a query block writes to the query gradients: both heads' blocks. -/
theorem L0_eq (f) : a.m12.view.read (Elt F) (a.m12.view.writes (Elt F) f (runB c a hc1).1) = pair ((a.head 0).dqOut a.k a.v) ((a.head 1).dqOut a.k a.v) := by
  rw [← hd0_eq c a hc1, ← hd1_eq c a hc1, ← kf_eq c a hc1, ← vf_eq c a hc1, ← dq0_eq, ← dq1_eq]
  exact read_pair a.m12.view f _ _
/-- What a point with a query block writes to the key gradients: the oldest slot. -/
theorem L1_eq (f) : a.m13.view.read (Elt F) (a.m13.view.writes (Elt F) f (runB c a hc1).2.1) = k0_pay7 (slot (a.z2 c hc1) (sl a.i 0)) := by
  refine (View.read_writes_full a.m13.view f _ (k0_pay7 (runB.sl.v10 c a hc1)) []).trans (congrArg k0_pay7 ?_)
  exact View.readAt_unit a.m17.view _ _ (off5_eq a.i) (slot_inb _)
/-- What a point with a query block writes to the value gradients: the oldest slot. -/
theorem L2_eq (f) : a.m14.view.read (Elt F) (a.m14.view.writes (Elt F) f (runB c a hc1).2.2.1) = k0_pay8 (slot (a.z3 c hc1) (sl a.i 0)) := by
  refine (View.read_writes_full a.m14.view f _ (k0_pay8 (runB.sl.v17 c a hc1)) []).trans (congrArg k0_pay8 ?_)
  exact View.readAt_unit a.m18.view _ _ (off5_eq a.i) (slot_inb _)
/-- What a point without a query block writes to the key gradients: the oldest slot. -/
theorem C1_eq (hn : ¬ k0_cond2 a.i = 1#1) (f) : a.m13.view.read (Elt F) (a.m13.view.writes (Elt F) f (runC c a hn).1) = k0_pay7 (slot a.y2 (sl a.i 0)) := by
  refine (View.read_writes_full a.m13.view f _ (k0_pay7 (View.readAt (Elt F) a.m17.view (Rect.unit (s := S5x256x256) (k0_off5 a.i) S1x256x256.size (k0_off5_inb a.i)).toLoadRect (a.h17.unread a.y2))) []).trans (congrArg k0_pay7 ?_)
  refine (View.readAt_unit a.m17.view _ _ (off5_eq a.i) (slot_inb _)).trans ?_
  rw [a.h17.read_unread]; unfold slot; rfl
/-- What a point without a query block writes to the value gradients: the oldest slot. -/
theorem C2_eq (hn : ¬ k0_cond2 a.i = 1#1) (f) : a.m14.view.read (Elt F) (a.m14.view.writes (Elt F) f (runC c a hn).2.1) = k0_pay8 (slot a.y3 (sl a.i 0)) := by
  refine (View.read_writes_full a.m14.view f _ (k0_pay8 (View.readAt (Elt F) a.m18.view (Rect.unit (s := S5x256x256) (k0_off5 a.i) S1x256x256.size (k0_off5_inb a.i)).toLoadRect (a.h18.unread a.y3))) []).trans (congrArg k0_pay8 ?_)
  refine (View.readAt_unit a.m18.view _ _ (off5_eq a.i) (slot_inb _)).trans ?_
  rw [a.h18.read_unread]; unfold slot; rfl

/-- After its first conditional the body runs, from the scratch at its contents and the query-gradient block at `p` if
the point leaves it alone, and leaves `Args.fin`. -/
theorem Args.rest_named (c : Dev nD) (a : Args F) (p : Vec F S2x256x256 .bf16) (E : Set ℕ) (K : PUnit → sProp 𝕄) :
    iprop(a.ins c ∗ (∃ d, ⌜¬ k0_cond2 a.i = 1#1 → d = p⌝ ∗ owns (c : Thread nD τ) a.m12 fullShare d) ∗ (∃ d, owns (c : Thread nD τ) a.m13 fullShare d) ∗ (∃ d, owns (c : Thread nD τ) a.m14 fullShare d) ∗ a.scr c
        ∗ (iprop(a.ins c ∗ outAt c a (a.fin c p) ∗ scrAt c a (a.fin c p)) -∗ K ⟨⟩))
      ⊢ wp frame (wpE (defs₀ (F := F)) Variants.none c none) E a.restP K := by
  by_cases hc1 : k0_cond2 a.i = 1#1
  · unfold Args.fin; rw [dif_pos hc1]; unfold outAt scrAt; dsimp only
    iintro ⟨HI, ⟨%d, -, H10⟩, H11, H12, HS, Hk⟩
    iapply ((runB c a hc1).2.2.2.2.2.2.2 E K)
    isplitl [HI]; · iexact HI
    isplitl [H10]; · iexists _; iexact H10
    isplitl [H11]; · iexact H11
    isplitl [H12]; · iexact H12
    isplitl [HS]; · iexact HS
    iintro ⟨HI, ⟨%f10, H10⟩, ⟨%f11, H11⟩, ⟨%f12, H12⟩, HS0, HS1, HS2, HS3⟩
    iapply Hk
    isplitl [HI]; · iexact HI
    isplitl [H10 H11 H12]
    · isplitl [H10]; · iapply (owns_writes c a.m12 _ _ (L0_eq c a hc1 f10)); iexact H10
      isplitl [H11]; · iapply (owns_writes c a.m13 _ _ (L1_eq c a hc1 f11)); iexact H11
      iapply (owns_writes c a.m14 _ _ (L2_eq c a hc1 f12)); iexact H12
    isplitl [HS0]; · iapply (owns_writes c a.m15 _ _ (ring0_eq c a hc1)); iexact HS0
    isplitl [HS1]; · iapply (owns_writes c a.m16 _ _ (ring1_eq c a hc1)); iexact HS1
    isplitl [HS2]; · iapply (owns_writes c a.m17 _ (a.z2 c hc1) rfl); iexact HS2
    iapply (owns_writes c a.m18 _ (a.z3 c hc1) rfl); iexact HS3
  · unfold Args.fin; rw [dif_neg hc1]; unfold outAt scrAt Args.scr; dsimp only
    iintro ⟨HI, ⟨%d, %hd, H10⟩, H11, H12, ⟨HS0, HS1, HS2, HS3⟩, Hk⟩
    obtain rfl := hd hc1
    iapply ((runC c a hc1).2.2 E K)
    isplitl [H11]; · iexact H11
    isplitl [H12]; · iexact H12
    isplitl [HS2]; · iexact HS2
    isplitl [HS3]; · iexact HS3
    iintro ⟨⟨%f11, H11⟩, ⟨%f12, H12⟩, HS2, HS3⟩
    iapply Hk
    isplitl [HI]; · iexact HI
    isplitl [H10 H11 H12]
    · isplitl [H10]; · iexact H10
      isplitl [H11]; · iapply (owns_writes c a.m13 _ _ (C1_eq c a hc1 f11)); iexact H11
      iapply (owns_writes c a.m14 _ _ (C2_eq c a hc1 f12)); iexact H12
    isplitl [HS0]; · iexact HS0
    isplitl [HS1]; · iexact HS1
    isplitl [HS2]; · iexact HS2
    iexact HS3

end Cert.KernelIdeal.Gen

end
-- ==== Proof.KI.Frame.lean ====
module

public import proofs.«01_k».proof.Proof.KI.Step
public import Idealize.ShloMosaic.Lib.VecWindow
public import Idealize.ShloMosaic.Lib.Claim
public import Idealize.ShloMosaic.Lib.Pipeline.TableIdle

/-! The region, point by point, with every buffer named: the rings after each point, the three output blocks, the run of the
program from them, and its frame. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

/-- What the body is given at point `t`: the staging buffers in use there, the inputs' blocks, the scratch at `y…`. -/
def pt (c : Dev nD) (t : Fin cfg0.N) (y0 y1 : Vec F S5x256x256 .fp8e4m3) (y2 y3 : Vec F S5x256x256 .f32) : Args F :=
  { i := grid0.coords t, m2 := win0_0.stage (cfg0.slots t 0), h2 := hstage0_0 ((cfg0.slots t 0).cast nbuf0_0), m3 := win0_1.stage (cfg0.slots t 1), h3 := hstage0_1 ((cfg0.slots t 1).cast nbuf0_1), m4 := win0_2.stage (cfg0.slots t 2), h4 := hstage0_2 ((cfg0.slots t 2).cast nbuf0_2), m5 := win0_3.stage (cfg0.slots t 3), h5 := hstage0_3 ((cfg0.slots t 3).cast nbuf0_3), m6 := win0_4.stage (cfg0.slots t 4), h6 := hstage0_4 ((cfg0.slots t 4).cast nbuf0_4), m7 := win0_5.stage (cfg0.slots t 5), h7 := hstage0_5 ((cfg0.slots t 5).cast nbuf0_5), m8 := win0_6.stage (cfg0.slots t 6), h8 := hstage0_6 ((cfg0.slots t 6).cast nbuf0_6), m9 := win0_7.stage (cfg0.slots t 7), h9 := hstage0_7 ((cfg0.slots t 7).cast nbuf0_7), m10 := win0_8.stage (cfg0.slots t 8), h10 := hstage0_8 ((cfg0.slots t 8).cast nbuf0_8), m11 := win0_9.stage (cfg0.slots t 9), h11 := hstage0_9 ((cfg0.slots t 9).cast nbuf0_9), m12 := win0_10.stage (cfg0.slots t 10), h12 := hstage0_10 ((cfg0.slots t 10).cast nbuf0_10), m13 := win0_11.stage (cfg0.slots t 11), h13 := hstage0_11 ((cfg0.slots t 11).cast nbuf0_11), m14 := win0_12.stage (cfg0.slots t 12), h14 := hstage0_12 ((cfg0.slots t 12).cast nbuf0_12), m15 := Memref.whole cc0_scratch0, h15 := Memref.isWhole_whole _, m16 := Memref.whole cc0_scratch1, h16 := Memref.isWhole_whole _, m17 := Memref.whole cc0_scratch2, h17 := Memref.isWhole_whole _, m18 := Memref.whole cc0_scratch3, h18 := Memref.isWhole_whole _, x0 := iblk m c 0 t, x1 := iblk m c 1 t, x2 := iblk m c 2 t, x3 := iblk m c 3 t, x4 := iblk m c 4 t, x5 := iblk m c 5 t, x6 := iblk m c 6 t, x7 := iblk m c 7 t, x8 := iblk m c 8 t, x9 := iblk m c 9 t, y0 := y0, y1 := y1, y2 := y2, y3 := y3 }

/-- The scratch operands at some contents, and the generator register: the region's own invariant. -/
theorem PhiA0_eq (c : Dev nD) :
    (Pipeline.ΦA spec0 c : sProp 𝕄)
      = iprop(iprop((∃ d, owns (c : Thread nD τ) (Memref.whole cc0_scratch0) fullShare d) ∗ (∃ d, owns (c : Thread nD τ) (Memref.whole cc0_scratch1) fullShare d) ∗ (∃ d, owns (c : Thread nD τ) (Memref.whole cc0_scratch2) fullShare d) ∗ (∃ d, owns (c : Thread nD τ) (Memref.whole cc0_scratch3) fullShare d)) ∗ (∃ r, prngReg c r)) := by
  unfold Pipeline.ΦA; rw [scopedRest0_eq]; simp only [owns_whole]; try rfl

open VecWindow ValueIdx

/-- The rings as the body's first conditional leaves them: cleared at a key head's first point. -/
def stIn (t : Fin cfg0.N) (s : St F) : St F :=
  if cond0 (grid0.coords t) then ⟨k0_pay1, k0_pay2, k0_pay3, k0_pay4, s.o0⟩ else s

/-- One point of the region. -/
def step (c : Dev nD) (t : Fin cfg0.N) (s : St F) : St F :=
  (pt m c t (stIn t s).y0 (stIn t s).y1 (stIn t s).y2 (stIn t s).y3).fin c s.o0

/-- The rings and the query-gradient block after the first `n` points. -/
def stAt (c : Dev nD) : ℕ → St F
  | 0 => ⟨k0_pay1, k0_pay2, k0_pay3, k0_pay4, pair (k0_pay7 (slot k0_pay3 0)) (k0_pay7 (slot k0_pay3 0))⟩
  | n + 1 => if hn : n < cfg0.N then step m c ⟨n, hn⟩ (stAt c n) else stAt c n

/-- What is held after a point is one step from what is held before it. -/
theorem stAt_succ (c : Dev nD) (t : Fin cfg0.N) : stAt m c (t.val + 1) = step m c t (stAt m c t.val) := by
  rw [stAt, dif_pos t.isLt]

/-- The invariant: the scratch at what the points so far left, and the generator register. -/
def PhiS (c : Dev nD) : (n : ℕ) → n ≤ cfg0.N → sProp 𝕄
  | 0, _ => Pipeline.ΦA spec0 c
  | n + 1, _ => iprop(iprop(owns (c : Thread nD τ) (Memref.whole cc0_scratch0) fullShare (stAt m c (n + 1)).y0 ∗ owns (c : Thread nD τ) (Memref.whole cc0_scratch1) fullShare (stAt m c (n + 1)).y1 ∗ owns (c : Thread nD τ) (Memref.whole cc0_scratch2) fullShare (stAt m c (n + 1)).y2 ∗ owns (c : Thread nD τ) (Memref.whole cc0_scratch3) fullShare (stAt m c (n + 1)).y3) ∗ (∃ r, prngReg c r))

/-- Before the first point the scratch may hold anything. -/
theorem PhiS_zero (c : Dev nD) (n : ℕ) (hn : n ≤ cfg0.N) (hz : n = 0) : PhiS m c n hn = Pipeline.ΦA spec0 c := by subst hz; rfl
/-- After a point the scratch holds what the points so far left. -/
theorem PhiS_pos (c : Dev nD) (n : ℕ) (hn : n ≤ cfg0.N) (hz : n ≠ 0) :
    PhiS m c n hn = iprop(iprop(owns (c : Thread nD τ) (Memref.whole cc0_scratch0) fullShare (stAt m c n).y0 ∗ owns (c : Thread nD τ) (Memref.whole cc0_scratch1) fullShare (stAt m c n).y1 ∗ owns (c : Thread nD τ) (Memref.whole cc0_scratch2) fullShare (stAt m c n).y2 ∗ owns (c : Thread nD τ) (Memref.whole cc0_scratch3) fullShare (stAt m c n).y3) ∗ (∃ r, prngReg c r)) := by
  cases n with | zero => exact absurd rfl hz | succ n => rfl

/-- The proof data: each input's buffer at its block, each output's at what the rings give. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => iblk m c 6 t
    | ⟨7, _⟩ => iblk m c 7 t
    | ⟨8, _⟩ => iblk m c 8 t
    | ⟨9, _⟩ => iblk m c 9 t
    | ⟨10, _⟩ => (stAt m c (t.val + 1)).o0
    | ⟨11, _⟩ => k0_pay7 (slot (stAt m c (t.val + 1)).y2 (sl (grid0.coords t) 0))
    | ⟨12, _⟩ => k0_pay8 (slot (stAt m c (t.val + 1)).y3 (sl (grid0.coords t) 0))
  Φ t := PhiS m c t.val (Nat.le_of_lt_succ t.isLt)
  q _ := fullShare
  owed _ := 0

/-- The proof data's arrays are the region-entry contents. -/
theorem A_eq (c : Dev nD) (w : Fin cfg0.W) : (dats m 0 c).A w = V m c (Pipeline.arrRef spec0 w) := by
  dsimp only [dats]
/-- The invariant before point `t`. -/
theorem PhiS_castSucc (c : Dev nD) (t : Fin cfg0.N) : (dats m 0 c).Φ t.castSucc = PhiS m c t.val (Nat.le_of_lt t.isLt) := by
  dsimp only [dats]; exact Pipeline.Dat.Φ_castSucc (PhiS m c) t

/-- Input window 0 holds its block after the body. -/
theorem after0_0 (c : Dev nD) (t : Fin cfg0.N) : (dats m 0 c).after 0 t = iblk m c 0 t := by dsimp only [dats]
/-- Input window 0 holds its block before the body. -/
theorem before0_0 (c : Dev nD) (t : Fin cfg0.N) (d) : (dats m 0 c).before 0 t d = iblk m c 0 t :=
  before0_0_of m (dats m 0 c) (A_eq m c 0) (after0_0 m c) t d
/-- Input window 1 holds its block after the body. -/
theorem after0_1 (c : Dev nD) (t : Fin cfg0.N) : (dats m 0 c).after 1 t = iblk m c 1 t := by dsimp only [dats]
/-- Input window 1 holds its block before the body. -/
theorem before0_1 (c : Dev nD) (t : Fin cfg0.N) (d) : (dats m 0 c).before 1 t d = iblk m c 1 t :=
  before0_1_of m (dats m 0 c) (A_eq m c 1) (after0_1 m c) t d
/-- Input window 2 holds its block after the body. -/
theorem after0_2 (c : Dev nD) (t : Fin cfg0.N) : (dats m 0 c).after 2 t = iblk m c 2 t := by dsimp only [dats]
/-- Input window 2 holds its block before the body. -/
theorem before0_2 (c : Dev nD) (t : Fin cfg0.N) (d) : (dats m 0 c).before 2 t d = iblk m c 2 t :=
  before0_2_of m (dats m 0 c) (A_eq m c 2) (after0_2 m c) t d
/-- Input window 3 holds its block after the body. -/
theorem after0_3 (c : Dev nD) (t : Fin cfg0.N) : (dats m 0 c).after 3 t = iblk m c 3 t := by dsimp only [dats]
/-- Input window 3 holds its block before the body. -/
theorem before0_3 (c : Dev nD) (t : Fin cfg0.N) (d) : (dats m 0 c).before 3 t d = iblk m c 3 t :=
  before0_3_of m (dats m 0 c) (A_eq m c 3) (after0_3 m c) t d
/-- Input window 4 holds its block after the body. -/
theorem after0_4 (c : Dev nD) (t : Fin cfg0.N) : (dats m 0 c).after 4 t = iblk m c 4 t := by dsimp only [dats]
/-- Input window 4 holds its block before the body. -/
theorem before0_4 (c : Dev nD) (t : Fin cfg0.N) (d) : (dats m 0 c).before 4 t d = iblk m c 4 t :=
  before0_4_of m (dats m 0 c) (A_eq m c 4) (after0_4 m c) t d
/-- Input window 5 holds its block after the body. -/
theorem after0_5 (c : Dev nD) (t : Fin cfg0.N) : (dats m 0 c).after 5 t = iblk m c 5 t := by dsimp only [dats]
/-- Input window 5 holds its block before the body. -/
theorem before0_5 (c : Dev nD) (t : Fin cfg0.N) (d) : (dats m 0 c).before 5 t d = iblk m c 5 t :=
  before0_5_of m (dats m 0 c) (A_eq m c 5) (after0_5 m c) t d
/-- Input window 6 holds its block after the body. -/
theorem after0_6 (c : Dev nD) (t : Fin cfg0.N) : (dats m 0 c).after 6 t = iblk m c 6 t := by dsimp only [dats]
/-- Input window 6 holds its block before the body. -/
theorem before0_6 (c : Dev nD) (t : Fin cfg0.N) (d) : (dats m 0 c).before 6 t d = iblk m c 6 t :=
  before0_6_of m (dats m 0 c) (A_eq m c 6) (after0_6 m c) t d
/-- Input window 7 holds its block after the body. -/
theorem after0_7 (c : Dev nD) (t : Fin cfg0.N) : (dats m 0 c).after 7 t = iblk m c 7 t := by dsimp only [dats]
/-- Input window 7 holds its block before the body. -/
theorem before0_7 (c : Dev nD) (t : Fin cfg0.N) (d) : (dats m 0 c).before 7 t d = iblk m c 7 t :=
  before0_7_of m (dats m 0 c) (A_eq m c 7) (after0_7 m c) t d
/-- Input window 8 holds its block after the body. -/
theorem after0_8 (c : Dev nD) (t : Fin cfg0.N) : (dats m 0 c).after 8 t = iblk m c 8 t := by dsimp only [dats]
/-- Input window 8 holds its block before the body. -/
theorem before0_8 (c : Dev nD) (t : Fin cfg0.N) (d) : (dats m 0 c).before 8 t d = iblk m c 8 t :=
  before0_8_of m (dats m 0 c) (A_eq m c 8) (after0_8 m c) t d
/-- Input window 9 holds its block after the body. -/
theorem after0_9 (c : Dev nD) (t : Fin cfg0.N) : (dats m 0 c).after 9 t = iblk m c 9 t := by dsimp only [dats]
/-- Input window 9 holds its block before the body. -/
theorem before0_9 (c : Dev nD) (t : Fin cfg0.N) (d) : (dats m 0 c).before 9 t d = iblk m c 9 t :=
  before0_9_of m (dats m 0 c) (A_eq m c 9) (after0_9 m c) t d
/-- What output window 10 holds after the body. -/
theorem after0_10 (c : Dev nD) (t : Fin cfg0.N) : (dats m 0 c).after 10 t = (stAt m c (t.val + 1)).o0 := by dsimp only [dats]
/-- What output window 11 holds after the body. -/
theorem after0_11 (c : Dev nD) (t : Fin cfg0.N) : (dats m 0 c).after 11 t = k0_pay7 (slot (stAt m c (t.val + 1)).y2 (sl (grid0.coords t) 0)) := by dsimp only [dats]
/-- What output window 12 holds after the body. -/
theorem after0_12 (c : Dev nD) (t : Fin cfg0.N) : (dats m 0 c).after 12 t = k0_pay8 (slot (stAt m c (t.val + 1)).y3 (sl (grid0.coords t) 0)) := by dsimp only [dats]

/-- A point with no query block leaves the query-gradient block. -/
theorem o0_keep (c : Dev nD) (t : Fin cfg0.N) (h : ¬ k0_cond2 (grid0.coords t) = 1#1) : (stAt m c (t.val + 1)).o0 = (stAt m c t.val).o0 := by
  rw [stAt_succ]; unfold step; rw [Args.fin_neg c (pt m c t _ _ _ _) _ h]

/-- Where the query-gradient block is not written, the point has no query block. -/
theorem idle10 (t : Fin cfg0.N) : cfg0.idle 10 (cfg0.grid.coords t) = true → ¬ k0_cond2 (grid0.coords t) = 1#1 := by
  intro h e
  have h' : (!(k0_cond2 (grid0.coords t) == 1#1)) = true := h
  rw [e] at h'; exact absurd h' (by decide)

/-- Where the query-gradient block is first written and where it leaves for its array, decided over all points. -/
theorem fresh_step : ∀ t : Fin cfg0.N, (fun n : ℕ => decide (n % 132 < 128)) (t.val + 1) = ((cfg0.win 10).flush t || (cfg0.idle 10 (cfg0.grid.coords t) && (fun n : ℕ => decide (n % 132 < 128)) t.val)) := by
  decide +kernel

/-- A point has a query block just where its place is below 128. -/
theorem cond2_dec : ∀ t : Fin grid0.N, k0_cond2 (grid0.coords t) = 1#1 ↔ t.val % 132 < 128 := by decide +kernel

/-- At a point with no query block the query-gradient block's buffer holds what the point before left. -/
theorem before10 (c : Dev nD) (t : Fin cfg0.N) (h : ¬ k0_cond2 (grid0.coords t) = 1#1) (d) : (dats m 0 c).before 10 t d = (stAt m c t.val).o0 := by
  have hmod : ¬ t.val % 132 < 128 := fun e => h ((cond2_dec t).mpr e)
  have hz : t.val ≠ 0 := by intro e; rw [e] at hmod; exact hmod (by decide)
  have hpred : t.val - 1 + 1 = t.val := by omega
  have hfr : cfg0.fresh 10 t.val = false := by
    rw [Pipeline.Cfg.fresh_tab cfg0 10 (fun n : ℕ => decide (n % 132 < 128)) rfl fresh_step _ (le_of_lt t.isLt)]
    exact decide_eq_false hmod
  have hb := Pipeline.Dat.before_out_traj (dats m 0 c) 10 rfl (fun _ _ => rfl) (fun t hz hi _ => by
    rw [after0_10, after0_10, o0_keep m c t (idle10 t hi)]; dsimp only; rw [show t.val - 1 + 1 = t.val by omega]) t.val t rfl d
  rw [hb, hfr, if_neg (by decide), after0_10]; dsimp only; rw [hpred]

/-- What the query-gradient block's buffer must hold after the point: only what was there, where the point leaves it alone. -/
def post10 (c : Dev nD) (t : Fin cfg0.N) : sProp 𝕄 :=
  match cfg0.idle 10 (cfg0.grid.coords t) with
  | true => match (cfg0.win 10).flush t with
    | false => iprop(∃ d, owns (c : Thread nD τ) (win0_10.stage (cfg0.slots t 10)) fullShare ((dats m 0 c).before 10 t d))
    | true => owns (c : Thread nD τ) (win0_10.stage (cfg0.slots t 10)) fullShare ((dats m 0 c).after 10 t)
  | false => owns (c : Thread nD τ) (win0_10.stage (cfg0.slots t 10)) fullShare ((dats m 0 c).after 10 t)

/-- The query-gradient block's buffer ends as the step says. -/
theorem post10_of (c : Dev nD) (t : Fin cfg0.N) :
    (owns (c : Thread nD τ) (win0_10.stage (cfg0.slots t 10)) fullShare ((dats m 0 c).after 10 t) : sProp 𝕄) ⊢ post10 m c t := by
  unfold post10
  split
  · rename_i hi
    split
    · iintro H
      iexists (fun y => (stAt m c t.val).o0 y)
      rw [before10 m c t (idle10 t hi), after0_10, o0_keep m c t (idle10 t hi)]
      iexact H
    · exact .rfl
  · exact .rfl

/-- What the body is called with at point `t`, window by window, -/
def bodyPre (c : Dev nD) (t : Fin cfg0.N) : sProp 𝕄 :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d)))

/-- and what it returns. -/
def bodyPost (c : Dev nD) (t : Fin cfg0.N) : sProp 𝕄 :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ owns (c : Thread nD τ) (win0_7.stage (cfg0.slots t 7)) fullShare ((dats m 0 c).after 7 t)
    ∗ owns (c : Thread nD τ) (win0_8.stage (cfg0.slots t 8)) fullShare ((dats m 0 c).after 8 t)
    ∗ owns (c : Thread nD τ) (win0_9.stage (cfg0.slots t 9)) fullShare ((dats m 0 c).after 9 t)
    ∗ post10 m c t
    ∗ owns (c : Thread nD τ) (win0_11.stage (cfg0.slots t 11)) fullShare ((dats m 0 c).after 11 t)
    ∗ owns (c : Thread nD τ) (win0_12.stage (cfg0.slots t 12)) fullShare ((dats m 0 c).after 12 t))

/-- The body's arguments at point `t`. -/
abbrev ptAt (c : Dev nD) (t : Fin cfg0.N) : Args F :=
  pt m c t (stIn t (stAt m c t.val)).y0 (stIn t (stAt m c t.val)).y1 (stIn t (stAt m c t.val)).y2 (stIn t (stAt m c t.val)).y3

set_option maxHeartbeats 3200000 in
/-- The body after its first conditional, at any point. -/
theorem sound_rest (c : Dev nD) (t : Fin cfg0.N) :
    iprop(((∃ r, prngReg c r) ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d))
    ∗ (∃ d, owns (c : Thread nD τ) (win0_10.stage (cfg0.slots t 10)) fullShare ((dats m 0 c).before 10 t d))
    ∗ (∃ d, owns (c : Thread nD τ) (win0_11.stage (cfg0.slots t 11)) fullShare ((dats m 0 c).before 11 t d))
    ∗ (∃ d, owns (c : Thread nD τ) (win0_12.stage (cfg0.slots t 12)) fullShare ((dats m 0 c).before 12 t d)))
    ∗ owns (c : Thread nD τ) (ptAt m c t).m15 fullShare (stIn t (stAt m c t.val)).y0 ∗ owns (c : Thread nD τ) (ptAt m c t).m16 fullShare (stIn t (stAt m c t.val)).y1 ∗ owns (c : Thread nD τ) (ptAt m c t).m17 fullShare (stIn t (stAt m c t.val)).y2 ∗ owns (c : Thread nD τ) (ptAt m c t).m18 fullShare (stIn t (stAt m c t.val)).y3)
      ⊢ wp frame (wpE (defs₀ (F := F)) Variants.none c none) Set.univ (ptAt m c t).restP (fun _ => bodyPost m c t) := by
  have key := (ptAt m c t).rest_named c (stAt m c t.val).o0 Set.univ (fun _ => bodyPost m c t)
  simp only [before0_0, before0_1, before0_2, before0_3, before0_4, before0_5, before0_6, before0_7, before0_8, before0_9]
  refine BIBase.Entails.trans ?_ key
  rw [show (ptAt m c t).fin c (stAt m c t.val).o0 = stAt m c (t.val + 1) from (stAt_succ m c t).symm]
  unfold Args.ins Args.scr outAt scrAt bodyPost
  rw [show (dats m 0 c).owesAt () t.succ = (dats m 0 c).owesAt () t.castSucc from rfl, after0_0, after0_1, after0_2, after0_3, after0_4, after0_5, after0_6, after0_7, after0_8, after0_9, after0_11, after0_12,
    show (dats m 0 c).Φ t.succ = PhiS m c (t.val + 1) t.isLt from rfl, PhiS_pos m c _ _ (Nat.succ_ne_zero _)]
  have h10 := post10_of m c t
  rw [after0_10] at h10
  dsimp only [ptAt, pt]
  iintro ⟨⟨Hg, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩, ⟨%d12, H12⟩⟩, HS⟩
  isplitl [H0 H1 H2 H3 H4 H5 H6 H7 H8 H9]
  · isplitl [H0]; · iexact H0
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    iexact H9
  isplitl [H10]
  · iexists _; isplitr
    swap; · iexact H10
    ipureintro; exact fun h => before10 m c t h _
  isplitl [H11]; · iexists _; iexact H11
  isplitl [H12]; · iexists _; iexact H12
  isplitl [HS]; · iexact HS
  iintro ⟨⟨H0, H1, H2, H3, H4, H5, H6, H7, H8, H9⟩, ⟨H10, H11, H12⟩, HS⟩
  isplitl [HS Hg]
  · isplitl [HS]; · iexact HS
    iexact Hg
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iapply h10; iexact H10
  isplitl [H11]; · iexact H11
  iexact H12

/-- The first point zeroes the rings. -/
theorem cond0_first : ∀ t : Fin grid0.N, t.val = 0 → cond0 (grid0.coords t) := by decide +kernel

set_option maxHeartbeats 3200000 in
/-- The body at any point. -/
theorem sound_body (c : Dev nD) (t : Fin cfg0.N) :
    bodyPre m c t ⊢ wp frame (wpE (defs₀ (F := F)) Variants.none c none) Set.univ (bodyAt0 t) (fun _ => bodyPost m c t) := by
  have hr := sound_rest m c t
  show bodyPre m c t ⊢ wp frame (wpE (defs₀ (F := F)) Variants.none c none) Set.univ (ptAt m c t).body (fun _ => bodyPost m c t)
  unfold bodyPre
  by_cases h0 : cond0 (grid0.coords t)
  · have hc := Args.wp_clear c (ptAt m c t) h0 Set.univ (fun _ => bodyPost m c t) _ (by
      have e : stIn t (stAt m c t.val) = ⟨k0_pay1, k0_pay2, k0_pay3, k0_pay4, (stAt m c t.val).o0⟩ := if_pos h0
      rw [e] at hr; rw [show ptAt m c t = pt m c t k0_pay1 k0_pay2 k0_pay3 k0_pay4 by unfold ptAt; rw [e]]; exact hr)
    refine BIBase.Entails.trans ?_ hc
    dsimp only [ptAt, pt]
    by_cases hz : t.val = 0
    · rw [PhiS_castSucc m c t, PhiS_zero m c _ _ hz, PhiA0_eq]
      iintro ⟨⟨HS, Hg⟩, HW⟩
      isplitl [Hg HW]
      · isplitl [Hg]; · iexact Hg
        iexact HW
      iexact HS
    · rw [PhiS_castSucc m c t, PhiS_pos m c _ _ hz]
      iintro ⟨⟨⟨HS0, HS1, HS2, HS3⟩, Hg⟩, HW⟩
      isplitl [Hg HW]
      · isplitl [Hg]; · iexact Hg
        iexact HW
      isplitl [HS0]; · iexists _; iexact HS0
      isplitl [HS1]; · iexists _; iexact HS1
      isplitl [HS2]; · iexists _; iexact HS2
      iexists _; iexact HS3
  · have hz : t.val ≠ 0 := fun e => h0 (cond0_first t e)
    have e : stIn t (stAt m c t.val) = stAt m c t.val := if_neg h0
    rw [Args.body_eq_rest (ptAt m c t) h0]
    refine BIBase.Entails.trans ?_ hr
    rw [PhiS_castSucc m c t, PhiS_pos m c _ _ hz, e]
    dsimp only [ptAt, pt]
    iintro ⟨⟨HS, Hg⟩, HW⟩
    isplitl [Hg HW]
    · isplitl [Hg]; · iexact Hg
      iexact HW
    iexact HS

/-- The body table's row at point `t`'s slots is the body. -/
theorem defs₀_row (t : Fin cfg0.N) :
    defs₀ (F := F) .tc cfg0.body (cfg0.bodyArgs t (cfg0.slots t)) = bodyAt0 t := by
  unfold defs₀; rw [Defs.onTc_tc]

/-- The body obligation, at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-- The invariant holds at the start. -/
theorem hin (c : Dev nD) : Pipeline.ΦA spec0 c ⊢ (dats m 0 c).Φ 0 := by
  rw [show (dats m 0 c).Φ 0 = PhiS m c 0 (Nat.zero_le _) from rfl, PhiS_zero m c 0 _ rfl]
/-- The invariant gives back the scratch. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA0_eq]
  iintro ⟨⟨HS0, HS1, HS2, HS3⟩, Hg⟩
  isplitl [HS0 HS1 HS2 HS3]
  · isplitl [HS0]; · iexists _; iexact HS0
    isplitl [HS1]; · iexists _; iexact HS1
    isplitl [HS2]; · iexists _; iexact HS2
    iexists _; iexact HS3
  iexact Hg
/-- The invariant gives back the scratch at the end. -/
theorem hout (c : Dev nD) : (dats m 0 c).Φ (Fin.last cfg0.N) ⊢ Pipeline.ΦA spec0 c :=
  Phi_out m c _ (by rw [Fin.val_last]; have : cfg0.N = 528 := N_0; omega)

set_option backward.isDefEq.respectTransparency.types false in
set_option maxHeartbeats 800000 in
/-- The run of @main: every weakly fair execution ends, every array at what the proof data say, every semaphore counter at zero. -/
theorem run_main_quiescent : θ_run defs (onTc (τ := τ) (main (F := F))) (s₀ m ρ) (fun r => (Pipeline.FramePost cfgs (dats m) 0 (Pipeline.afterTail₀ cfgs (dats m) 0 (V0 m) [hostOps1])) r ∧ r.2.sem = fun _ => 0) :=
  Pipeline.θ_run_frame_around_track (Q' := _) cfgs (dats m) (0 : Fin 1) launch0 defs₀ Variants.none m ρ main
    (hbody := fun c => (body_obligation m c).loose) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The run without the counters. -/
theorem run_main : θ_run defs (onTc (τ := τ) (main (F := F))) (s₀ m ρ) (Pipeline.FramePost cfgs (dats m) 0 (Pipeline.afterTail₀ cfgs (dats m) 0 (V0 m) [hostOps1])) :=
  (θ_run defs _ _).mono (fun _ h => h.1) (run_main_quiescent m ρ)

/-- The frame: the argument arrays end unchanged and every counter at zero, at any float semantics. -/
theorem frameT : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9))
      ∧ r.2.sem = fun _ => 0) :=
  θ_run_and (frame_of m ρ (dats m) (A_eq m) (run_main m ρ)) ((θ_run defs _ _).mono (fun _ h => h.2) (run_main_quiescent m ρ))

end Cert.KernelIdeal.Gen

end
-- ==== Proof.KI.Spec.lean ====
module

public import Idealize.ShloMosaic.PureOps.Ideal

/-! The gradients over the extended reals, as plain sums over the rows of the whole arrays, and the same sums by blocks of
256 rows, of which only the five of a window count. -/

@[expose] public section

set_option maxRecDepth 16384

noncomputable section

namespace Cert.Spec

open Idealize.ShloMosaic

/-- The arguments: key head, query head within it, row, column. -/
structure Ins where
  q : Fin 4 → Fin 2 → Fin 32768 → Fin 256 → EReal
  k : Fin 4 → Fin 32768 → Fin 256 → EReal
  v : Fin 4 → Fin 32768 → Fin 256 → EReal
  dO : Fin 4 → Fin 2 → Fin 32768 → Fin 256 → EReal
  o : Fin 4 → Fin 2 → Fin 32768 → Fin 256 → EReal
  lse : Fin 4 → Fin 2 → Fin 32768 → EReal
  qs : Fin 4 → Fin 2 → EReal
  dos : Fin 4 → Fin 2 → EReal
  ks : Fin 4 → EReal
  vs : Fin 4 → EReal

/-- The scales that must be nonnegative and finite. -/
structure Ins.Ok (A : Ins) : Prop where
  qs0 : ∀ g e, 0 ≤ A.qs g e
  qs1 : ∀ g e, A.qs g e ≠ ⊤
  dos0 : ∀ g e, 0 ≤ A.dos g e
  dos1 : ∀ g e, A.dos g e ≠ ⊤

/-- The softmax scale. -/
def sm : EReal := ((1 / 16 : ℝ) : EReal)
/-- The inverse of the softcap. -/
def fifth : EReal := ((5⁻¹ : ℝ) : EReal)

variable (A : Ins)

/-- The tangent of the scaled scores. -/
def Ins.th (g : Fin 4) (e : Fin 2) (r s : Fin 32768) : EReal :=
  Ideal.tanh ((∑ d, A.k g s d * A.q g e r d) * (A.qs g e * (A.ks g * sm) * fifth))
/-- Which keys a query sees. -/
abbrev vis (r s : Fin 32768) : Prop := r.val < s.val + 1024 ∧ s.val ≤ r.val
/-- The probabilities. -/
def Ins.p (g : Fin 4) (e : Fin 2) (r s : Fin 32768) : EReal :=
  if vis r s then Ideal.exp (5 * A.th g e r s - A.lse g e r) else 0
/-- The row sums of output gradient times output. -/
def Ins.delta (g : Fin 4) (e : Fin 2) (r : Fin 32768) : EReal := (∑ d, A.dO g e r d * A.o g e r d) * A.dos g e
/-- The score gradient. -/
def Ins.ds (g : Fin 4) (e : Fin 2) (r s : Fin 32768) : EReal :=
  A.p g e r s * ((∑ d, A.v g s d * A.dO g e r d) * (A.dos g e * A.vs g) - A.delta g e r) * (1 - A.th g e r s * A.th g e r s)
/-- The query gradient. -/
def Ins.dq (g : Fin 4) (e : Fin 2) (r : Fin 32768) (d : Fin 256) : EReal :=
  (∑ s, A.ds g e r s * A.k g s d) * (A.ks g * sm)
/-- The key gradient. -/
def Ins.dk (g : Fin 4) (s : Fin 32768) (d : Fin 256) : EReal :=
  ∑ e, (∑ r, A.ds g e r s * A.q g e r d) * (A.qs g e * sm)
/-- The value gradient. -/
def Ins.dv (g : Fin 4) (s : Fin 32768) (d : Fin 256) : EReal :=
  ∑ e, (∑ r, A.p g e r s * A.dO g e r d) * A.dos g e

/-! ## Arithmetic -/

/-- A finite nonnegative factor goes into a sum. -/
theorem sum_mul_nn {ι : Type} (S : Finset ι) (f : ι → EReal) {c : EReal} (h0 : 0 ≤ c) (h1 : c ≠ ⊤) :
    (∑ i ∈ S, f i) * c = ∑ i ∈ S, f i * c := by
  classical
  induction S using Finset.induction_on with
  | empty => simp
  | insert a S ha ih => rw [Finset.sum_insert ha, Finset.sum_insert ha, EReal.right_distrib_of_nonneg_of_ne_top h0 h1, ih]

/-- The softmax scale is nonnegative. -/
theorem sm_nn : 0 ≤ sm := by unfold sm; exact_mod_cast (by norm_num : (0:ℝ) ≤ 1 / 16)
/-- The softmax scale is finite. -/
theorem sm_top : sm ≠ ⊤ := EReal.coe_ne_top _

/-- A nonnegative scale times the softmax scale is nonnegative. -/
theorem mul_sm_nn {c : EReal} (h0 : 0 ≤ c) : 0 ≤ c * sm := mul_nonneg h0 sm_nn
/-- A finite nonnegative scale times the softmax scale is finite. -/
theorem mul_sm_top {c : EReal} (h0 : 0 ≤ c) (h1 : c ≠ ⊤) : c * sm ≠ ⊤ := by
  have hb : c ≠ ⊥ := by rintro rfl; exact absurd h0 (by simp)
  lift c to ℝ using ⟨h1, hb⟩
  unfold sm; rw [← EReal.coe_mul]; exact EReal.coe_ne_top _

/-- A value of the tangent is a real number. -/
theorem tanh_real (x : EReal) : ∃ t : ℝ, Ideal.tanh x = (t : EReal) := by
  induction x with
  | bot => exact ⟨-1, by rw [EReal.coe_neg, EReal.coe_one]; rfl⟩
  | top => exact ⟨1, by rw [EReal.coe_one]; rfl⟩
  | coe r => exact ⟨_, rfl⟩

/-- The exponential in base two of the rescaled argument is the exponential. -/
theorem exp2_eq (x L : EReal) :
    Ideal.exp2 (Ideal.tanh x * ((5 * (Real.log 2)⁻¹ : ℝ) : EReal) - L * (((Real.log 2)⁻¹ : ℝ) : EReal)) = Ideal.exp (5 * Ideal.tanh x - L) := by
  obtain ⟨t, ht⟩ := tanh_real x
  have hl : 0 < Real.log 2 := Real.log_pos (by norm_num)
  have hp : 0 < (Real.log 2)⁻¹ := inv_pos.mpr hl
  have h5 : (5 : EReal) = ((5 : ℝ) : EReal) := by rw [show (5 : ℝ) = ((5 : ℕ) : ℝ) by norm_num, EReal.coe_natCast]; rfl
  rw [ht, h5]
  induction L with
  | bot =>
    rw [EReal.bot_mul_coe_of_pos hp, ← EReal.coe_mul, ← EReal.coe_mul, EReal.coe_sub_bot, EReal.coe_sub_bot]; rfl
  | top =>
    rw [EReal.top_mul_coe_of_pos hp, ← EReal.coe_mul, ← EReal.coe_mul, EReal.sub_top, EReal.sub_top]; rfl
  | coe l =>
    rw [← EReal.coe_mul, ← EReal.coe_mul, ← EReal.coe_mul, ← EReal.coe_sub, ← EReal.coe_sub]
    show ((Real.rpow 2 _ : ℝ) : EReal) = ((Real.exp _ : ℝ) : EReal)
    congr 1
    rw [Real.rpow_eq_pow, Real.rpow_def_of_pos (by norm_num)]
    congr 1
    field_simp

/-! ## Blocks of rows -/

/-- Row `x` of block `b`. -/
def row (b : ℕ) (x : Fin 256) : Fin 32768 := ⟨(b * 256 + x.val) % 32768, Nat.mod_lt _ (by norm_num)⟩

/-- The row at place `x` of block `b`. -/
theorem row_val {b : ℕ} (hb : b < 128) (x : Fin 256) : (row b x).val = b * 256 + x.val := by
  have := x.isLt
  exact Nat.mod_eq_of_lt (by omega)

/-- A sum over the rows is a sum over the blocks. -/
theorem sum_rows (f : Fin 32768 → EReal) : ∑ r, f r = ∑ i ∈ Finset.range 128, ∑ x, f (row i x) := by
  rw [Finset.sum_range (fun i => ∑ x, f (row i x)), ← Fintype.sum_prod_type' (fun (i : Fin 128) x => f (row i.val x)),
    ← Equiv.sum_comp (finProdFinEquiv : Fin 128 × Fin 256 ≃ Fin 32768) f]
  refine Finset.sum_congr rfl fun p _ => congrArg f (Fin.ext ?_)
  rw [row_val p.1.isLt]
  show p.2.val + 256 * p.1.val = _
  omega

/-- A query block sees nothing of a key block outside its window of five. -/
theorem p_zero {g : Fin 4} {e : Fin 2} {i b : ℕ} (hi : i < 128) (hb : b < 128) (h : ¬ (b ≤ i ∧ i < b + 5)) (x a : Fin 256) :
    A.p g e (row i x) (row b a) = 0 := by
  unfold Ins.p
  rw [if_neg]
  rw [vis, row_val hi, row_val hb]
  have := x.isLt; have := a.isLt
  omega
/-- The gradient of the score is zero between such blocks. -/
theorem ds_zero {g : Fin 4} {e : Fin 2} {i b : ℕ} (hi : i < 128) (hb : b < 128) (h : ¬ (b ≤ i ∧ i < b + 5)) (x a : Fin 256) :
    A.ds g e (row i x) (row b a) = 0 := by
  unfold Ins.ds; rw [p_zero A hi hb h, zero_mul, zero_mul]

/-- What query block `i` of head `e` gives to the key gradient of block `b`. -/
def Ins.cdk (g : Fin 4) (e : Fin 2) (i b : ℕ) (a d : Fin 256) : EReal :=
  (∑ x, A.ds g e (row i x) (row b a) * A.q g e (row i x) d) * (A.qs g e * sm)
/-- What query block `i` of head `e` gives to the value gradient of block `b`. -/
def Ins.cdv (g : Fin 4) (e : Fin 2) (i b : ℕ) (a d : Fin 256) : EReal :=
  (∑ x, A.p g e (row i x) (row b a) * A.dO g e (row i x) d) * A.dos g e

/-- A sum over all blocks whose terms vanish outside a window is the sum over the window. -/
theorem sum_window (B : ℕ → EReal) (b : ℕ) (h : ∀ i < 128, ¬ (b ≤ i ∧ i < b + 5) → B i = 0) :
    ∑ i ∈ Finset.range 128, B i = ∑ i ∈ Finset.Ico b (min (b + 5) 128), B i := by
  symm
  refine Finset.sum_subset (fun i hi => ?_) (fun i hi hn => h i (Finset.mem_range.mp hi) ?_)
  · rw [Finset.mem_Ico] at hi; rw [Finset.mem_range]; omega
  · rw [Finset.mem_range] at hi; rw [Finset.mem_Ico] at hn; omega

/-- A key row's gradient is the sum of the contributions of the query blocks that see it. -/
theorem dk_blocks (hA : A.Ok) (g : Fin 4) {b : ℕ} (hb : b < 128) (a d : Fin 256) :
    A.dk g (row b a) d = ∑ i ∈ Finset.Ico b (min (b + 5) 128), ∑ e, A.cdk g e i b a d := by
  unfold Ins.dk
  rw [Finset.sum_comm]
  refine Finset.sum_congr rfl fun e _ => ?_
  rw [sum_rows, sum_window _ b fun i hi hn => Finset.sum_eq_zero fun x _ => by rw [ds_zero A hi hb hn, zero_mul],
    sum_mul_nn _ _ (mul_sm_nn (hA.qs0 g e)) (mul_sm_top (hA.qs0 g e) (hA.qs1 g e))]
  rfl
/-- A value row's gradient is the sum of the contributions of the query blocks that see it. -/
theorem dv_blocks (hA : A.Ok) (g : Fin 4) {b : ℕ} (hb : b < 128) (a d : Fin 256) :
    A.dv g (row b a) d = ∑ i ∈ Finset.Ico b (min (b + 5) 128), ∑ e, A.cdv g e i b a d := by
  unfold Ins.dv
  rw [Finset.sum_comm]
  refine Finset.sum_congr rfl fun e _ => ?_
  rw [sum_rows, sum_window _ b fun i hi hn => Finset.sum_eq_zero fun x _ => by rw [p_zero A hi hb hn, zero_mul],
    sum_mul_nn _ _ (hA.dos0 g e) (hA.dos1 g e)]
  rfl
/-- A query row's gradient is the sum over the five key blocks of its window. -/
theorem dq_blocks (g : Fin 4) (e : Fin 2) {i : ℕ} (hi : i < 128) (x d : Fin 256) :
    A.dq g e (row i x) d = (∑ j : Fin 5, if 4 ≤ i + j.val then ∑ a, A.ds g e (row i x) (row (i + j.val - 4) a) * A.k g (row (i + j.val - 4) a) d else 0) * (A.ks g * sm) := by
  unfold Ins.dq
  refine congrArg (· * (A.ks g * sm)) ?_
  rw [sum_rows, ← Finset.sum_filter]
  have hsub : ∑ b ∈ (Finset.range 128).filter (fun b => b ≤ i ∧ i < b + 5), ∑ a, A.ds g e (row i x) (row b a) * A.k g (row b a) d = ∑ b ∈ Finset.range 128, ∑ a, A.ds g e (row i x) (row b a) * A.k g (row b a) d := by
    refine Finset.sum_subset (Finset.filter_subset _ _) fun b hb hn => Finset.sum_eq_zero fun a _ => ?_
    rw [Finset.mem_range] at hb
    rw [ds_zero A hi hb (fun h => hn (Finset.mem_filter.mpr ⟨Finset.mem_range.mpr hb, h⟩)), zero_mul]
  rw [← hsub]
  symm
  refine Finset.sum_bij (fun (j : Fin 5) _ => i + j.val - 4) ?_ ?_ ?_ ?_
  · intro j hj; have := j.isLt
    simp only [Finset.mem_filter, Finset.mem_univ, true_and, Finset.mem_range] at hj ⊢
    omega
  · intro j hj j' hj' h
    simp only [Finset.mem_filter, Finset.mem_univ, true_and] at hj hj'
    exact Fin.ext (by omega)
  · intro b hb
    simp only [Finset.mem_filter, Finset.mem_range] at hb
    exact ⟨⟨b + 4 - i, by omega⟩, by simp only [Finset.mem_filter, Finset.mem_univ, true_and]; omega, by simp only; omega⟩
  · intro j hj; rfl

end Cert.Spec

end
-- ==== Proof.KI.Point.lean ====
module

public import proofs.«01_k».proof.Proof.KI.Step
public import proofs.«01_k».proof.Proof.KI.Spec
public import Idealize.ShloMosaic.Lib.Pipeline.ValueKit
public import Idealize.ShloMosaic.Lib.WordCmp

/-! What one query block does, over the extended reals: the terms of the three gradients. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open VecWindow Cert.Spec

variable (A : Ins)

/-- What a head brings, over the extended reals. -/
def hdOf (g : Fin 4) (e : Fin 2) (i : ℕ) : Hd Ideal where
  q y := A.q g e (row i (y 1)) (y 2)
  dO y := A.dO g e (row i (y 1)) (y 2)
  o y := A.o g e (row i (y 1)) (y 2)
  lse y := A.lse g e (row i (y 2))
  qs := A.qs g e
  dos := A.dos g e
  ks := A.ks g
  vs := A.vs g
/-- A block of keys. -/
def kblk (g : Fin 4) (b : ℕ) : Vec Ideal S1x256x256 .fp8e4m3 := fun y => A.k g (row b (y 1)) (y 2)
/-- A block of values. -/
def vblk (g : Fin 4) (b : ℕ) : Vec Ideal S1x256x256 .fp8e4m3 := fun y => A.v g (row b (y 1)) (y 2)

/-- The printed softmax scale is one sixteenth. -/
theorem c_sm : (Ideal.ofBits .f32 0x3D800000#32) = sm := by
  unfold sm; simp [Ideal.ofBits, Ideal.ieee, -EReal.coe_mul]; norm_num
/-- The printed one is one. -/
theorem c_one : (Ideal.ofBits .f32 0x3F800000#32) = 1 := by
  simp [Ideal.ofBits, Ideal.ieee, -EReal.coe_mul]; norm_num
/-- The printed zero is zero. -/
theorem c_zero : (Ideal.ofBits .f32 0x00000000#32) = 0 := by
  simp [Ideal.ofBits, Ideal.ieee, -EReal.coe_mul]
/-- The named inverse softcap is one fifth. -/
theorem n_fifth : Named.named (F := Ideal) κ "inv_softcap" (φ := .f32) 0x3E4CCCCD#32 = fifth :=
  IdealRules.named_const.ideal_named_scalar _ _ _ _ rfl
/-- The second named constant is the inverse of the logarithm of two. -/
theorem n_log2e : Named.named (F := Ideal) κ "log2e" (φ := .f32) 0x3FB8AA3B#32 = (((Real.log 2)⁻¹ : ℝ) : EReal) :=
  IdealRules.named_const.ideal_named_scalar _ _ _ _ rfl
/-- The third named constant is five times that. -/
theorem n_cap : Named.named (F := Ideal) κ "softcap_log2e" (φ := .f32) 0x40E6D4CA#32 = ((5 * (Real.log 2)⁻¹ : ℝ) : EReal) :=
  IdealRules.named_const.ideal_named_scalar _ _ _ _ rfl

/-- The factor that a head puts on the product of its query with a key, before the hyperbolic tangent. -/
theorem c1_of (g : Fin 4) (e : Fin 2) (i : ℕ) : (hdOf A g e i).c1 = A.qs g e * (A.ks g * sm) * fifth := by
  unfold Hd.c1 Hd.kssm; rw [n_fifth]
  show A.qs g e * (A.ks g * Ideal.ofBits .f32 0x3D800000#32) * fifth = _
  rw [c_sm]

/-- The kernel's hyperbolic tangent at a query row and a key row is the specification's. -/
theorem th_of (g : Fin 4) (e : Fin 2) (i b : ℕ) (a x : Fin 256) :
    (hdOf A g e i).th (kblk A g b) (ix2 a x) = A.th g e (row i x) (row b a) := by
  unfold Hd.th Ins.th
  rw [c1_of]
  pointwise [hdOf, kblk]

/-- The log-sum-exp in base two. -/
theorem lse2_of (g : Fin 4) (e : Fin 2) (i : ℕ) (z : Fin 1) (x : Fin 256) :
    (hdOf A g e i).lse2 (ix2 z x) = A.lse g e (row i x) * (((Real.log 2)⁻¹ : ℝ) : EReal) := by
  unfold Hd.lse2
  rw [n_log2e]
  pointwise [hdOf]
/-- The kernel's sum over the products of output and output gradient is the specification's. -/
theorem delta_of (g : Fin 4) (e : Fin 2) (i : ℕ) (z : Fin 1) (x : Fin 256) :
    (hdOf A g e i).delta (ix2 z x) = A.delta g e (row i x) := by
  unfold Hd.delta Ins.delta
  pointwise [hdOf]

/-- The power of two that the kernel takes is the exponential of the capped score less the log-sum-exp. -/
theorem e_of (g : Fin 4) (e : Fin 2) (i b : ℕ) (a x : Fin 256) :
    exp2 (subf (mulf ((hdOf A g e i).th (kblk A g b)) (broadcast S256x256 (Named.named κ "softcap_log2e" 0x40E6D4CA#32))) (broadcastTo S256x256 (hdOf A g e i).lse2 broadcasts_S1x256_S256x256)) (ix2 a x)
      = Ideal.exp (5 * A.th g e (row i x) (row b a) - A.lse g e (row i x)) := by
  rw [n_cap]
  have h1 := th_of A g e i b a x
  have h2 := lse2_of A g e i 0 x
  generalize (hdOf A g e i).th (kblk A g b) = T at *
  generalize (hdOf A g e i).lse2 = L at *
  pointwise []
  rw [h1, h2]
  unfold Ins.th
  exact exp2_eq _ _

/-- The bit of a decision is one just where the decision holds. -/
theorem ofBool_decide_eq_one_iff' (p : Prop) [Decidable p] : BitVec.ofBool (decide p) = 1 ↔ p := by
  by_cases h : p <;> simp [h]

/-- The masks, at a key and a query of the block. -/
theorem msk_at (j : ℕ) (X : FVec Ideal S256x256 .f32) (a x : Fin 256) :
    msk j X (ix2 a x) = if (j = 0 → x.val < a.val) ∧ (j = 4 → a.val ≤ x.val) then X (ix2 a x) else 0 := by
  have ha := a.isLt
  have hx := x.isLt
  unfold msk
  split
  · pointwise []
    rw [Scalar.select, WordCmp.cmpi_sgt_ofNat (by omega) (by omega)]
    refine if_congr ?_ rfl rfl
    rw [ofBool_decide_eq_one_iff']
    exact ⟨fun h => ⟨fun _ => h, False.elim⟩, fun h => h.1 trivial⟩
  · pointwise []
    rw [Scalar.select, WordCmp.cmpi_sle_ofNat (by omega) (by omega)]
    refine if_congr ?_ rfl rfl
    rw [ofBool_decide_eq_one_iff']
    exact ⟨fun h => ⟨False.elim, fun _ => h⟩, fun h => h.2 trivial⟩
  · rename_i h0 h4
    rw [if_pos ⟨fun h => absurd h h0, fun h => absurd h h4⟩]

/-- The kernel's masked probability at a query row and a key row is the specification's. -/
theorem p_of (g : Fin 4) (e : Fin 2) {i b j : ℕ} (hi : i < 128) (hb : b < 128) (hj : j < 5) (h : i + j = b + 4) (a x : Fin 256) :
    (hdOf A g e i).p j (kblk A g b) (ix2 a x) = A.p g e (row i x) (row b a) := by
  unfold Hd.p Ins.p
  rw [msk_at, e_of]
  refine if_congr ?_ rfl rfl
  rw [vis, row_val hi, row_val hb]
  have := a.isLt; have := x.isLt
  constructor
  · rintro ⟨h0, h4⟩
    by_cases hj0 : j = 0
    · have := h0 hj0; omega
    · by_cases hj4 : j = 4
      · have := h4 hj4; omega
      · omega
  · rintro ⟨h0, h4⟩
    exact ⟨fun h => by omega, fun h => by omega⟩

/-- The factor that a head puts on the product of its output gradient with a value. -/
theorem c3_of (g : Fin 4) (e : Fin 2) (i : ℕ) : (hdOf A g e i).c3 = A.dos g e * A.vs g := rfl

/-- The kernel's gradient of the score at a query row and a key row is the specification's. -/
theorem ds_of (g : Fin 4) (e : Fin 2) {i b j : ℕ} (hi : i < 128) (hb : b < 128) (hj : j < 5) (h : i + j = b + 4) (a x : Fin 256) :
    (hdOf A g e i).ds j (kblk A g b) (vblk A g b) (ix2 a x) = A.ds g e (row i x) (row b a) := by
  unfold Hd.ds Ins.ds
  have h1 := p_of A g e hi hb hj h a x
  have h2 := th_of A g e i b a x
  have h3 := delta_of A g e i 0 x
  rw [c3_of]
  generalize (hdOf A g e i).p j (kblk A g b) = P at *
  generalize (hdOf A g e i).th (kblk A g b) = T at *
  generalize (hdOf A g e i).delta = D at *
  pointwise [hdOf, vblk]
  rw [h1, h2, h3]

/-- One step on the value-gradient accumulator adds the head's contribution. -/
theorem dv_of (g : Fin 4) (e : Fin 2) {i b j : ℕ} (hi : i < 128) (hb : b < 128) (hj : j < 5) (h : i + j = b + 4)
    (acc : Vec Ideal S1x256x256 .f32) (z : Fin 1) (a d : Fin 256) :
    (hdOf A g e i).dv j (kblk A g b) acc (ix3 z a d) = acc (ix3 z a d) + A.cdv g e i b a d := by
  unfold Hd.dv Ins.cdv
  have h1 := fun x => p_of A g e hi hb hj h a x
  generalize (hdOf A g e i).p j (kblk A g b) = P at *
  obtain rfl : z = 0 := Subsingleton.elim _ _
  pointwise [hdOf]
  simp only [h1]
/-- One step on the key-gradient accumulator adds the head's contribution. -/
theorem dk_of (g : Fin 4) (e : Fin 2) {i b j : ℕ} (hi : i < 128) (hb : b < 128) (hj : j < 5) (h : i + j = b + 4)
    (acc : Vec Ideal S1x256x256 .f32) (z : Fin 1) (a d : Fin 256) :
    (hdOf A g e i).dk j (kblk A g b) (vblk A g b) acc (ix3 z a d) = acc (ix3 z a d) + A.cdk g e i b a d := by
  unfold Hd.dk Ins.cdk
  have h1 := fun x => ds_of A g e hi hb hj h a x
  generalize (hdOf A g e i).ds j (kblk A g b) (vblk A g b) = P at *
  obtain rfl : z = 0 := Subsingleton.elim _ _
  rw [← c_sm]
  pointwise [hdOf]
  simp only [h1]

/-- The query gradient's sum after one key block. -/
theorem dq_at (X : Hd Ideal) (j : ℕ) (k v : Vec Ideal S1x256x256 .fp8e4m3) (acc : FVec Ideal S256x256 .f32) (x d : Fin 256) :
    X.dq j k v acc (ix2 x d) = acc (ix2 x d) + ∑ a : Fin 256, X.ds j k v (ix2 a x) * (k (ix3 0 a d) : EReal) := by
  unfold Hd.dq
  generalize X.ds j k v = P
  pointwise []

/-- The query gradient of a block, whose window's missing key blocks are zero. -/
theorem dqOut_of (g : Fin 4) (e : Fin 2) {i : ℕ} (hi : i < 128) (k v : Fin 5 → Vec Ideal S1x256x256 .fp8e4m3)
    (hk : ∀ j : Fin 5, k j = if 4 ≤ i + j.val then kblk A g (i + j.val - 4) else fun _ => (0 : EReal))
    (hv : ∀ j : Fin 5, 4 ≤ i + j.val → v j = vblk A g (i + j.val - 4)) (z : Fin 1) (x d : Fin 256) :
    (hdOf A g e i).dqOut k v (ix3 z x d) = A.dq g e (row i x) d := by
  have hterm : ∀ j : Fin 5, (∑ a : Fin 256, (hdOf A g e i).ds j.val (k j) (v j) (ix2 a x) * (k j (ix3 0 a d) : EReal))
      = if 4 ≤ i + j.val then ∑ a, A.ds g e (row i x) (row (i + j.val - 4) a) * A.k g (row (i + j.val - 4) a) d else 0 := by
    intro j
    have hj := j.isLt
    by_cases h : 4 ≤ i + j.val
    · rw [if_pos h]
      refine Finset.sum_congr rfl fun a _ => ?_
      rw [hv j h, hk j, if_pos h, ds_of A g e hi (by omega) hj (by omega) a x]
      rfl
    · rw [if_neg h]
      refine Finset.sum_eq_zero fun a _ => ?_
      rw [show k j (ix3 0 a d) = (0 : EReal) by rw [hk j, if_neg h], mul_zero]
  rw [dq_blocks A g e hi x d, Fin.sum_univ_five, ← hterm 0, ← hterm 1, ← hterm 2, ← hterm 3, ← hterm 4]
  unfold Hd.dqOut Hd.kssm
  have s0 := dq_at (hdOf A g e i) 0 (k 0) (v 0) (broadcast S256x256 (Scalar.ofBits .f32 0x00000000#32)) x d
  generalize (hdOf A g e i).dq 0 (k 0) (v 0) (broadcast S256x256 (Scalar.ofBits .f32 0x00000000#32)) = D0 at *
  have s1 := dq_at (hdOf A g e i) 1 (k 1) (v 1) D0 x d
  generalize (hdOf A g e i).dq 1 (k 1) (v 1) D0 = D1 at *
  have s2 := dq_at (hdOf A g e i) 2 (k 2) (v 2) D1 x d
  generalize (hdOf A g e i).dq 2 (k 2) (v 2) D1 = D2 at *
  have s3 := dq_at (hdOf A g e i) 3 (k 3) (v 3) D2 x d
  generalize (hdOf A g e i).dq 3 (k 3) (v 3) D2 = D3 at *
  have s4 := dq_at (hdOf A g e i) 4 (k 4) (v 4) D3 x d
  generalize (hdOf A g e i).dq 4 (k 4) (v 4) D3 = D4 at *
  obtain rfl : z = 0 := Subsingleton.elim _ _
  rw [← c_sm]
  pointwise [hdOf]
  rw [s4, s3, s2, s1, s0]
  refine congrArg (· * _) ?_
  rw [show broadcast S256x256 (Scalar.ofBits (F := Ideal) .f32 0x00000000#32) (ix2 x d) = (0 : EReal) from c_zero, zero_add]
  rfl

end Cert.KernelIdeal.Gen

end
-- ==== Proof.KI.Inv.lean ====
module

public import proofs.«01_k».proof.Proof.KI.Point

/-! The invariant of one group: what the scratch rings hold after each point. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open VecWindow Cert.Spec

/-- The slot of key block `b`. -/
def m5 (b : ℕ) : Fin 5 := ⟨b % 5, Nat.mod_lt _ (by decide)⟩

/-- Two blocks put one after the other, read at an index. -/
theorem pair_at {α : Type} (u w : S1x256x256.Idx → α) (e : Fin 2) (x d : Fin 256) :
    pair u w (ix3 e x d) = if e = 0 then u (ix3 (0 : Fin 1) x d) else w (ix3 (0 : Fin 1) x d) := by
  have h : pair u w (ix3 e x d) = if e.val = 0 then u (ix3 (0 : Fin 1) x d) else w (ix3 (0 : Fin 1) x d) := (rfl)
  rw [h]
  fin_cases e <;> rfl

/-- Each slot of the zeroed key ring is zero. -/
theorem pay1_zero (n : Fin 5) : slot (k0_pay1 (F := Ideal)) n = fun _ => (0 : EReal) := by
  have h : k0_pay1 (F := Ideal) = fun _ => (0 : EReal) := by
    funext y; simp [k0_pay1, shapeCast, broadcast, Ideal.ofBits, Ideal.e4m3fn, Ideal.ieee]
  rw [h]; rfl

/-- Each slot of the zeroed value ring is zero. -/
theorem pay2_zero (n : Fin 5) : slot (k0_pay2 (F := Ideal)) n = fun _ => (0 : EReal) := by
  have h : k0_pay2 (F := Ideal) = fun _ => (0 : EReal) := by
    funext y; simp [k0_pay2, shapeCast, broadcast, Ideal.ofBits, Ideal.e4m3fn, Ideal.ieee]
  rw [h]; rfl

/-- The fresh slot of the key-gradient ring is zero. -/
theorem pay11_zero (y) : k0_pay11 (F := Ideal) y = (0 : EReal) := by
  simp [k0_pay11, shapeCast, broadcast, Ideal.ofBits, Ideal.ieee]

/-- The fresh slot of the value-gradient ring is zero. -/
theorem pay12_zero (y) : k0_pay12 (F := Ideal) y = (0 : EReal) := by
  simp [k0_pay12, shapeCast, broadcast, Ideal.ofBits, Ideal.ieee]

/-- What the scratch rings and the block of `dq` hold after `n` points of group `g`: the last five
key and value blocks, what the query blocks so far give to their gradients, and the last query
block's gradient. -/
structure Inv (A : Ins) (g : Fin 4) (n : ℕ) (s : St Ideal) : Prop where
  k : ∀ b, b < 128 → b < n → n ≤ b + 5 → slot s.y0 (m5 b) = kblk A g b
  v : ∀ b, b < 128 → b < n → n ≤ b + 5 → slot s.y1 (m5 b) = vblk A g b
  dk : ∀ b, b < 128 → b < n → n ≤ b + 5 → ∀ (z : Fin 1) (a d : Fin 256),
    slot s.y2 (m5 b) (ix3 z a d) = (∑ i ∈ Finset.Ico b (min n 128), ∑ e, A.cdk g e i b a d : EReal)
  dv : ∀ b, b < 128 → b < n → n ≤ b + 5 → ∀ (z : Fin 1) (a d : Fin 256),
    slot s.y3 (m5 b) (ix3 z a d) = (∑ i ∈ Finset.Ico b (min n 128), ∑ e, A.cdv g e i b a d : EReal)
  z0 : ∀ q : Fin 5, n ≤ q.val → slot s.y0 q = fun _ => (0 : EReal)
  z1 : ∀ q : Fin 5, n ≤ q.val → slot s.y1 q = fun _ => (0 : EReal)
  dq : 1 ≤ n → ∀ (e : Fin 2) (x d : Fin 256),
    s.o0 (ix3 e x d) = (A.dq g e (row (min (n - 1) 127) x) d : EReal)

/-- A group starts with zeroed rings. -/
theorem Inv.zero (A : Ins) (g : Fin 4) (p) :
    Inv A g 0 (⟨k0_pay1 (F := Ideal), k0_pay2 (F := Ideal), k0_pay3 (F := Ideal), k0_pay4 (F := Ideal), p⟩ : St Ideal) :=
  ⟨fun _ _ h => absurd h (Nat.not_lt_zero _), fun _ _ h => absurd h (Nat.not_lt_zero _),
    fun _ _ h => absurd h (Nat.not_lt_zero _), fun _ _ h => absurd h (Nat.not_lt_zero _),
    fun q _ => pay1_zero q, fun q _ => pay2_zero q, fun h => absurd h (by decide)⟩

/-- A point past the last query block changes nothing. -/
theorem Inv.idle {A : Ins} {g : Fin 4} {n : ℕ} {s : St Ideal} (hn : 128 ≤ n) (h : Inv A g n s) :
    Inv A g (n + 1) s where
  k b hb _ h5 := h.k b hb (by omega) (by omega)
  v b hb _ h5 := h.v b hb (by omega) (by omega)
  dk b hb _ h5 z a d := by
    rw [h.dk b hb (by omega) (by omega), min_eq_right hn, min_eq_right (by omega)]
  dv b hb _ h5 z a d := by
    rw [h.dv b hb (by omega) (by omega), min_eq_right hn, min_eq_right (by omega)]
  z0 q hq := by have := q.isLt; omega
  z1 q hq := by have := q.isLt; omega
  dq _ e x d := by
    rw [h.dq (by omega), min_eq_right (show 127 ≤ n - 1 by omega), min_eq_right (show 127 ≤ n + 1 - 1 by omega)]

section step
variable {A : Ins} {g : Fin 4} {i : ℕ} {a : Args Ideal} {p : S2x256x256.Idx → Elt Ideal .bf16}

/-- Window place `j` of point `i` is the slot of key block `i + j - 4`. -/
theorem sl_m5 (hi : (a.i 1).val = i) {j : Fin 5} {b : ℕ} (hj : i + j.val = b + 4) : sl a.i j = m5 b := by
  refine Fin.ext ?_
  show ((a.i 1).val + 1 + j.val) % 5 = b % 5
  rw [hi]; omega

/-- The key block at window place `j`: block `i + j - 4`, or zero before the sequence begins. -/
theorem k_of (h : Inv A g i ⟨a.y0, a.y1, a.y2, a.y3, p⟩) (hi : (a.i 1).val = i) (hb : i < 128)
    (hx : a.x5 = kblk A g i) (j : Fin 5) :
    a.k j = if 4 ≤ i + j.val then kblk A g (i + j.val - 4) else fun _ => (0 : EReal) := by
  unfold Args.k
  by_cases hj : j = 4
  · subst hj
    rw [if_pos rfl, if_pos (by simp), hx]; rfl
  · rw [if_neg hj]
    have hj' : j.val < 4 := by
      have := j.isLt
      have : j.val ≠ 4 := fun e => hj (Fin.ext e)
      omega
    by_cases h4 : 4 ≤ i + j.val
    · rw [if_pos h4, sl_m5 hi (b := i + j.val - 4) (by omega)]
      exact h.k _ (by omega) (by omega) (by omega)
    · rw [if_neg h4]
      refine h.z0 _ ?_
      show i ≤ ((a.i 1).val + 1 + j.val) % 5
      rw [hi]; omega

/-- The value block at window place `j` is block `i + j - 4`, once the sequence has begun. -/
theorem v_of (h : Inv A g i ⟨a.y0, a.y1, a.y2, a.y3, p⟩) (hi : (a.i 1).val = i) (hb : i < 128)
    (hx : a.x6 = vblk A g i) (j : Fin 5) (h4 : 4 ≤ i + j.val) : a.v j = vblk A g (i + j.val - 4) := by
  unfold Args.v
  by_cases hj : j = 4
  · subst hj
    rw [if_pos rfl, hx]; rfl
  · rw [if_neg hj]
    have hj' : j.val < 4 := by
      have := j.isLt
      have : j.val ≠ 4 := fun e => hj (Fin.ext e)
      omega
    rw [sl_m5 hi (b := i + j.val - 4) (by omega)]
    exact h.v _ (by omega) (by omega) (by omega)

/-- A point that works on query block `i` keeps the invariant. -/
theorem Inv.work (c : Dev nD) (h : Inv A g i ⟨a.y0, a.y1, a.y2, a.y3, p⟩) (hi : (a.i 1).val = i) (hb : i < 128)
    (hc1 : k0_cond2 a.i = 1#1) (hx5 : a.x5 = kblk A g i) (hx6 : a.x6 = vblk A g i)
    (hh : ∀ e, a.head e = hdOf A g e i) : Inv A g (i + 1) (a.fin c p) := by
  have hk := k_of h hi hb hx5
  have hv := v_of h hi hb hx6
  have hkb : ∀ {j : Fin 5} {b : ℕ}, i + j.val = b + 4 → a.k j = kblk A g b := fun {j b} hj => by
    rw [hk j, if_pos (by omega), show i + j.val - 4 = b by omega]
  have hvb : ∀ {j : Fin 5} {b : ℕ}, i + j.val = b + 4 → a.v j = vblk A g b := fun {j b} hj => by
    rw [hv j (by omega), show i + j.val - 4 = b by omega]
  have hs : ∀ {b : ℕ} (_ : b < i + 1) (_ : i + 1 ≤ b + 5), ∃ j : Fin 5, i + j.val = b + 4 := fun {b} h1 h2 =>
    ⟨⟨b + 4 - i, by omega⟩, by show i + (b + 4 - i) = b + 4; omega⟩
  have h4 : ∀ {j : Fin 5} {b : ℕ}, i + j.val = b + 4 → (j = 4 ↔ b = i) := fun {j b} hj =>
    ⟨fun e => by subst e; simp at hj; omega, fun e => Fin.ext (by show j.val = 4; omega)⟩
  rw [Args.fin_pos c a p hc1]
  refine ⟨fun b hb' h1 h2 => ?_, fun b hb' h1 h2 => ?_, fun b hb' h1 h2 z x d => ?_,
    fun b hb' h1 h2 z x d => ?_, fun q hq => ?_, fun q hq => ?_, fun _ e x d => ?_⟩
  · obtain ⟨j, hj⟩ := hs h1 h2
    rw [← sl_m5 hi hj, ← hkb hj]
    unfold Args.k
    by_cases e : j = 4
    · subst e; rw [if_pos rfl]; exact slot_set_same ..
    · rw [if_neg e]; exact slot_set_ne _ _ _ _ (sl_ne _ e)
  · obtain ⟨j, hj⟩ := hs h1 h2
    rw [← sl_m5 hi hj, ← hvb hj]
    unfold Args.v
    by_cases e : j = 4
    · subst e; rw [if_pos rfl]; exact slot_set_same ..
    · rw [if_neg e]; exact slot_set_ne _ _ _ _ (sl_ne _ e)
  · obtain ⟨j, hj⟩ := hs h1 h2
    have hold : (if j = 4 then k0_pay11 (F := Ideal) else slot a.y2 (sl a.i j)) (ix3 z x d)
        = (∑ i ∈ Finset.Ico b i, ∑ e, A.cdk g e i b x d : EReal) := by
      by_cases e : j = 4
      · rw [if_pos e, (h4 hj).1 e, Finset.Ico_self, Finset.sum_empty]; exact pay11_zero _
      · have hbi : b < i := by have := mt (h4 hj).2 e; omega
        rw [if_neg e, sl_m5 hi hj]
        refine (h.dk b hb' hbi (by omega) z x d).trans ?_
        rw [min_eq_left (by omega)]
    refine (congrArg (fun q => slot (a.z2 c hc1) q (ix3 z x d)) (sl_m5 hi hj).symm).trans ?_
    refine (congrFun (z2_slot c a hc1 j) _).trans ?_
    rw [hkb hj, hvb hj, hh 0, hh 1, dk_of A g 1 hb hb' j.isLt hj, dk_of A g 0 hb hb' j.isLt hj, hold,
      min_eq_left (by omega), Finset.sum_Ico_succ_top (by omega), Fin.sum_univ_two, add_assoc]
  · obtain ⟨j, hj⟩ := hs h1 h2
    have hold : (if j = 4 then k0_pay12 (F := Ideal) else slot a.y3 (sl a.i j)) (ix3 z x d)
        = (∑ i ∈ Finset.Ico b i, ∑ e, A.cdv g e i b x d : EReal) := by
      by_cases e : j = 4
      · rw [if_pos e, (h4 hj).1 e, Finset.Ico_self, Finset.sum_empty]; exact pay12_zero _
      · have hbi : b < i := by have := mt (h4 hj).2 e; omega
        rw [if_neg e, sl_m5 hi hj]
        refine (h.dv b hb' hbi (by omega) z x d).trans ?_
        rw [min_eq_left (by omega)]
    refine (congrArg (fun q => slot (a.z3 c hc1) q (ix3 z x d)) (sl_m5 hi hj).symm).trans ?_
    refine (congrFun (z3_slot c a hc1 j) _).trans ?_
    rw [hkb hj, hh 0, hh 1, dv_of A g 1 hb hb' j.isLt hj, dv_of A g 0 hb hb' j.isLt hj, hold,
      min_eq_left (by omega), Finset.sum_Ico_succ_top (by omega), Fin.sum_univ_two, add_assoc]
  · refine (slot_set_ne _ _ _ _ fun e => ?_).trans (h.z0 q (by omega))
    have e := congrArg Fin.val e
    have : q.val = ((a.i 1).val + 1 + 4) % 5 := e
    rw [hi] at this; have := q.isLt; omega
  · refine (slot_set_ne _ _ _ _ fun e => ?_).trans (h.z1 q (by omega))
    have e := congrArg Fin.val e
    have : q.val = ((a.i 1).val + 1 + 4) % 5 := e
    rw [hi] at this; have := q.isLt; omega
  · refine (pair_at _ _ e x d).trans ?_
    rw [hh 0, hh 1, dqOut_of A g 0 hb a.k a.v hk hv, dqOut_of A g 1 hb a.k a.v hk hv,
      show min (i + 1 - 1) 127 = i by omega]
    fin_cases e <;> rfl
end step

end Cert.KernelIdeal.Gen

end
-- ==== Proof.KI.Args.lean ====
module

public import proofs.«01_k».proof.Proof.KI.Spec
public import Idealize.ShloMosaic.Lib.Pipeline.ValueKit

/-! The specification's inputs and results, as arrays. -/

@[expose] public section

noncomputable section

namespace Cert.Spec

open Idealize.ShloMosaic

/-- The query head of the pair `g` of query heads, `e` in the pair. -/
def qh (g : Fin 4) (e : Fin 2) : Fin 8 := ⟨g.val * 2 + e.val, by omega⟩

/-- The inputs, read at coordinates from the ten argument arrays. -/
def insOf (a0 : (⟨4, ![1, 32768, 8, 256]⟩ : Shape).Idx → EReal) (a1 : (⟨1, ![8]⟩ : Shape).Idx → EReal)
    (a2 : (⟨4, ![1, 32768, 4, 256]⟩ : Shape).Idx → EReal) (a3 : (⟨1, ![4]⟩ : Shape).Idx → EReal)
    (a4 : (⟨4, ![1, 32768, 4, 256]⟩ : Shape).Idx → EReal) (a5 : (⟨1, ![4]⟩ : Shape).Idx → EReal)
    (a6 : (⟨4, ![1, 32768, 8, 256]⟩ : Shape).Idx → EReal) (a7 : (⟨1, ![8]⟩ : Shape).Idx → EReal)
    (a8 : (⟨4, ![1, 32768, 8, 256]⟩ : Shape).Idx → EReal) (a9 : (⟨3, ![1, 8, 32768]⟩ : Shape).Idx → EReal) : Ins where
  q g e r d := a0 (ix4 (0 : Fin 1) r (qh g e) d)
  dO g e r d := a6 (ix4 (0 : Fin 1) r (qh g e) d)
  o g e r d := a8 (ix4 (0 : Fin 1) r (qh g e) d)
  k g r d := a2 (ix4 (0 : Fin 1) r g d)
  v g r d := a4 (ix4 (0 : Fin 1) r g d)
  lse g e r := a9 (ix3 (0 : Fin 1) (qh g e) r)
  qs g e := a1 (ix1 (qh g e))
  dos g e := a7 (ix1 (qh g e))
  ks g := a3 (ix1 g)
  vs g := a5 (ix1 g)

/-- The query gradients as the program returns them. -/
def RQ (A : Ins) : (⟨4, ![1, 32768, 8, 256]⟩ : Shape).Idx → EReal := fun y =>
  A.dq ⟨(y 2).val / 2, by have : (y 2).val < 8 := (y 2).isLt; omega⟩ ⟨(y 2).val % 2, by omega⟩ (y 1) (y 3)
/-- The key gradients as the program returns them. -/
def RK (A : Ins) : (⟨4, ![1, 32768, 4, 256]⟩ : Shape).Idx → EReal := fun y => A.dk (y 2) (y 1) (y 3)
/-- The value gradients as the program returns them. -/
def RV (A : Ins) : (⟨4, ![1, 32768, 4, 256]⟩ : Shape).Idx → EReal := fun y => A.dv (y 2) (y 1) (y 3)

end Cert.Spec

end
-- ==== Proof.KI.Ins.lean ====
module

public import proofs.«01_k».proof.Proof.KI.Inv
public import proofs.«01_k».proof.Proof.KI.Frame
public import proofs.«01_k».proof.Proof.KI.Args

/-! The inputs of a run of the kernel, and each block of them at coordinates. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Cert.Spec

variable (m : (ℓ : Loc nD τ sig) → Buf (Elt Ideal) ℓ)

/-- The inputs of a run of the kernel. -/
def ins (c : Dev nD) : Ins :=
  insOf (m ((c : Thread nD τ).loc main_arg0)) (m ((c : Thread nD τ).loc main_arg1)) (m ((c : Thread nD τ).loc main_arg2))
    (m ((c : Thread nD τ).loc main_arg3)) (m ((c : Thread nD τ).loc main_arg4)) (m ((c : Thread nD τ).loc main_arg5))
    (m ((c : Thread nD τ).loc main_arg6)) (m ((c : Thread nD τ).loc main_arg7)) (m ((c : Thread nD τ).loc main_arg8))
    (m ((c : Thread nD τ).loc main_arg9))

/-- The blocks of a point, in closed form. -/
theorem idx : ∀ t : Fin cfg0.N, win0_4.index t = ![t.val / 132, min (t.val % 132) 127, 0]
    ∧ win0_5.index t = ![t.val / 132, min (t.val % 132) 127, 0] ∧ win0_6.index t = ![t.val / 132, min (t.val % 132) 127, 0]
    ∧ win0_7.index t = ![t.val / 132, min (t.val % 132) 127, 0] ∧ win0_8.index t = ![t.val / 132, min (t.val % 132) 127, 0]
    ∧ win0_9.index t = ![t.val / 132, 0, min (t.val % 132) 127] ∧ win0_10.index t = ![t.val / 132, min (t.val % 132) 127, 0]
    ∧ win0_11.index t = ![t.val / 132, t.val % 132 - 4, 0] ∧ win0_12.index t = ![t.val / 132, t.val % 132 - 4, 0] :=
  (by decide +kernel : ∀ t : Fin grid0.N, _)

/-- Each window of the scales is its whole array at every point. -/
theorem idx_s : ∀ t : Fin cfg0.N, win0_0.index t = ![0] ∧ win0_1.index t = ![0] ∧ win0_2.index t = ![0] ∧ win0_3.index t = ![0] :=
  (by decide +kernel : ∀ t : Fin grid0.N, _)

variable (c : Dev nD) (t : Fin cfg0.N)

/-- The group of a point. -/
def gr : Fin 4 := ⟨t.val / 132, by have := t.isLt; have : cfg0.N = 528 := N_0; omega⟩

/-- Moving the head axis to the front, at coordinates: eight heads. -/
theorem tr8 (X : S1x32768x8x256.Idx → EReal) (h : Fin 8) (r : Fin 32768) (d : Fin 256) :
    transpose S8x32768x256 [1, 0, 2] (shapeCast S32768x8x256 X shapeCasts_S1x32768x8x256_S32768x8x256) transposes_S32768x8x256_S8x32768x256_1_0_2 (ix3 h r d) = X (ix4 (0 : Fin 1) r h d) := by
  pointwise
/-- The same for four heads. -/
theorem tr4 (X : S1x32768x4x256.Idx → EReal) (h : Fin 4) (r : Fin 32768) (d : Fin 256) :
    transpose S4x32768x256 [1, 0, 2] (shapeCast S32768x4x256 X shapeCasts_S1x32768x4x256_S32768x4x256) transposes_S32768x4x256_S4x32768x256_1_0_2 (ix3 h r d) = X (ix4 (0 : Fin 1) r h d) := by
  pointwise
/-- The rows of the log-sum-exp in pairs of heads, at coordinates. -/
theorem rs9 (X : S1x8x32768.Idx → EReal) (g : Fin 4) (e : Fin 2) (r : Fin 32768) :
    shapeCast S4x2x32768 X shapeCasts_S1x8x32768_S4x2x32768 (ix3 g e r) = X (ix3 (0 : Fin 1) (qh g e) r) := by
  pointwise
  refine congrArg X ?_
  blk_ext [qh]

/-- Operand `main_v1` of the region at coordinates. -/
theorem v1_at (h : Fin 8) (r : Fin 32768) (d : Fin 256) :
    V m c main_v1 (ix3 h r d) = m ((c : Thread nD τ).loc main_arg0) (ix4 (0 : Fin 1) r h d) := by
  have e : V m c main_v1 = transpose S8x32768x256 [1, 0, 2] (shapeCast S32768x8x256 (m ((c : Thread nD τ).loc main_arg0)) shapeCasts_S1x32768x8x256_S32768x8x256) transposes_S32768x8x256_S8x32768x256_1_0_2 := by
    show StableHlo.after hostOps0 _ _ = _
    after_results
    rfl
  exact (congrFun e _).trans (tr8 _ h r d)

/-- Operand `main_v3` of the region at coordinates. -/
theorem v3_at (h : Fin 4) (r : Fin 32768) (d : Fin 256) :
    V m c main_v3 (ix3 h r d) = m ((c : Thread nD τ).loc main_arg2) (ix4 (0 : Fin 1) r h d) := by
  have e : V m c main_v3 = transpose S4x32768x256 [1, 0, 2] (shapeCast S32768x4x256 (m ((c : Thread nD τ).loc main_arg2)) shapeCasts_S1x32768x4x256_S32768x4x256) transposes_S32768x4x256_S4x32768x256_1_0_2 := by
    show StableHlo.after hostOps0 _ _ = _
    after_results
    rfl
  exact (congrFun e _).trans (tr4 _ h r d)

/-- Operand `main_v5` of the region at coordinates. -/
theorem v5_at (h : Fin 4) (r : Fin 32768) (d : Fin 256) :
    V m c main_v5 (ix3 h r d) = m ((c : Thread nD τ).loc main_arg4) (ix4 (0 : Fin 1) r h d) := by
  have e : V m c main_v5 = transpose S4x32768x256 [1, 0, 2] (shapeCast S32768x4x256 (m ((c : Thread nD τ).loc main_arg4)) shapeCasts_S1x32768x4x256_S32768x4x256) transposes_S32768x4x256_S4x32768x256_1_0_2 := by
    show StableHlo.after hostOps0 _ _ = _
    after_results
    rfl
  exact (congrFun e _).trans (tr4 _ h r d)

/-- Operand `main_v7` of the region at coordinates. -/
theorem v7_at (h : Fin 8) (r : Fin 32768) (d : Fin 256) :
    V m c main_v7 (ix3 h r d) = m ((c : Thread nD τ).loc main_arg6) (ix4 (0 : Fin 1) r h d) := by
  have e : V m c main_v7 = transpose S8x32768x256 [1, 0, 2] (shapeCast S32768x8x256 (m ((c : Thread nD τ).loc main_arg6)) shapeCasts_S1x32768x8x256_S32768x8x256) transposes_S32768x8x256_S8x32768x256_1_0_2 := by
    show StableHlo.after hostOps0 _ _ = _
    after_results
    rfl
  exact (congrFun e _).trans (tr8 _ h r d)

/-- Operand `main_v9` of the region at coordinates. -/
theorem v9_at (h : Fin 8) (r : Fin 32768) (d : Fin 256) :
    V m c main_v9 (ix3 h r d) = m ((c : Thread nD τ).loc main_arg8) (ix4 (0 : Fin 1) r h d) := by
  have e : V m c main_v9 = transpose S8x32768x256 [1, 0, 2] (shapeCast S32768x8x256 (m ((c : Thread nD τ).loc main_arg8)) shapeCasts_S1x32768x8x256_S32768x8x256) transposes_S32768x8x256_S8x32768x256_1_0_2 := by
    show StableHlo.after hostOps0 _ _ = _
    after_results
    rfl
  exact (congrFun e _).trans (tr8 _ h r d)

/-- Operand `main_v10` of the region at coordinates. -/
theorem v10_at (g : Fin 4) (e : Fin 2) (r : Fin 32768) :
    V m c main_v10 (ix3 g e r) = m ((c : Thread nD τ).loc main_arg9) (ix3 (0 : Fin 1) (qh g e) r) := by
  have e' : V m c main_v10 = shapeCast S4x2x32768 (m ((c : Thread nD τ).loc main_arg9)) shapeCasts_S1x8x32768_S4x2x32768 := by
    show StableHlo.after hostOps0 _ _ = _
    after_results
    rfl
  exact (congrFun e' _).trans (rs9 _ g e r)

/-- The first window holds the query scales. -/
theorem x0_at (y : S8.Idx) : iblk m c 0 t y = m ((c : Thread nD τ).loc main_arg1) y := by
  blk_point [iblk, V, idx_s t]

/-- The second window holds the key scales. -/
theorem x1_at (y : S4.Idx) : iblk m c 1 t y = m ((c : Thread nD τ).loc main_arg3) y := by
  blk_point [iblk, V, idx_s t]

/-- The third window holds the value scales. -/
theorem x2_at (y : S4.Idx) : iblk m c 2 t y = m ((c : Thread nD τ).loc main_arg5) y := by
  blk_point [iblk, V, idx_s t]

/-- The fourth window holds the scales of the output gradients. -/
theorem x3_at (y : S8.Idx) : iblk m c 3 t y = m ((c : Thread nD τ).loc main_arg7) y := by
  blk_point [iblk, V, idx_s t]

/-- A query block holds the rows of the point's queries. -/
theorem x4_at (h : t.val % 132 < 128) (e : Fin 2) (x d : Fin 256) :
    iblk m c 4 t (ix3 e x d) = (ins m c).q (gr t) e (row (t.val % 132) x) d := by
  have hr := row_val h x
  refine Eq.trans ?_ (v1_at m c (qh (gr t) e) (row (t.val % 132) x) d)
  have hq : (qh (gr t) e).val = t.val / 132 * 2 + e.val := rfl
  generalize row (t.val % 132) x = r at *
  generalize qh (gr t) e = h' at *
  show V m c main_v1 ((win0_4.blk t).view.emb (ix3 e x d)) = _
  refine congrArg _ ?_
  blk_ext [idx t]

/-- A block of output gradients holds the rows of the point's output gradients. -/
theorem x7_at (h : t.val % 132 < 128) (e : Fin 2) (x d : Fin 256) :
    iblk m c 7 t (ix3 e x d) = (ins m c).dO (gr t) e (row (t.val % 132) x) d := by
  have hr := row_val h x
  refine Eq.trans ?_ (v7_at m c (qh (gr t) e) (row (t.val % 132) x) d)
  have hq : (qh (gr t) e).val = t.val / 132 * 2 + e.val := rfl
  generalize row (t.val % 132) x = r at *
  generalize qh (gr t) e = h' at *
  show V m c main_v7 ((win0_7.blk t).view.emb (ix3 e x d)) = _
  refine congrArg _ ?_
  blk_ext [idx t]

/-- A block of outputs holds the rows of the point's outputs. -/
theorem x8_at (h : t.val % 132 < 128) (e : Fin 2) (x d : Fin 256) :
    iblk m c 8 t (ix3 e x d) = (ins m c).o (gr t) e (row (t.val % 132) x) d := by
  have hr := row_val h x
  refine Eq.trans ?_ (v9_at m c (qh (gr t) e) (row (t.val % 132) x) d)
  have hq : (qh (gr t) e).val = t.val / 132 * 2 + e.val := rfl
  generalize row (t.val % 132) x = r at *
  generalize qh (gr t) e = h' at *
  show V m c main_v9 ((win0_8.blk t).view.emb (ix3 e x d)) = _
  refine congrArg _ ?_
  blk_ext [idx t]

/-- A key block holds the rows of the point's keys. -/
theorem x5_at (h : t.val % 132 < 128) (z : Fin 1) (x d : Fin 256) :
    iblk m c 5 t (ix3 z x d) = (ins m c).k (gr t) (row (t.val % 132) x) d := by
  have hr := row_val h x
  refine Eq.trans ?_ (v3_at m c (gr t) (row (t.val % 132) x) d)
  have hq : (gr t).val = t.val / 132 := rfl
  generalize row (t.val % 132) x = r at *
  generalize gr t = h' at *
  show V m c main_v3 ((win0_5.blk t).view.emb (ix3 z x d)) = _
  refine congrArg _ ?_
  blk_ext [idx t]

/-- A value block holds the rows of the point's values. -/
theorem x6_at (h : t.val % 132 < 128) (z : Fin 1) (x d : Fin 256) :
    iblk m c 6 t (ix3 z x d) = (ins m c).v (gr t) (row (t.val % 132) x) d := by
  have hr := row_val h x
  refine Eq.trans ?_ (v5_at m c (gr t) (row (t.val % 132) x) d)
  have hq : (gr t).val = t.val / 132 := rfl
  generalize row (t.val % 132) x = r at *
  generalize gr t = h' at *
  show V m c main_v5 ((win0_6.blk t).view.emb (ix3 z x d)) = _
  refine congrArg _ ?_
  blk_ext [idx t]

/-- A block of log-sum-exps holds the point's rows. -/
theorem x9_at (h : t.val % 132 < 128) (z : Fin 1) (e : Fin 2) (x : Fin 256) :
    iblk m c 9 t (ix3 z e x) = (ins m c).lse (gr t) e (row (t.val % 132) x) := by
  have hr := row_val h x
  refine Eq.trans ?_ (v10_at m c (gr t) e (row (t.val % 132) x))
  have hq : (gr t).val = t.val / 132 := rfl
  generalize row (t.val % 132) x = r at *
  generalize gr t = h' at *
  show V m c main_v10 ((win0_9.blk t).view.emb (ix3 z e x)) = _
  refine congrArg _ ?_
  blk_ext [idx t]

end Cert.KernelIdeal.Gen

end
-- ==== Proof.KI.Arr.lean ====
module

public import proofs.«01_k».proof.Proof.KI.Ins

/-! What the region leaves in its three result arrays. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Cert.Spec

variable (m : (ℓ : Loc nD τ sig) → Buf (Elt Ideal) ℓ) (c : Dev nD)

/-- A point's first coordinate is its key head. -/
theorem co0 (t : Fin cfg0.N) : (grid0.coords t 0).val = t.val / 132 := by
  have h : (grid0.coords t 0).val = t.val / 132 % 4 := Pipeline.Grid.coords_val t 0 (by decide) rfl
  have := t.isLt; have : cfg0.N = 528 := N_0
  omega
/-- A point's second coordinate is its place in the sequence of its key head. -/
theorem co1 (t : Fin cfg0.N) : (grid0.coords t 1).val = t.val % 132 := by
  have h : (grid0.coords t 1).val = t.val / 1 % 132 := Pipeline.Grid.coords_val t 1 (by decide) rfl
  omega

/-- What a point brings to a head is the specification's. -/
theorem pt_head (t : Fin cfg0.N) (h : t.val % 132 < 128) (y0 y1 y2 y3) (e : Fin 2) :
    (pt m c t y0 y1 y2 y3).head e = hdOf (ins m c) (gr t) e (t.val % 132) := by
  have h0 : (qh (gr t) e).val = t.val / 132 * 2 + e.val := rfl
  have hc := co0 t
  unfold Args.head hdOf
  rw [Hd.mk.injEq]
  refine ⟨funext fun y => x4_at m c t h e (y 1) (y 2), funext fun y => x7_at m c t h e (y 1) (y 2), funext fun y => x8_at m c t h e (y 1) (y 2),
    funext fun y => x9_at m c t h 0 e (y 2), ?_, ?_, ?_, ?_⟩
  · refine (x0_at m c t _).trans (congrArg (fun q => m ((c : Thread nD τ).loc main_arg1) (ix1 q)) (Fin.ext ?_))
    show (grid0.coords t 0).val * 2 + e.val = _
    rw [hc, h0]
  · refine (x3_at m c t _).trans (congrArg (fun q => m ((c : Thread nD τ).loc main_arg7) (ix1 q)) (Fin.ext ?_))
    show (grid0.coords t 0).val * 2 + e.val = _
    rw [hc, h0]
  · exact (x1_at m c t _).trans (congrArg (fun q => m ((c : Thread nD τ).loc main_arg3) (ix1 q)) (Fin.ext hc))
  · exact (x2_at m c t _).trans (congrArg (fun q => m ((c : Thread nD τ).loc main_arg5) (ix1 q)) (Fin.ext hc))

/-- The rings are zeroed at the first point of each key head. -/
theorem cond0_dec : ∀ t : Fin cfg0.N, cond0 (grid0.coords t) ↔ t.val % 132 = 0 :=
  (by decide +kernel : ∀ t : Fin grid0.N, _)

/-- One point keeps the invariant of its group. -/
theorem inv_step (t : Fin cfg0.N) (h : Inv (ins m c) (gr t) (t.val % 132) (stIn t (stAt m c t.val))) (ho : (stIn t (stAt m c t.val)).o0 = (stAt m c t.val).o0) :
    Inv (ins m c) (gr t) (t.val % 132 + 1) (stAt m c (t.val + 1)) := by
  rw [stAt_succ]; unfold step
  rw [← ho]
  by_cases hb : t.val % 132 < 128
  · exact Inv.work c h (co1 t) hb ((cond2_dec t).2 hb) (funext fun y => (congrArg _ (eq_ix3 y)).trans (x5_at m c t hb (y 0) (y 1) (y 2)))
      (funext fun y => (congrArg _ (eq_ix3 y)).trans (x6_at m c t hb (y 0) (y 1) (y 2))) (pt_head m c t hb _ _ _ _)
  · rw [Args.fin_neg c (pt m c t _ _ _ _) _ (mt (cond2_dec t).1 hb)]
    exact Inv.idle (by omega) h

/-- The invariant holds after every point. -/
theorem inv_all : ∀ (n : ℕ) (hn : n < cfg0.N), Inv (ins m c) (gr ⟨n, hn⟩) (n % 132 + 1) (stAt m c (n + 1)) := by
  intro n
  induction n with
  | zero =>
    intro hn
    refine inv_step m c ⟨0, hn⟩ ?_ ?_ <;> unfold stIn <;> rw [if_pos ((cond0_dec ⟨0, hn⟩).2 rfl)]
    exact Inv.zero _ _ _
  | succ n ih =>
    intro hn
    by_cases h : (n + 1) % 132 = 0
    · refine inv_step m c ⟨n + 1, hn⟩ ?_ ?_ <;> unfold stIn <;> rw [if_pos ((cond0_dec ⟨n + 1, hn⟩).2 h)]
      show Inv _ _ ((n + 1) % 132) _
      rw [h]; exact Inv.zero _ _ _
    · refine inv_step m c ⟨n + 1, hn⟩ ?_ ?_ <;> unfold stIn <;> rw [if_neg (mt (cond0_dec ⟨n + 1, hn⟩).1 h)]
      have i := ih (by omega)
      have hg : gr ⟨n, by omega⟩ = gr ⟨n + 1, hn⟩ := Fin.ext (show n / 132 = (n + 1) / 132 by omega)
      show Inv _ _ ((n + 1) % 132) _
      rw [← hg, show (n + 1) % 132 = n % 132 + 1 by omega]
      exact i

/-- The key gradient written out is the accumulator, unchanged in exact arithmetic. -/
theorem pay7_at (X : S1x256x256.Idx → EReal) (z : Fin 1) (a d : Fin 256) : k0_pay7 (F := Ideal) X (ix3 z a d) = X (ix3 z a d) := by
  fin_cases z
  pointwise [k0_pay7]
/-- The value gradient written out is the accumulator, unchanged in exact arithmetic. -/
theorem pay8_at (X : S1x256x256.Idx → EReal) (z : Fin 1) (a d : Fin 256) : k0_pay8 (F := Ideal) X (ix3 z a d) = X (ix3 z a d) := by
  fin_cases z
  pointwise [k0_pay8]

/-- A block of key gradients leaves for its array only from a key head's fifth point on. -/
theorem flush11 : ∀ t : Fin cfg0.N, (cfg0.win 11).flush t = true → 4 ≤ t.val % 132 :=
  (by decide +kernel : ∀ t : Fin grid0.N, _)
/-- A block of value gradients leaves for its array only from a key head's fifth point on. -/
theorem flush12 : ∀ t : Fin cfg0.N, (cfg0.win 12).flush t = true → 4 ≤ t.val % 132 :=
  (by decide +kernel : ∀ t : Fin grid0.N, _)

/-- The query gradients, head axis first. -/
def DQ (A : Ins) : S8x32768x256.Idx → EReal := fun y =>
  A.dq ⟨(y 0).val / 2, by have : (y 0).val < 8 := (y 0).isLt; omega⟩ ⟨(y 0).val % 2, by omega⟩ (y 1) (y 2)
/-- The key gradients, head axis first. -/
def DK (A : Ins) : S4x32768x256.Idx → EReal := fun y => A.dk (y 0) (y 1) (y 2)
/-- The value gradients, head axis first. -/
def DV (A : Ins) : S4x32768x256.Idx → EReal := fun y => A.dv (y 0) (y 1) (y 2)

/-- The region's first result. -/
theorem arr10 : (dats m 0 c).arrAt 10 (cfgs 0).N = DQ (ins m c) := by
  refine (dats m 0 c).arrAt_eq_of_covers 10 _ (by decide +kernel) fun t hf y => ?_
  blk_simp
  rw [after0_10]
  obtain ⟨e, x, d, rfl⟩ : ∃ (e : Fin 2) (x d : Fin 256), y = ix3 e x d := ⟨y 0, y 1, y 2, eq_ix3 y⟩
  refine ((inv_all m c t.val t.isLt).dq (by omega) e x d).trans ?_
  have hr := row_val (b := min (t.val % 132 + 1 - 1) 127) (by omega) x
  have hg : (gr t).val = t.val / 132 := rfl
  generalize row (min (t.val % 132 + 1 - 1) 127) x = r at *
  have hy : (win0_10.blk t).view.emb (ix3 e x d) = ix3 (qh (gr t) e) r d := by
    have hq : (qh (gr t) e).val = (gr t).val * 2 + e.val := rfl
    generalize qh (gr t) e = h' at *
    blk_ext [idx t]
  show _ = DQ (ins m c) ((win0_10.blk t).view.emb (ix3 e x d))
  rw [hy]
  show _ = (ins m c).dq _ _ r d
  have h1 : (⟨((gr t).val * 2 + e.val) / 2, by omega⟩ : Fin 4) = gr t := Fin.ext (by show ((gr t).val * 2 + e.val) / 2 = _; omega)
  have h2 : (⟨((gr t).val * 2 + e.val) % 2, by omega⟩ : Fin 2) = e := Fin.ext (by show ((gr t).val * 2 + e.val) % 2 = _; omega)
  exact (congrArg₂ (fun g e => (ins m c).dq g e r d) h1 h2).symm

/-- The region's second result. -/
theorem arr11 (hA : (ins m c).Ok) : (dats m 0 c).arrAt 11 (cfgs 0).N = DK (ins m c) := by
  refine (dats m 0 c).arrAt_eq_of_covers 11 _ (by decide +kernel) fun t hf y => ?_
  blk_simp
  rw [after0_11]
  have hf := flush11 t hf
  obtain ⟨z, x, d, rfl⟩ : ∃ (z : Fin 1) (x d : Fin 256), y = ix3 z x d := ⟨y 0, y 1, y 2, eq_ix3 y⟩
  have hb : t.val % 132 - 4 < 128 := by omega
  have hs : sl (grid0.coords t) 0 = m5 (t.val % 132 - 4) := Fin.ext (by
    show ((grid0.coords t 1).val + 1 + 0) % 5 = (t.val % 132 - 4) % 5
    rw [co1]; omega)
  have hr := row_val hb x
  have hy : (win0_11.blk t).view.emb (ix3 z x d) = ix3 (gr t) (row (t.val % 132 - 4) x) d := by
    have hg : (gr t).val = t.val / 132 := rfl
    generalize row (t.val % 132 - 4) x = r at *
    generalize gr t = h' at *
    blk_ext [idx t]
  show _ = DK (ins m c) ((win0_11.blk t).view.emb (ix3 z x d))
  rw [hy, hs]
  refine (pay7_at _ z x d).trans (((inv_all m c t.val t.isLt).dk (t.val % 132 - 4) hb (by omega) (by omega) z x d).trans ?_)
  rw [show t.val % 132 + 1 = t.val % 132 - 4 + 5 by omega]
  exact (dk_blocks (ins m c) hA (gr t) hb x d).symm

/-- The region's third result. -/
theorem arr12 (hA : (ins m c).Ok) : (dats m 0 c).arrAt 12 (cfgs 0).N = DV (ins m c) := by
  refine (dats m 0 c).arrAt_eq_of_covers 12 _ (by decide +kernel) fun t hf y => ?_
  blk_simp
  rw [after0_12]
  have hf := flush12 t hf
  obtain ⟨z, x, d, rfl⟩ : ∃ (z : Fin 1) (x d : Fin 256), y = ix3 z x d := ⟨y 0, y 1, y 2, eq_ix3 y⟩
  have hb : t.val % 132 - 4 < 128 := by omega
  have hs : sl (grid0.coords t) 0 = m5 (t.val % 132 - 4) := Fin.ext (by
    show ((grid0.coords t 1).val + 1 + 0) % 5 = (t.val % 132 - 4) % 5
    rw [co1]; omega)
  have hr := row_val hb x
  have hy : (win0_12.blk t).view.emb (ix3 z x d) = ix3 (gr t) (row (t.val % 132 - 4) x) d := by
    have hg : (gr t).val = t.val / 132 := rfl
    generalize row (t.val % 132 - 4) x = r at *
    generalize gr t = h' at *
    blk_ext [idx t]
  show _ = DV (ins m c) ((win0_12.blk t).view.emb (ix3 z x d))
  rw [hy, hs]
  refine (pay8_at _ z x d).trans (((inv_all m c t.val t.isLt).dv (t.val % 132 - 4) hb (by omega) (by omega) z x d).trans ?_)
  rw [show t.val % 132 + 1 = t.val % 132 - 4 + 5 by omega]
  exact (dv_blocks (ins m c) hA (gr t) hb x d).symm

end Cert.KernelIdeal.Gen

end
-- ==== Proof.KI.Run.lean ====
module

public import proofs.«01_k».proof.Proof.KI.Arr

/-! The run of the kernel over the extended reals, with its three results. -/

@[expose] public section

set_option maxRecDepth 16384

noncomputable section

namespace Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

open Cert.Spec

/-- The last host lines move the head axis back: eight heads. -/
theorem back8 (X : S8x32768x256.Idx → EReal) :
    broadcastInDim S1x32768x8x256 ![1, 2, 3] bcast_S32768x8x256_S1x32768x8x256_1_2_3 (transpose S32768x8x256 [1, 0, 2] X transposes_S8x32768x256_S32768x8x256_1_0_2)
      = fun y => X (ix3 (y 2) (y 1) (y 3)) := by
  funext y
  pointwise
/-- The same for four heads. -/
theorem back4 (X : S4x32768x256.Idx → EReal) :
    broadcastInDim S1x32768x4x256 ![1, 2, 3] bcast_S32768x4x256_S1x32768x4x256_1_2_3 (transpose S32768x4x256 [1, 0, 2] X transposes_S4x32768x256_S32768x4x256_1_0_2)
      = fun y => X (ix3 (y 2) (y 1) (y 3)) := by
  funext y
  pointwise

variable (m : (ℓ : Loc nD τ sig) → Buf (Elt Ideal) ℓ) (ρ : Dev nD → PrngReg) (c : Dev nD)

/-- The contents when the region is left. -/
abbrev exitV : Valuation τ sig (Elt Ideal) :=
  Pipeline.withArrays spec0 c (V0 m c) fun w => (dats m 0 c).arrAt w cfg0.N

/-- The region's first result with its head axis moved back. -/
theorem RQ_of (A : Ins) (X : S8x32768x256.Idx → EReal) (h : X = DQ A) :
    broadcastInDim S1x32768x8x256 ![1, 2, 3] bcast_S32768x8x256_S1x32768x8x256_1_2_3 (transpose S32768x8x256 [1, 0, 2] X transposes_S8x32768x256_S32768x8x256_1_0_2) = RQ A := by
  rw [back8, h]; funext y; unfold DQ RQ; rfl
/-- The second. -/
theorem RK_of (A : Ins) (X : S4x32768x256.Idx → EReal) (h : X = DK A) :
    broadcastInDim S1x32768x4x256 ![1, 2, 3] bcast_S32768x4x256_S1x32768x4x256_1_2_3 (transpose S32768x4x256 [1, 0, 2] X transposes_S4x32768x256_S32768x4x256_1_0_2) = RK A := by
  rw [back4, h]; funext y; unfold DK RK; rfl
/-- The third. -/
theorem RV_of (A : Ins) (X : S4x32768x256.Idx → EReal) (h : X = DV A) :
    broadcastInDim S1x32768x4x256 ![1, 2, 3] bcast_S32768x4x256_S1x32768x4x256_1_2_3 (transpose S32768x4x256 [1, 0, 2] X transposes_S4x32768x256_S32768x4x256_1_0_2) = RV A := by
  rw [back4, h]; funext y; unfold DV RV; rfl

/-- The first result is the query gradients. -/
theorem fin13 : Pipeline.afterTail₀ cfgs (dats m) 0 (V0 m) [hostOps1] c main_v13 = RQ (ins m c) := by
  have e : StableHlo.after hostOps1 (exitV m c) (Proc.devRef .tc main_v13) = broadcastInDim S1x32768x8x256 ![1, 2, 3] bcast_S32768x8x256_S1x32768x8x256_1_2_3 (transpose S32768x8x256 [1, 0, 2] (exitV m c (Proc.devRef .tc main_v11_0)) transposes_S8x32768x256_S32768x8x256_1_0_2) := by
    generalize exitV m c = U
    after_results
  have e' : exitV m c (Proc.devRef .tc main_v11_0) = DQ (ins m c) :=
    (Pipeline.withArrays_arr spec0 launch0.win.arr_inj c (V0 m c) _ 10).trans (arr10 m c)
  exact e.trans (RQ_of _ _ e')

/-- The second result is the key gradients. -/
theorem fin15 (hA : (ins m c).Ok) : Pipeline.afterTail₀ cfgs (dats m) 0 (V0 m) [hostOps1] c main_v15 = RK (ins m c) := by
  have e : StableHlo.after hostOps1 (exitV m c) (Proc.devRef .tc main_v15) = broadcastInDim S1x32768x4x256 ![1, 2, 3] bcast_S32768x4x256_S1x32768x4x256_1_2_3 (transpose S32768x4x256 [1, 0, 2] (exitV m c (Proc.devRef .tc main_v11_1)) transposes_S4x32768x256_S32768x4x256_1_0_2) := by
    generalize exitV m c = U
    after_results
  have e' : exitV m c (Proc.devRef .tc main_v11_1) = DK (ins m c) :=
    (Pipeline.withArrays_arr spec0 launch0.win.arr_inj c (V0 m c) _ 11).trans (arr11 m c hA)
  exact e.trans (RK_of _ _ e')

/-- The third result is the value gradients. -/
theorem fin17 (hA : (ins m c).Ok) : Pipeline.afterTail₀ cfgs (dats m) 0 (V0 m) [hostOps1] c main_v17 = RV (ins m c) := by
  have e : StableHlo.after hostOps1 (exitV m c) (Proc.devRef .tc main_v17) = broadcastInDim S1x32768x4x256 ![1, 2, 3] bcast_S32768x4x256_S1x32768x4x256_1_2_3 (transpose S32768x4x256 [1, 0, 2] (exitV m c (Proc.devRef .tc main_v11_2)) transposes_S4x32768x256_S32768x4x256_1_0_2) := by
    generalize exitV m c = U
    after_results
  have e' : exitV m c (Proc.devRef .tc main_v11_2) = DV (ins m c) :=
    (Pipeline.withArrays_arr spec0 launch0.win.arr_inj c (V0 m c) _ 12).trans (arr12 m c hA)
  exact e.trans (RV_of _ _ e')

/-- A run of the kernel, over the extended reals, ends with the three gradients of the specification in its results and its
arguments as they were. -/
theorem run (hA : ∀ c, (ins m c).Ok) :
    θ_run defs (onTc (τ := τ) (main (F := Ideal))) ⟨m, fun _ => 0, ρ⟩ fun r => ∀ c : Dev nD,
      r.2.mem ((c : Thread nD τ).loc main_v13) = RQ (ins m c)
      ∧ r.2.mem ((c : Thread nD τ).loc main_v15) = RK (ins m c)
      ∧ r.2.mem ((c : Thread nD τ).loc main_v17) = RV (ins m c)
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3)
      ∧ r.2.mem ((c : Thread nD τ).loc main_arg4) = m ((c : Thread nD τ).loc main_arg4)
      ∧ r.2.mem ((c : Thread nD τ).loc main_arg5) = m ((c : Thread nD τ).loc main_arg5)
      ∧ r.2.mem ((c : Thread nD τ).loc main_arg6) = m ((c : Thread nD τ).loc main_arg6)
      ∧ r.2.mem ((c : Thread nD τ).loc main_arg7) = m ((c : Thread nD τ).loc main_arg7)
      ∧ r.2.mem ((c : Thread nD τ).loc main_arg8) = m ((c : Thread nD τ).loc main_arg8)
      ∧ r.2.mem ((c : Thread nD τ).loc main_arg9) = m ((c : Thread nD τ).loc main_arg9) :=
  (θ_run defs _ _).mono (fun r h c =>
    ⟨((h.1 c).2 main_v13 (Pipeline.mem_restRefs_of main_v13 (by decide) (by decide))).trans (fin13 m c),
      ((h.1 c).2 main_v15 (Pipeline.mem_restRefs_of main_v15 (by decide) (by decide))).trans (fin15 m c (hA c)),
      ((h.1 c).2 main_v17 (Pipeline.mem_restRefs_of main_v17 (by decide) (by decide))).trans (fin17 m c (hA c)),
      h.2 c⟩)
    (θ_run_and (run_main m ρ) (frame_of m ρ (dats m) (A_eq m) (run_main m ρ)))

end Cert.KernelIdeal.Gen

end
-- ==== Proof.RI.Val.lean ====
module

public import proofs.«01_k».proof.Proof.Gen.ReferenceIdeal.Run
public import proofs.«01_k».proof.Proof.KI.Args
public import Idealize.ShloMosaic.Lib.WordCmp
public import Idealize.ShloMosaic.Lib.Claim

/-! The reference's results, over the extended reals, are the gradients of the specification. -/

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.Tactic
open Cert.Spec

variable (U : Valuation τ sig (Elt Ideal))

/-- The inputs, as the later operations find them. -/
def insU : Ins :=
  insOf (U (Proc.devRef .tc main_v0_0)) (U (Proc.devRef .tc main_arg1)) (U (Proc.devRef .tc main_v0_1)) (U (Proc.devRef .tc main_arg3))
    (U (Proc.devRef .tc main_v0_2)) (U (Proc.devRef .tc main_arg5)) (U (Proc.devRef .tc main_v0_3)) (U (Proc.devRef .tc main_arg7))
    (U (Proc.devRef .tc main_arg8)) (U (Proc.devRef .tc main_arg9))

/-- The queries, grouped by key head. -/
theorem v1_at (r : Fin 32768) (g : Fin 4) (e : Fin 2) (d : Fin 256) :
    res_main_v1 U (ix5 (0 : Fin 1) r g e d) = (insU U).q g e r d := by
  show _ = (U (Proc.devRef .tc main_v0_0) : S1x32768x8x256.Idx → EReal) (ix4 (0 : Fin 1) r (qh g e) d)
  obtain ⟨X, hX⟩ : ∃ X : S1x32768x8x256.Idx → EReal, U (Proc.devRef .tc main_v0_0) = X := ⟨_, rfl⟩
  unfold res_main_v1
  rw [hX]
  pointwise
  refine congrArg X ?_
  blk_ext [qh]

/-- The output gradients, grouped by key head. -/
theorem v2_at (r : Fin 32768) (g : Fin 4) (e : Fin 2) (d : Fin 256) :
    res_main_v2 U (ix5 (0 : Fin 1) r g e d) = (insU U).dO g e r d := by
  show _ = (U (Proc.devRef .tc main_v0_3) : S1x32768x8x256.Idx → EReal) (ix4 (0 : Fin 1) r (qh g e) d)
  obtain ⟨X, hX⟩ : ∃ X : S1x32768x8x256.Idx → EReal, U (Proc.devRef .tc main_v0_3) = X := ⟨_, rfl⟩
  unfold res_main_v2
  rw [hX]
  pointwise
  refine congrArg X ?_
  blk_ext [qh]

/-- The query scales, grouped by key head. -/
theorem v3_at (g : Fin 4) (e : Fin 2) : res_main_v3 U (ix2 g e) = (insU U).qs g e := by
  show _ = (U (Proc.devRef .tc main_arg1) : S8.Idx → EReal) (ix1 (qh g e))
  obtain ⟨X, hX⟩ : ∃ X : S8.Idx → EReal, U (Proc.devRef .tc main_arg1) = X := ⟨_, rfl⟩
  unfold res_main_v3
  rw [hX]
  pointwise
  refine congrArg X ?_
  blk_ext [qh]

/-- The scales of the output gradients, grouped by key head. -/
theorem v4_at (g : Fin 4) (e : Fin 2) : res_main_v4 U (ix2 g e) = (insU U).dos g e := by
  show _ = (U (Proc.devRef .tc main_arg7) : S8.Idx → EReal) (ix1 (qh g e))
  obtain ⟨X, hX⟩ : ∃ X : S8.Idx → EReal, U (Proc.devRef .tc main_arg7) = X := ⟨_, rfl⟩
  unfold res_main_v4
  rw [hX]
  pointwise
  refine congrArg X ?_
  blk_ext [qh]

/-- The printed softmax scale is one sixteenth. -/
theorem c_sm : (Ideal.ofBits .f32 0x3D800000#32) = sm := by
  unfold sm; simp [Ideal.ofBits, Ideal.ieee, -EReal.coe_mul]; norm_num
/-- The printed one is one. -/
theorem c_one : (Ideal.ofBits .f32 0x3F800000#32) = 1 := by
  simp [Ideal.ofBits, Ideal.ieee, -EReal.coe_mul]; norm_num
/-- The printed softcap is five. -/
theorem c_five : (Ideal.ofBits .f32 0x40A00000#32) = ((5 : ℝ) : EReal) := by
  simp [Ideal.ofBits, Ideal.ieee, -EReal.coe_mul]; norm_num
/-- The printed zero is zero. -/
theorem c_zero : (Ideal.ofBits .f32 0x00000000#32) = 0 := by
  simp [Ideal.ofBits, Ideal.ieee, -EReal.coe_mul]

/-- The key scales times the softmax scale. -/
theorem v6_at (g : Fin 4) : res_main_v6 U (ix1 g) = (insU U).ks g * sm := by
  obtain ⟨X, hX⟩ : ∃ X : S4.Idx → EReal, U (Proc.devRef .tc main_arg3) = X := ⟨_, rfl⟩
  rw [show (insU U).ks g = X (ix1 g) from congrFun hX _]
  unfold res_main_v6
  rw [hX]
  pointwise
  rw [c_sm]

/-- Dividing by five is multiplying by one fifth. -/
theorem div_five (x : EReal) : Ideal.div x ((5 : ℝ) : EReal) = x * fifth := by
  rw [Ideal.div_coe (by norm_num : (5 : ℝ) ≠ 0)]
  unfold fifth
  norm_num

/-- The reference's hyperbolic tangent at a query row and a key row is the specification's. -/
theorem v42_at (g : Fin 4) (e : Fin 2) (r s : Fin 32768) :
    res_main_v42 U (ix5 (0 : Fin 1) g e r s) = (insU U).th g e r s := by
  have h1 := v1_at U; have h3 := v3_at U; have h6 := v6_at U
  obtain ⟨X, hX⟩ : ∃ X : S1x32768x4x256.Idx → EReal, U (Proc.devRef .tc main_v0_1) = X := ⟨_, rfl⟩
  have hk : ∀ s g d, X (ix4 (0 : Fin 1) s g d) = (insU U).k g s d := fun _ _ _ => (congrFun hX _).symm
  unfold res_main_v42
  rw [hX]
  generalize insU U = A at *
  generalize res_main_v1 U = Q at *
  generalize res_main_v3 U = S at *
  generalize res_main_v6 U = T at *
  clear hX
  pointwise
  rw [c_five, div_five]
  unfold Ins.th
  simp only [hk, h1, h3, h6]
  rw [mul_assoc]

/-- The lower bound of the window, on 32-bit numbers. -/
theorem low_iff (r s : Fin 32768) :
    IntOp.cmpi .sgt (BitVec.ofNat 32 s.val) (IntOp.subi (BitVec.ofNat 32 r.val) 1024#32) = 1#1 ↔ r.val < s.val + 1024 := by
  have hr := r.isLt; have hs := s.isLt
  have h1 : (BitVec.ofNat 32 s.val).toInt = s.val := by
    rw [BitVec.toInt_ofNat', Int.bmod_eq_of_le] <;> simp <;> omega
  have h2 : (BitVec.ofNat 32 r.val - 1024#32).toInt = r.val - 1024 := by
    rw [BitVec.toInt_sub, BitVec.toInt_ofNat', show (1024#32).toInt = 1024 from rfl, Int.bmod_eq_of_le (n := r.val), Int.bmod_eq_of_le] <;> simp <;> omega
  show BitVec.ofBool (BitVec.slt (BitVec.ofNat 32 r.val - 1024#32) (BitVec.ofNat 32 s.val)) = 1#1 ↔ _
  rw [WordCmp.ofBool_eq_one_iff, BitVec.slt_iff_toInt_lt, h1, h2]
  omega

/-- The upper bound of the window, on 32-bit numbers. -/
theorem up_iff (r s : Fin 32768) :
    IntOp.cmpi .sle (BitVec.ofNat 32 s.val) (BitVec.ofNat 32 r.val) = 1#1 ↔ s.val ≤ r.val := by
  have hr := r.isLt; have hs := s.isLt
  rw [WordCmp.cmpi_sle_ofNat (by omega) (by omega), WordCmp.ofBool_eq_one_iff, decide_eq_true_iff]

/-- The conjunction of two bits is one just where both are. -/
theorem andi_one_iff : ∀ a b : BitVec 1, IntOp.andi a b = 1#1 ↔ a = 1#1 ∧ b = 1#1 := by decide

/-- The reference's masked probability is the specification's. -/
theorem v49_at (g : Fin 4) (e : Fin 2) (r s : Fin 32768) :
    res_main_v49 U (ix5 (0 : Fin 1) g e r s) = (insU U).p g e r s := by
  have h1 := v42_at U
  obtain ⟨X, hX⟩ : ∃ X : S1x8x32768.Idx → EReal, U (Proc.devRef .tc main_arg9) = X := ⟨_, rfl⟩
  have hk : ∀ (g : Fin 4) (e : Fin 2) (h : g.val * 2 + e.val < 8) r, X (ix3 (0 : Fin 1) ⟨g.val * 2 + e.val, h⟩ r) = (insU U).lse g e r := fun _ _ _ _ => (congrFun hX _).symm
  unfold res_main_v49
  rw [hX]
  generalize insU U = A at *
  generalize res_main_v42 U = Q at *
  clear hX
  pointwise [res_main_v22, res_main_v24]
  unfold Ins.p
  rw [h1, hk, c_five, show id (constant (F := Ideal) S_ FTy.f32 0#32) ix0 = (0 : EReal) from c_zero, show ((5 : ℝ) : EReal) = 5 from rfl]
  show (if _ = 1#1 then _ else _) = _
  exact if_congr ((andi_one_iff _ _).trans (and_congr (low_iff r s) (up_iff r s))) rfl rfl

/-- The reference's gradient of the score is the specification's. -/
theorem v65_at (hA : (insU U).Ok) (g : Fin 4) (e : Fin 2) (r s : Fin 32768) :
    res_main_v65 U (ix5 (0 : Fin 1) g e r s) = (insU U).ds g e r s := by
  have h1 := v42_at U; have h2 := v49_at U; have h3 := v2_at U; have h4 := v4_at U
  obtain ⟨V, hV⟩ : ∃ X : S1x32768x4x256.Idx → EReal, U (Proc.devRef .tc main_v0_2) = X := ⟨_, rfl⟩
  obtain ⟨D, hD⟩ : ∃ X : S1x32768x8x256.Idx → EReal, U (Proc.devRef .tc main_v0_3) = X := ⟨_, rfl⟩
  obtain ⟨O, hO⟩ : ∃ X : S1x32768x8x256.Idx → EReal, U (Proc.devRef .tc main_arg8) = X := ⟨_, rfl⟩
  obtain ⟨VS, hVS⟩ : ∃ X : S4.Idx → EReal, U (Proc.devRef .tc main_arg5) = X := ⟨_, rfl⟩
  obtain ⟨DS, hDS⟩ : ∃ X : S8.Idx → EReal, U (Proc.devRef .tc main_arg7) = X := ⟨_, rfl⟩
  have kV : ∀ s g d, V (ix4 (0 : Fin 1) s g d) = (insU U).v g s d := fun _ _ _ => (congrFun hV _).symm
  have kD : ∀ (g : Fin 4) (e : Fin 2) (h : g.val * 2 + e.val < 8) r d, D (ix4 (0 : Fin 1) r ⟨g.val * 2 + e.val, h⟩ d) = (insU U).dO g e r d := fun _ _ _ _ _ => (congrFun hD _).symm
  have kO : ∀ (g : Fin 4) (e : Fin 2) (h : g.val * 2 + e.val < 8) r d, O (ix4 (0 : Fin 1) r ⟨g.val * 2 + e.val, h⟩ d) = (insU U).o g e r d := fun _ _ _ _ _ => (congrFun hO _).symm
  have kVS : ∀ g, VS (ix1 g) = (insU U).vs g := fun _ => (congrFun hVS _).symm
  have kDS : ∀ (g : Fin 4) (e : Fin 2) (h : g.val * 2 + e.val < 8), DS (ix1 ⟨g.val * 2 + e.val, h⟩) = (insU U).dos g e := fun _ _ _ => (congrFun hDS _).symm
  unfold res_main_v65
  rw [hV, hD, hO, hVS, hDS]
  generalize insU U = A at *
  generalize res_main_v42 U = T at *
  generalize res_main_v49 U = P at *
  generalize res_main_v2 U = E at *
  generalize res_main_v4 U = S at *
  clear hV hD hO hVS hDS
  pointwise
  simp only [h1, h2, h3, h4, kV, kD, kO, kVS, kDS, c_one]
  unfold Ins.ds Ins.delta
  rw [sum_mul_nn _ _ (hA.dos0 g e) (hA.dos1 g e)]
  refine congrArg (fun q => A.p g e r s * ((∑ x, A.v g s x * A.dO g e r x) * (A.dos g e * A.vs g) - q) * (1 - A.th g e r s * A.th g e r s)) ?_
  exact Finset.sum_congr rfl fun x _ => mul_right_comm _ _ _

/-- Result `main_v93` is the specification's. -/
theorem v93_eq (hA : (insU U).Ok) : truncf .bf16 (shapeCast S1x32768x8x256 (mulf (transpose S1x32768x4x2x256 [0, 4, 1, 3, 2] (Host.dotGeneral dot_S1x32768x4x256_S1x4x2x32768x32768_S1x4x256x2x32768_1_4_3_23_02_01 none (truncf .bf16 (U (Proc.devRef .tc main_v0_1)) bitsLt_bf16_f32) (truncf .bf16 (res_main_v65 U) bitsLt_bf16_f32)) transposes_S1x4x256x2x32768_S1x32768x4x2x256_0_4_1_3_2) (broadcastInDim S1x32768x4x2x256 ![0, 1, 2, 3, 4] bcast_S1x1x4x1x1_S1x32768x4x2x256_0_1_2_3_4 (broadcastInDim S1x1x4x1x1 ![2, 3, 4] bcast_S4x1x1_S1x1x4x1x1_2_3_4 (broadcastInDim S4x1x1 ![0] bcast_S4_S4x1x1_0 (res_main_v6 U))))) shapeCasts_S1x32768x4x2x256_S1x32768x8x256) bitsLt_bf16_f32 = RQ (insU U) := by
  have h1 := v1_at U; have h2 := v2_at U; have h3 := v3_at U; have h4 := v4_at U; have h6 := v6_at U
  have h7 := v49_at U; have h8 := v65_at U hA
  obtain ⟨X, hX⟩ : ∃ X : S1x32768x4x256.Idx → EReal, U (Proc.devRef .tc main_v0_1) = X := ⟨_, rfl⟩
  have hk : ∀ s g d, X (ix4 (0 : Fin 1) s g d) = (insU U).k g s d := fun _ _ _ => (congrFun hX _).symm
  rw [hX]
  generalize insU U = A at *
  generalize res_main_v1 U = W1 at *
  generalize res_main_v2 U = W2 at *
  generalize res_main_v3 U = W3 at *
  generalize res_main_v4 U = W4 at *
  generalize res_main_v6 U = W6 at *
  generalize res_main_v49 U = P at *
  generalize res_main_v65 U = D at *
  clear hX
  funext y
  obtain ⟨z, r, h, d, rfl⟩ : ∃ (z : Fin 1) (r : Fin 32768) (h : Fin 8) (d : Fin 256), y = ix4 z r h d := ⟨y 0, y 1, y 2, y 3, eq_ix4 y⟩
  obtain rfl : z = 0 := Subsingleton.elim _ _
  pointwise
  simp only [hk, h6, h8, mul_comm (A.k _ _ _)]
  rfl

/-- Result `main_v95` is the specification's. -/
theorem v95_eq (hA : (insU U).Ok) : truncf .bf16 (Host.reduceAdd (mulf (transpose S1x32768x4x2x256 [0, 4, 1, 2, 3] (Host.dotGeneral dot_S1x32768x4x2x256_S1x4x2x32768x32768_S1x4x2x256x32768_1_3_4_4_023_012 none (truncf .bf16 (res_main_v1 U) bitsLt_bf16_f32) (truncf .bf16 (res_main_v65 U) bitsLt_bf16_f32)) transposes_S1x4x2x256x32768_S1x32768x4x2x256_0_4_1_2_3) (broadcastInDim S1x32768x4x2x256 ![0, 1, 2, 3, 4] bcast_S1x1x4x2x1_S1x32768x4x2x256_0_1_2_3_4 (broadcastInDim S1x1x4x2x1 ![2, 3, 4] bcast_S4x2x1_S1x1x4x2x1_2_3_4 (broadcastInDim S4x2x1 ![0, 1] bcast_S4x2_S4x2x1_0_1 (mulf (res_main_v3 U) (broadcastInDim S4x2 ![] bcast_S_S4x2 (constant S_ .f32 0x3D800000#32))))))) (constant S_ .f32 0x00000000#32) reducesTo_S1x32768x4x2x256_S1x32768x4x256_d3 h_S_) bitsLt_bf16_f32 = RK (insU U) := by
  have h1 := v1_at U; have h2 := v2_at U; have h3 := v3_at U; have h4 := v4_at U; have h6 := v6_at U
  have h7 := v49_at U; have h8 := v65_at U hA
  generalize insU U = A at *
  generalize res_main_v1 U = W1 at *
  generalize res_main_v2 U = W2 at *
  generalize res_main_v3 U = W3 at *
  generalize res_main_v4 U = W4 at *
  generalize res_main_v6 U = W6 at *
  generalize res_main_v49 U = P at *
  generalize res_main_v65 U = D at *
  funext y
  obtain ⟨z, r, h, d, rfl⟩ : ∃ (z : Fin 1) (r : Fin 32768) (h : Fin 4) (d : Fin 256), y = ix4 z r h d := ⟨y 0, y 1, y 2, y 3, eq_ix4 y⟩
  obtain rfl : z = 0 := Subsingleton.elim _ _
  pointwise
  simp only [h1, h3, h8, c_sm, mul_comm (A.q _ _ _ _)]
  rfl

/-- Result `main_v97` is the specification's. -/
theorem v97_eq (hA : (insU U).Ok) : truncf .bf16 (Host.reduceAdd (mulf (transpose S1x32768x4x2x256 [0, 4, 1, 2, 3] (Host.dotGeneral dot_S1x32768x4x2x256_S1x4x2x32768x32768_S1x4x2x256x32768_1_3_4_4_023_012 none (truncf .bf16 (res_main_v2 U) bitsLt_bf16_f32) (truncf .bf16 (res_main_v49 U) bitsLt_bf16_f32)) transposes_S1x4x2x256x32768_S1x32768x4x2x256_0_4_1_2_3) (broadcastInDim S1x32768x4x2x256 ![0, 1, 2, 3, 4] bcast_S1x1x4x2x1_S1x32768x4x2x256_0_1_2_3_4 (broadcastInDim S1x1x4x2x1 ![2, 3, 4] bcast_S4x2x1_S1x1x4x2x1_2_3_4 (broadcastInDim S4x2x1 ![0, 1] bcast_S4x2_S4x2x1_0_1 (res_main_v4 U))))) (constant S_ .f32 0x00000000#32) reducesTo_S1x32768x4x2x256_S1x32768x4x256_d3 h_S_) bitsLt_bf16_f32 = RV (insU U) := by
  have h1 := v1_at U; have h2 := v2_at U; have h3 := v3_at U; have h4 := v4_at U; have h6 := v6_at U
  have h7 := v49_at U; have h8 := v65_at U hA
  generalize insU U = A at *
  generalize res_main_v1 U = W1 at *
  generalize res_main_v2 U = W2 at *
  generalize res_main_v3 U = W3 at *
  generalize res_main_v4 U = W4 at *
  generalize res_main_v6 U = W6 at *
  generalize res_main_v49 U = P at *
  generalize res_main_v65 U = D at *
  funext y
  obtain ⟨z, r, h, d, rfl⟩ : ∃ (z : Fin 1) (r : Fin 32768) (h : Fin 4) (d : Fin 256), y = ix4 z r h d := ⟨y 0, y 1, y 2, y 3, eq_ix4 y⟩
  obtain rfl : z = 0 := Subsingleton.elim _ _
  pointwise
  simp only [h2, h4, h7, mul_comm (A.dO _ _ _ _)]
  rfl

end Cert.ReferenceIdeal.Value

end
-- ==== Proof.RI.Run.lean ====
module

public import proofs.«01_k».proof.Proof.RI.Val

/-! The run of the reference over the extended reals, with its three results. -/

@[expose] public section

set_option maxRecDepth 16384

noncomputable section

namespace Cert.ReferenceIdeal.Value

open Cert.ReferenceIdeal Cert.ReferenceIdeal.Gen Idealize.ShloMosaic Idealize.ShloMosaic.TcCoe Idealize.SL.Sem Idealize.ShloMosaic.Tactic
open Cert.Spec

variable (m : (ℓ : Loc nD τ sig) → Buf (Elt Ideal) ℓ) (ρ : Dev nD → PrngReg) (c : Dev nD)

/-- Every window of the one point is its whole array. -/
theorem idx (t : Fin grid0.N) : win0_0.index t = ![0, 0, 0, 0] ∧ win0_1.index t = ![0, 0, 0, 0] ∧ win0_2.index t = ![0, 0, 0, 0] ∧ win0_3.index t = ![0, 0, 0, 0]
    ∧ win0_4.index t = ![0, 0, 0, 0] ∧ win0_5.index t = ![0, 0, 0, 0] ∧ win0_6.index t = ![0, 0, 0, 0] ∧ win0_7.index t = ![0, 0, 0, 0] :=
  (by decide +kernel : ∀ t : Fin grid0.N, win0_0.index t = ![0, 0, 0, 0] ∧ win0_1.index t = ![0, 0, 0, 0] ∧ win0_2.index t = ![0, 0, 0, 0] ∧ win0_3.index t = ![0, 0, 0, 0] ∧ win0_4.index t = ![0, 0, 0, 0] ∧ win0_5.index t = ![0, 0, 0, 0] ∧ win0_6.index t = ![0, 0, 0, 0] ∧ win0_7.index t = ![0, 0, 0, 0]) t

/-- The region widens argument `main_arg0`: over the extended reals, it copies it. -/
theorem reg0 : (Gen.dats m 0 c).arrAt 4 cfg0.N = k0_pay1 (m ((c.tc : Thread nD τ).loc main_arg0)) := by
  refine (Gen.dats m 0 c).arrAt_eq_of_after_last 4 t0_0 (by decide +kernel) _ fun j => ?_
  blk_simp
  rw [after0_4]
  frame_out
  blk_point [iblk, V, idx t0_0]

/-- The region widens argument `main_arg2`: over the extended reals, it copies it. -/
theorem reg1 : (Gen.dats m 0 c).arrAt 5 cfg0.N = k0_pay2 (m ((c.tc : Thread nD τ).loc main_arg2)) := by
  refine (Gen.dats m 0 c).arrAt_eq_of_after_last 5 t0_0 (by decide +kernel) _ fun j => ?_
  blk_simp
  rw [after0_5]
  frame_out
  blk_point [iblk, V, idx t0_0]

/-- The region widens argument `main_arg4`: over the extended reals, it copies it. -/
theorem reg2 : (Gen.dats m 0 c).arrAt 6 cfg0.N = k0_pay3 (m ((c.tc : Thread nD τ).loc main_arg4)) := by
  refine (Gen.dats m 0 c).arrAt_eq_of_after_last 6 t0_0 (by decide +kernel) _ fun j => ?_
  blk_simp
  rw [after0_6]
  frame_out
  blk_point [iblk, V, idx t0_0]

/-- The region widens argument `main_arg6`: over the extended reals, it copies it. -/
theorem reg3 : (Gen.dats m 0 c).arrAt 7 cfg0.N = k0_pay4 (m ((c.tc : Thread nD τ).loc main_arg6)) := by
  refine (Gen.dats m 0 c).arrAt_eq_of_after_last 7 t0_0 (by decide +kernel) _ fun j => ?_
  blk_simp
  rw [after0_7]
  frame_out
  blk_point [iblk, V, idx t0_0]

/-- The reference's inputs are the arguments. -/
theorem insU_exit : insU (exitV m c) =
    insOf (m ((c.tc : Thread nD τ).loc main_arg0)) (m ((c.tc : Thread nD τ).loc main_arg1)) (m ((c.tc : Thread nD τ).loc main_arg2))
      (m ((c.tc : Thread nD τ).loc main_arg3)) (m ((c.tc : Thread nD τ).loc main_arg4)) (m ((c.tc : Thread nD τ).loc main_arg5))
      (m ((c.tc : Thread nD τ).loc main_arg6)) (m ((c.tc : Thread nD τ).loc main_arg7)) (m ((c.tc : Thread nD τ).loc main_arg8))
      (m ((c.tc : Thread nD τ).loc main_arg9)) := by
  have e0 := (exit_main_v0_0 m c).trans (reg0 m c)
  have e1 := (exit_main_v0_1 m c).trans (reg1 m c)
  have e2 := (exit_main_v0_2 m c).trans (reg2 m c)
  have e3 := (exit_main_v0_3 m c).trans (reg3 m c)
  unfold insU
  rw [e0, e1, e2, e3, exit_main_arg1, exit_main_arg3, exit_main_arg5, exit_main_arg7, exit_main_arg8, exit_main_arg9]
  rfl

end Cert.ReferenceIdeal.Value

end
-- ==== Proof.RI.Pre.lean ====
module

public import proofs.«01_k».proof.Defs
public import proofs.«01_k».proof.Proof.Gen.Pre_scales_ok
public import proofs.«01_k».proof.Proof.KI.Args
public import Idealize.ShloMosaic.Lib.Pointwise.Select
public import Idealize.ShloMosaic.Lib.Pipeline.ValueKit
public import Idealize.ShloMosaic.Lib.ReduceAll
public import Idealize.ShloMosaic.Lib.Affine

/-! The precondition, element by element: both scales are nonnegative and finite. -/

@[expose] public section

noncomputable section

namespace Cert.Pre_scales_ok

open Idealize.ShloMosaic Cert.Spec

/-- The bit of "nonnegative and below infinity" is one just where the value is. -/
theorem bit (x : EReal) (h : IntOp.andi (Ideal.cmp .oge x (FloatOps.ofBits (F := Ideal) .f32 0x00000000#32)) (Ideal.cmp .olt x (FloatOps.ofBits (F := Ideal) .f32 0x7F800000#32)) = 1#1) :
    0 ≤ x ∧ x ≠ ⊤ := by
  obtain ⟨h0, h1⟩ := IntOp.andi_eq_one.1 h
  have e0 : (FloatOps.ofBits (F := Ideal) .f32 0x00000000#32 : EReal) = 0 := by pointwise
  exact ⟨e0 ▸ (Ideal.cmp_oge_eq_one _ _).1 h0, ne_top_of_lt ((Ideal.cmp_olt_eq_one _ _).1 h1)⟩

/-- Where the precondition holds, each of the two scales of `qh g e` is nonnegative and finite. -/
theorem ok_of (a0 : S1x32768x8x256.Idx → EReal) (a1 : S8.Idx → EReal) (a2 : S1x32768x4x256.Idx → EReal) (a3 : S4.Idx → EReal)
    (a4 : S1x32768x4x256.Idx → EReal) (a5 : S4.Idx → EReal) (a6 : S1x32768x8x256.Idx → EReal) (a7 : S8.Idx → EReal)
    (a8 : S1x32768x8x256.Idx → EReal) (a9 : S1x8x32768.Idx → EReal)
    (h : fn (F := Ideal) a0 a1 a2 a3 a4 a5 a6 a7 a8 a9 = fun _ => 1#1) :
    (insOf a0 a1 a2 a3 a4 a5 a6 a7 a8 a9).Ok := by
  have e := congrFun h (fun i => i.elim0)
  obtain ⟨e1, e7⟩ := IntOp.andi_eq_one.1 e
  have : Subsingleton S_.Idx := ⟨fun a b => funext fun i => i.elim0⟩
  have b1 : ∀ i, 0 ≤ a1 i ∧ a1 i ≠ ⊤ := fun i => bit _ (Host.reduce_andi_all _ _ _ _ _ e1 i)
  have b7 : ∀ i, 0 ≤ a7 i ∧ a7 i ≠ ⊤ := fun i => bit _ (Host.reduce_andi_all _ _ _ _ _ e7 i)
  exact ⟨fun g e => (b1 _).1, fun g e => (b1 _).2, fun g e => (b7 _).1, fun g e => (b7 _).2⟩

end Cert.Pre_scales_ok

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Skeleton
public import proofs.«01_k».proof.Proof.Gen.ReferenceIdeal.Launch
public import proofs.«01_k».proof.Proof.Gen.ReferenceIdeal.Points
public import proofs.«01_k».proof.Proof.Gen.ReferenceIdeal.Frame
public import proofs.«01_k».proof.Proof.K.Frame
public import proofs.«01_k».proof.Proof.KI.Frame
public import proofs.«01_k».proof.Proof.Gen.Pre_scales_ok
public import proofs.«01_k».proof.Proof.Gen.ReferenceIdeal.Run
public import proofs.«01_k».proof.Proof.KI.Run
public import proofs.«01_k».proof.Proof.RI.Run
public import proofs.«01_k».proof.Proof.RI.Pre
public import Idealize.ShloMosaic.Adequacy
public import Idealize.ShloMosaic.Init

@[expose] public section

noncomputable section

namespace Cert.Proof

open Idealize.ShloMosaic Idealize.SL.Sem Cert.Kernel

/-- The three named constants denote the values the certificate's table gives them. -/
theorem preserves : Cert.preserves_Kernel_KernelIdeal :=
  ⟨IdealRules.named_const.statement Cert.KernelIdeal.κ "inv_softcap" .f32 0x3E4CCCCD#32 ((5⁻¹ : ℝ) : EReal) rfl,
    IdealRules.named_const.statement Cert.KernelIdeal.κ "log2e" .f32 0x3FB8AA3B#32 (((Real.log 2)⁻¹ : ℝ) : EReal) rfl,
    IdealRules.named_const.statement Cert.KernelIdeal.κ "softcap_log2e" .f32 0x40E6D4CA#32 ((5 * (Real.log 2)⁻¹ : ℝ) : EReal) rfl⟩

/-- From arguments that agree, and scales of the queries and of the output gradients that are nonnegative and finite,
    the kernel and the reference each end with the same three arrays: the gradients of the queries, keys and values. -/
theorem algebraic : Cert.algebraic_KernelIdeal_ReferenceIdeal_pre_scales_ok := by
  intro m g m' g' hpre hm
  have hA : ∀ c, (Cert.KernelIdeal.Gen.ins m c).Ok := fun c => Cert.Pre_scales_ok.ok_of _ _ _ _ _ _ _ _ _ _ (hpre c)
  have hI : ∀ c, Cert.ReferenceIdeal.Value.insU (Cert.ReferenceIdeal.Value.exitV m' c) = Cert.KernelIdeal.Gen.ins m c := fun c => by
    obtain ⟨h0, h1, h2, h3, h4, h5, h6, h7, h8, h9⟩ := hm c
    rw [Cert.ReferenceIdeal.Value.insU_exit, h0, h1, h2, h3, h4, h5, h6, h7, h8, h9]
    rfl
  have hB : ∀ c, (Cert.ReferenceIdeal.Value.insU (Cert.ReferenceIdeal.Value.exitV m' c)).Ok := fun c => (hI c).symm ▸ hA c
  refine ⟨fun c => Cert.Spec.RQ (Cert.KernelIdeal.Gen.ins m c), fun c => Cert.Spec.RK (Cert.KernelIdeal.Gen.ins m c),
    fun c => Cert.Spec.RV (Cert.KernelIdeal.Gen.ins m c), Cert.KernelIdeal.Gen.run m g hA,
    (θ_run _ _ _).mono (fun _ h c => ⟨(h c).1.trans ?_, (h c).2.1.trans ?_, (h c).2.2.1.trans ?_, (h c).2.2.2⟩)
      (Cert.ReferenceIdeal.Value.run m' g')⟩
  · exact (Cert.ReferenceIdeal.Value.v93_eq _ (hB c)).trans (congrArg Cert.Spec.RQ (hI c))
  · exact (Cert.ReferenceIdeal.Value.v95_eq _ (hB c)).trans (congrArg Cert.Spec.RK (hI c))
  · exact (Cert.ReferenceIdeal.Value.v97_eq _ (hB c)).trans (congrArg Cert.Spec.RV (hI c))

/-- The certificate: the frames of the three programs, `preserves` and `algebraic`. -/
theorem claim : Cert.Claim :=
  ⟨Cert.Kernel.Gen.facts, Cert.KernelIdeal.Gen.facts, Cert.ReferenceIdeal.Gen.facts, Cert.Pre_scales_ok.Gen.facts,
    fun m ρ _ => Cert.Kernel.Gen.frameT m ρ, fun m ρ _ => Cert.KernelIdeal.Gen.frameT m ρ, fun m ρ _ => Cert.KernelIdeal.Gen.frameT m ρ,
    fun m ρ _ => Cert.ReferenceIdeal.Gen.frame m ρ, fun m ρ _ => Cert.ReferenceIdeal.Gen.frame m ρ, preserves, algebraic⟩

end Cert.Proof

end
